-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame_KernelIdeal [hPre_inputs_tame_KernelIdeal : Cert.Pre_inputs_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame_ReferenceIdeal [hPre_inputs_tame_ReferenceIdeal : Cert.Pre_inputs_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_tame_KernelIdeal [hKernelIdeal : Cert.KernelIdeal.Facts] [hPre_inputs_tame_KernelIdeal : Cert.Pre_inputs_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_tame_ReferenceIdeal [hReferenceIdeal : Cert.ReferenceIdeal.Facts] [hPre_inputs_tame_ReferenceIdeal : Cert.Pre_inputs_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_inputs_tame_KernelIdeal [hKernelIdeal : Cert.KernelIdeal.Facts] [hReferenceIdeal : Cert.ReferenceIdeal.Facts] [hPre_inputs_tame_KernelIdeal : Cert.Pre_inputs_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![512, 16, 8, 128]⟩ ⟨4, ![1024, 16, 8, 128]⟩ (Layout.meshBlock [2, 2] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![512, 16, 8, 128]⟩ ⟨4, ![1024, 16, 8, 128]⟩ (Layout.meshBlock [2, 2] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_tame_KernelIdeal : Cert.Pre_inputs_tame_KernelIdeal.Facts) (hPre_inputs_tame_ReferenceIdeal : Cert.Pre_inputs_tame_ReferenceIdeal.Facts),
    quiescent_Kernel (hKernel := hKernel)
    ∧ quiescent_KernelIdeal (hKernelIdeal := hKernelIdeal)
    ∧ quiescent_KernelIdeal_pre_inputs_tame_KernelIdeal (hKernelIdeal := hKernelIdeal) (hPre_inputs_tame_KernelIdeal := hPre_inputs_tame_KernelIdeal)
    ∧ quiescent_ReferenceIdeal (hReferenceIdeal := hReferenceIdeal)
    ∧ quiescent_ReferenceIdeal_pre_inputs_tame_ReferenceIdeal (hReferenceIdeal := hReferenceIdeal) (hPre_inputs_tame_ReferenceIdeal := hPre_inputs_tame_ReferenceIdeal)
    ∧ preserves_Kernel_KernelIdeal
    ∧ algebraic_KernelIdeal_ReferenceIdeal_pre_inputs_tame_KernelIdeal (hKernelIdeal := hKernelIdeal) (hReferenceIdeal := hReferenceIdeal) (hPre_inputs_tame_KernelIdeal := hPre_inputs_tame_KernelIdeal)
-- ==== Pre_inputs_tame_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S512x16x8x128 : S_.BroadcastsInDim S512x16x8x128 (![] : Fin 0 → Fin S512x16x8x128.rank)
  reducesTo_S512x16x8x128_S_d0_1_2_3 : S512x16x8x128.ReducesTo [0, 1, 2, 3] S_
  bcast_S_S8x512 : S_.BroadcastsInDim S8x512 (![] : Fin 0 → Fin S8x512.rank)
  reducesTo_S8x512_S_d0_1 : S8x512.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v12 : IVec S_ 1) (main_v13 : IVec S8x512 1) (main_v15 : IVec S8x512 1) (main_v17 : IVec S8x512 1) : IVec S_ 1 :=
  let main_v18 : IVec S8x512 1 := andi main_v15 main_v17
  let main_v19 : IVec S8x512 1 := ori main_v13 main_v18
  let main_c_4 : IVec S_ 1 := constantI S_ 1 1#1
  let main_v20 : IVec S_ 1 := (fun x v => Host.reduce IntOp.andi x v reducesTo_S8x512_S_d0_1 h_S_) main_v19 main_c_4
  let main_v21 : IVec S_ 1 := andi main_v12 main_v20
  let main_c_5 : IVec S_ 32 := constantI S_ 32 1#32
  let main_v22 : IVec S8 32 := broadcastInDim S8 ![] bcast_S_S8 main_c_5
  let main_v23 : IVec S8 1 := cmpi .sge main_arg4 main_v22
  let main_c_6 : IVec S_ 1 := constantI S_ 1 1#1
  let main_v24 : IVec S_ 1 := (fun x v => Host.reduce IntOp.andi x v reducesTo_S8_S_d0 h_S_) main_v23 main_c_6
  let main_v25 : IVec S_ 1 := andi main_v21 main_v24
  main_v25

def fn {F : FTy → Type} [FloatOps F] (main_arg0 : FVec F S8x1x8x128 .bf16) (main_arg1 : FVec F S512x16x8x128 .bf16) (main_arg2 : FVec F S512x16x8x128 .bf16) (main_arg3 : IVec S8x512 32) (main_arg4 : IVec S8 32) : IVec S_ 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .slt main_v0 main_v2
  let main_v4 : FVec F S8x1x8x128 .bf16 := Host.absf main_arg0
  let main_cst : FVec F S_ .bf16 := constant S_ .bf16 0x7F80#16
  let main_v5 : FVec F S8x1x8x128 .bf16 := broadcastInDim S8x1x8x128 ![] bcast_S_S8x1x8x128 main_cst
  let main_v6 : IVec S8x1x8x128 1 := cmpf .olt main_v4 main_v5
  let main_c : IVec S_ 1 := constantI S_ 1 1#1
  let main_v7 : IVec S_ 1 := (fun x v => Host.reduce IntOp.andi x v reducesTo_S8x1x8x128_S_d0_1_2_3 h_S_) main_v6 main_c
  let main_v8 : FVec F S512x16x8x128 .bf16 := Host.absf main_arg1
  let main_cst_0 : FVec F S_ .bf16 := constant S_ .bf16 0x7F80#16
  let main_v9 : FVec F S512x16x8x128 .bf16 := broadcastInDim S512x16x8x128 ![] bcast_S_S512x16x8x128 main_cst_0
  let main_v10 : IVec S512x16x8x128 1 := cmpf .olt main_v8 main_v9
  let main_c_1 : IVec S_ 1 := constantI S_ 1 1#1
  let main_v11 : IVec S_ 1 := (fun x v => Host.reduce IntOp.andi x v reducesTo_S512x16x8x128_S_d0_1_2_3 h_S_) main_v10 main_c_1
  let main_v12 : IVec S_ 1 := andi main_v7 main_v11
  let main_v13 : IVec S8x512 1 := noti main_v3
  let main_c_2 : IVec S_ 32 := constantI S_ 32 0#32
  let main_v14 : IVec S8x512 32 := broadcastInDim S8x512 ![] bcast_S_S8x512 main_c_2
  let main_v15 : IVec S8x512 1 := cmpi .sge main_arg3 main_v14
  let main_c_3 : IVec S_ 32 := constantI S_ 32 1024#32
  let main_v16 : IVec S8x512 32 := broadcastInDim S8x512 ![] bcast_S_S8x512 main_c_3
  let main_v17 : IVec S8x512 1 := cmpi .slt main_arg3 main_v16
  fn_part1 (F := F) main_arg4 main_v12 main_v13 main_v15 main_v17
-- ==== Pre_inputs_tame_ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S8x1 : Shape := ⟨2, ![8, 1]⟩
abbrev S_ : Shape := ⟨0, ![]⟩

class Facts : Prop where
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S1024x16x8x128 : S_.BroadcastsInDim S1024x16x8x128 (![] : Fin 0 → Fin S1024x16x8x128.rank)
  reducesTo_S1024x16x8x128_S_d0_1_2_3 : S1024x16x8x128.ReducesTo [0, 1, 2, 3] S_
  bcast_S_S8x512 : S_.BroadcastsInDim S8x512 (![] : Fin 0 → Fin S8x512.rank)
  reducesTo_S8x512_S_d0_1 : S8x512.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v12 : IVec S_ 1) (main_v13 : IVec S8x512 1) (main_v15 : IVec S8x512 1) (main_v17 : IVec S8x512 1) : IVec S_ 1 :=
  let main_v18 : IVec S8x512 1 := andi main_v15 main_v17
  let main_v19 : IVec S8x512 1 := ori main_v13 main_v18
  let main_c_4 : IVec S_ 1 := constantI S_ 1 1#1
  let main_v20 : IVec S_ 1 := (fun x v => Host.reduce IntOp.andi x v reducesTo_S8x512_S_d0_1 h_S_) main_v19 main_c_4
  let main_v21 : IVec S_ 1 := andi main_v12 main_v20
  let main_c_5 : IVec S_ 32 := constantI S_ 32 1#32
  let main_v22 : IVec S8 32 := broadcastInDim S8 ![] bcast_S_S8 main_c_5
  let main_v23 : IVec S8 1 := cmpi .sge main_arg4 main_v22
  let main_c_6 : IVec S_ 1 := constantI S_ 1 1#1
  let main_v24 : IVec S_ 1 := (fun x v => Host.reduce IntOp.andi x v reducesTo_S8_S_d0 h_S_) main_v23 main_c_6
  let main_v25 : IVec S_ 1 := andi main_v21 main_v24
  main_v25

def fn {F : FTy → Type} [FloatOps F] (main_arg0 : FVec F S8x1x8x128 .bf16) (main_arg1 : FVec F S1024x16x8x128 .bf16) (main_arg2 : FVec F S1024x16x8x128 .bf16) (main_arg3 : IVec S8x512 32) (main_arg4 : IVec S8 32) : IVec S_ 1 :=
  let main_v0 : IVec S8x512 32 := iotaInDim S8x512 32 1
  let main_v1 : IVec S8x1 32 := broadcastInDim S8x1 ![0] bcast_S8_S8x1_0 main_arg4
  let main_v2 : IVec S8x512 32 := broadcastInDim S8x512 ![0, 1] bcast_S8x1_S8x512_0_1 main_v1
  let main_v3 : IVec S8x512 1 := cmpi .slt main_v0 main_v2
  let main_v4 : FVec F S8x1x8x128 .bf16 := Host.absf main_arg0
  let main_cst : FVec F S_ .bf16 := constant S_ .bf16 0x7F80#16
  let main_v5 : FVec F S8x1x8x128 .bf16 := broadcastInDim S8x1x8x128 ![] bcast_S_S8x1x8x128 main_cst
  let main_v6 : IVec S8x1x8x128 1 := cmpf .olt main_v4 main_v5
  let main_c : IVec S_ 1 := constantI S_ 1 1#1
  let main_v7 : IVec S_ 1 := (fun x v => Host.reduce IntOp.andi x v reducesTo_S8x1x8x128_S_d0_1_2_3 h_S_) main_v6 main_c
  let main_v8 : FVec F S1024x16x8x128 .bf16 := Host.absf main_arg1
  let main_cst_0 : FVec F S_ .bf16 := constant S_ .bf16 0x7F80#16
  let main_v9 : FVec F S1024x16x8x128 .bf16 := broadcastInDim S1024x16x8x128 ![] bcast_S_S1024x16x8x128 main_cst_0
  let main_v10 : IVec S1024x16x8x128 1 := cmpf .olt main_v8 main_v9
  let main_c_1 : IVec S_ 1 := constantI S_ 1 1#1
  let main_v11 : IVec S_ 1 := (fun x v => Host.reduce IntOp.andi x v reducesTo_S1024x16x8x128_S_d0_1_2_3 h_S_) main_v10 main_c_1
  let main_v12 : IVec S_ 1 := andi main_v7 main_v11
  let main_v13 : IVec S8x512 1 := noti main_v3
  let main_c_2 : IVec S_ 32 := constantI S_ 32 0#32
  let main_v14 : IVec S8x512 32 := broadcastInDim S8x512 ![] bcast_S_S8x512 main_c_2
  let main_v15 : IVec S8x512 1 := cmpi .sge main_arg3 main_v14
  let main_c_3 : IVec S_ 32 := constantI S_ 32 1024#32
  let main_v16 : IVec S8x512 32 := broadcastInDim S8x512 ![] bcast_S_S8x512 main_c_3
  let main_v17 : IVec S8x512 1 := cmpi .slt main_arg3 main_v16
  fn_part1 (F := F) main_arg4 main_v12 main_v13 main_v15 main_v17
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S_ : Shape := ⟨0, ![]⟩
abbrev S1 : Shape := ⟨1, ![1]⟩
abbrev S2 : Shape := ⟨1, ![2]⟩
abbrev S64x16x8x128 : Shape := ⟨4, ![64, 16, 8, 128]⟩
abbrev S8x8x128 : Shape := ⟨3, ![8, 8, 128]⟩
abbrev S8x8 : Shape := ⟨2, ![8, 8]⟩
abbrev S3x8x8x128 : Shape := ⟨4, ![3, 8, 8, 128]⟩
abbrev S3x2x8x8 : Shape := ⟨4, ![3, 2, 8, 8]⟩
abbrev S4 : Shape := ⟨1, ![4]⟩
abbrev S1x512 : Shape := ⟨2, ![1, 512]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S8x64 : Shape := ⟨2, ![8, 64]⟩
abbrev S64x1024 : Shape := ⟨2, ![64, 1024]⟩
abbrev S8x1024 : Shape := ⟨2, ![8, 1024]⟩
abbrev S1024x8x128 : Shape := ⟨3, ![1024, 8, 128]⟩
abbrev S8x1x128 : Shape := ⟨3, ![8, 1, 128]⟩
abbrev S8x128 : Shape := ⟨2, ![8, 128]⟩
abbrev S1024x1x128 : Shape := ⟨3, ![1024, 1, 128]⟩
abbrev S1024x128 : Shape := ⟨2, ![1024, 128]⟩
abbrev S1x8x1024 : Shape := ⟨3, ![1, 8, 1024]⟩
abbrev S8x8x1024 : Shape := ⟨3, ![8, 8, 1024]⟩
abbrev S8x8x1 : Shape := ⟨3, ![8, 8, 1]⟩
abbrev S1x8x128 : Shape := ⟨3, ![1, 8, 128]⟩
abbrev S1x8x8x128 : Shape := ⟨4, ![1, 8, 8, 128]⟩
abbrev S1x1x8x8 : Shape := ⟨4, ![1, 1, 8, 8]⟩
abbrev S1x2x8x8 : Shape := ⟨4, ![1, 2, 8, 8]⟩
abbrev S2x8x8 : Shape := ⟨3, ![2, 8, 8]⟩

abbrev nBuf : Space → Nat
  | .hbm => 19
  | .vmem => 12
  | .smem => 2
  | _ => 0

abbrev bufTy : (tb : Table) → Fin (tcTables nBuf tb) → BufTy
  | .hbm, ⟨0, _⟩ => ⟨S8x1x8x128, .bf16⟩
  | .hbm, ⟨1, _⟩ => ⟨S512x16x8x128, .bf16⟩
  | .hbm, ⟨2, _⟩ => ⟨S512x16x8x128, .bf16⟩
  | .hbm, ⟨3, _⟩ => ⟨S8x512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S8x1x8x128, .f32⟩
  | .local _ .vmem, ⟨0, _⟩ => ⟨S8x1x8x128, .bf16⟩
  | .local _ .vmem, ⟨1, _⟩ => ⟨S64x16x8x128, .bf16⟩
  | .local _ .vmem, ⟨2, _⟩ => ⟨S64x16x8x128, .bf16⟩
  | .local _ .vmem, ⟨3, _⟩ => ⟨S64x16x8x128, .bf16⟩
  | .local _ .vmem, ⟨4, _⟩ => ⟨S64x16x8x128, .bf16⟩
  | .local _ .vmem, ⟨5, _⟩ => ⟨S8x512, .i32⟩
  | .local _ .vmem, ⟨6, _⟩ => ⟨S8x1x8x128, .f32⟩
  | .local _ .vmem, ⟨7, _⟩ => ⟨S8x8x128, .f32⟩
  | .local _ .vmem, ⟨8, _⟩ => ⟨S8x8, .f32⟩
  | .local _ .vmem, ⟨9, _⟩ => ⟨S8x8, .f32⟩
  | .local _ .vmem, ⟨10, _⟩ => ⟨S3x8x8x128, .f32⟩
  | .local _ .vmem, ⟨11, _⟩ => ⟨S3x2x8x8, .f32⟩
  | .local _ .smem, ⟨0, _⟩ => ⟨S2, .i32⟩
  | .local _ .smem, ⟨1, _⟩ => ⟨S8, .i32⟩
  | _, _ => ⟨S8x1x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev main_arg4 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev barrier0 : Sem sig := 0

abbrev nD : Nat := 4
abbrev τ : Topo := Topo.v7x

variable {F : FTy → Type} [FloatOps F]

abbrev grid0 : Pipeline.Grid := ⟨1, ![4], ![false]⟩

abbrev pre0 : Pipeline.Prefetch sig := ⟨2, ![main_v11.idx, main_arg4.idx], fun | 0 => main_v11.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond2 (i : grid0.Coords) : BitVec 1 :=
  let arg0 : BitVec 32 := BitVec.ofNat 32 (i 0).val
  let c3_i32 : BitVec 32 := 3#32
  let v317 : BitVec 1 := Scalar.cmpi .eq arg0 c3_i32
  let v318 : BitVec 32 := Scalar.extui v317
  let c0_i32_79 : BitVec 32 := 0#32
  let v319 : BitVec 1 := Scalar.cmpi .ne v318 c0_i32_79
  v319

def k0_dev1 (v0 : BitVec 32) (v1 : BitVec 32) : Nat :=
  let c0_i32_81 : BitVec 32 := 0#32
  let c1_i32 : BitVec 32 := 1#32
  let v2 : BitVec 32 := Scalar.subi c1_i32 v0
  let c2_i32 : BitVec 32 := 2#32
  let v321 : BitVec 32 := Scalar.muli v2 c2_i32
  let v322 : BitVec 32 := Scalar.addi c0_i32_81 v321
  let c1_i32_82 : BitVec 32 := 1#32
  let v323 : BitVec 32 := Scalar.muli v1 c1_i32_82
  let v324 : BitVec 32 := Scalar.addi v322 v323
  v324.toNat

def k0_dev2 (v0 : BitVec 32) (v1 : BitVec 32) : Nat :=
  let c0_i32_85 : BitVec 32 := 0#32
  let c2_i32_84 : BitVec 32 := 2#32
  let v325 : BitVec 32 := Scalar.muli v0 c2_i32_84
  let v326 : BitVec 32 := Scalar.addi c0_i32_85 v325
  let c1_i32_0 : BitVec 32 := 1#32
  let v3 : BitVec 32 := Scalar.subi c1_i32_0 v1
  let c1_i32_86 : BitVec 32 := 1#32
  let v327 : BitVec 32 := Scalar.muli v3 c1_i32_86
  let v328 : BitVec 32 := Scalar.addi v326 v327
  v328.toNat
def k0_dev3 (v0 : BitVec 32) (v1 : BitVec 32) : Nat :=
  let c0_i32_112 : BitVec 32 := 0#32
  let c1_i32 : BitVec 32 := 1#32
  let v2 : BitVec 32 := Scalar.subi c1_i32 v0
  let c2_i32_111 : BitVec 32 := 2#32
  let v341 : BitVec 32 := Scalar.muli v2 c2_i32_111
  let v342 : BitVec 32 := Scalar.addi c0_i32_112 v341
  let c1_i32_113 : BitVec 32 := 1#32
  let v343 : BitVec 32 := Scalar.muli v1 c1_i32_113
  let v344 : BitVec 32 := Scalar.addi v342 v343
  v344.toNat
def k0_dev4 (v0 : BitVec 32) (v1 : BitVec 32) : Nat :=
  let c0_i32_125 : BitVec 32 := 0#32
  let c1_i32 : BitVec 32 := 1#32
  let v2 : BitVec 32 := Scalar.subi c1_i32 v0
  let c2_i32_124 : BitVec 32 := 2#32
  let v353 : BitVec 32 := Scalar.muli v2 c2_i32_124
  let v354 : BitVec 32 := Scalar.addi c0_i32_125 v353
  let c1_i32_126 : BitVec 32 := 1#32
  let v355 : BitVec 32 := Scalar.muli v1 c1_i32_126
  let v356 : BitVec 32 := Scalar.addi v354 v355
  v356.toNat
def k0_dev5 (v0 : BitVec 32) (v1 : BitVec 32) : Nat :=
  let c0_i32_222 : BitVec 32 := 0#32
  let c2_i32_221 : BitVec 32 := 2#32
  let v433 : BitVec 32 := Scalar.muli v0 c2_i32_221
  let v434 : BitVec 32 := Scalar.addi c0_i32_222 v433
  let c1_i32_0 : BitVec 32 := 1#32
  let v3 : BitVec 32 := Scalar.subi c1_i32_0 v1
  let c1_i32_223 : BitVec 32 := 1#32
  let v435 : BitVec 32 := Scalar.muli v3 c1_i32_223
  let v436 : BitVec 32 := Scalar.addi v434 v435
  v436.toNat
def k0_dev6 (v0 : BitVec 32) (v1 : BitVec 32) : Nat :=
  let c0_i32_235 : BitVec 32 := 0#32
  let c2_i32_234 : BitVec 32 := 2#32
  let v445 : BitVec 32 := Scalar.muli v0 c2_i32_234
  let v446 : BitVec 32 := Scalar.addi c0_i32_235 v445
  let c1_i32_0 : BitVec 32 := 1#32
  let v3 : BitVec 32 := Scalar.subi c1_i32_0 v1
  let c1_i32_236 : BitVec 32 := 1#32
  let v447 : BitVec 32 := Scalar.muli v3 c1_i32_236
  let v448 : BitVec 32 := Scalar.addi v446 v447
  v448.toNat

def k0_chk1 (i : grid0.Coords) (v0 : BitVec 32) (v1 : BitVec 32) : Prop :=
  (∀ (k0_h2 : k0_cond2 i = 1#1), (k0_dev1 v0 v1) < nD) ∧
  (∀ (k0_h2 : k0_cond2 i = 1#1), (k0_dev2 v0 v1) < nD) ∧
  (∀ (k0_h2 : k0_cond2 i = 1#1), (k0_dev3 v0 v1) < nD) ∧
  (∀ (k0_h2 : k0_cond2 i = 1#1), (k0_dev4 v0 v1) < nD) ∧
  (∀ (k0_h2 : k0_cond2 i = 1#1), (k0_dev5 v0 v1) < nD) ∧
  (∀ (k0_h2 : k0_cond2 i = 1#1), (k0_dev6 v0 v1) < nD)
theorem k0_dev1_lt : ∀ (i : grid0.Coords) (v0 : BitVec 32) (v1 : BitVec 32) (k0_hw1 : k0_chk1 i v0 v1), ∀ (k0_h2 : k0_cond2 i = 1#1), (k0_dev1 v0 v1) < nD := fun i v0 v1 k0_hw1 k0_h2 => k0_hw1.1 k0_h2
theorem k0_dev2_lt : ∀ (i : grid0.Coords) (v0 : BitVec 32) (v1 : BitVec 32) (k0_hw1 : k0_chk1 i v0 v1), ∀ (k0_h2 : k0_cond2 i = 1#1), (k0_dev2 v0 v1) < nD := fun i v0 v1 k0_hw1 k0_h2 => k0_hw1.2.1 k0_h2
theorem k0_dev3_lt : ∀ (i : grid0.Coords) (v0 : BitVec 32) (v1 : BitVec 32) (k0_hw1 : k0_chk1 i v0 v1), ∀ (k0_h2 : k0_cond2 i = 1#1), (k0_dev3 v0 v1) < nD := fun i v0 v1 k0_hw1 k0_h2 => k0_hw1.2.2.1 k0_h2
theorem k0_dev4_lt : ∀ (i : grid0.Coords) (v0 : BitVec 32) (v1 : BitVec 32) (k0_hw1 : k0_chk1 i v0 v1), ∀ (k0_h2 : k0_cond2 i = 1#1), (k0_dev4 v0 v1) < nD := fun i v0 v1 k0_hw1 k0_h2 => k0_hw1.2.2.2.1 k0_h2
theorem k0_dev5_lt : ∀ (i : grid0.Coords) (v0 : BitVec 32) (v1 : BitVec 32) (k0_hw1 : k0_chk1 i v0 v1), ∀ (k0_h2 : k0_cond2 i = 1#1), (k0_dev5 v0 v1) < nD := fun i v0 v1 k0_hw1 k0_h2 => k0_hw1.2.2.2.2.1 k0_h2
theorem k0_dev6_lt : ∀ (i : grid0.Coords) (v0 : BitVec 32) (v1 : BitVec 32) (k0_hw1 : k0_chk1 i v0 v1), ∀ (k0_h2 : k0_cond2 i = 1#1), (k0_dev6 v0 v1) < nD := fun i v0 v1 k0_hw1 k0_h2 => k0_hw1.2.2.2.2.2 k0_h2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_2 (inb_S2_S1_0 : ∀ a, (![0] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x1x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8x1x8x128 : Shape := ⟨4, ![8, 1, 8, 128]⟩
abbrev S1024x16x8x128 : Shape := ⟨4, ![1024, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8x1x512x16 : Shape := ⟨5, ![8, 8, 1, 512, 16]⟩
abbrev S8x1x1x1x1 : Shape := ⟨5, ![8, 1, 1, 1, 1]⟩
abbrev S8x8x1 : Shape := ⟨3, ![8, 8, 1]⟩
abbrev S8x8x1x1x1 : Shape := ⟨5, ![8, 8, 1, 1, 1]⟩
abbrev S8x8x128x1 : Shape := ⟨4, ![8, 8, 128, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x1x8x128, .bf16⟩
  | .hbm, ⟨1, _⟩ => ⟨S1024x16x8x128, .bf16⟩
  | .hbm, ⟨2, _⟩ => ⟨S1024x16x8x128, .bf16⟩
  | .hbm, ⟨3, _⟩ => ⟨S8x512, .i32⟩
  | .hbm, ⟨4, _⟩ => ⟨S8, .i32⟩
  | .hbm, ⟨5, _⟩ => ⟨S1024x16x8x128, .f32⟩
  | .hbm, ⟨6, _⟩ => ⟨S_, .i32⟩
  | .hbm, ⟨7, _⟩ => ⟨S8x512, .i32⟩
  | .hbm, ⟨8, _⟩ => ⟨S8x512, .i1⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S8x512, .i32⟩
  | .hbm, ⟨13, _⟩ => ⟨S8x512x1, .i32⟩
  | .hbm, ⟨14, _⟩ => ⟨S8x512x16x8x128, .f32⟩
  | .hbm, ⟨15, _⟩ => ⟨S1024x16x8x128, .f32⟩
  | .hbm, ⟨16, _⟩ => ⟨S_, .i32⟩
  | .hbm, ⟨17, _⟩ => ⟨S8x512, .i32⟩
  | .hbm, ⟨18, _⟩ => ⟨S8x512, .i1⟩
  | .hbm, ⟨19, _⟩ => ⟨S_, .i32⟩
  | .hbm, ⟨20, _⟩ => ⟨S8x512, .i32⟩
  | .hbm, ⟨21, _⟩ => ⟨S8x512, .i32⟩
  | .hbm, ⟨22, _⟩ => ⟨S8x512, .i32⟩
  | .hbm, ⟨23, _⟩ => ⟨S8x512x1, .i32⟩
  | .hbm, ⟨24, _⟩ => ⟨S8x512x16x8x128, .f32⟩
  | .hbm, ⟨25, _⟩ => ⟨S8x1x8x128, .f32⟩
  | .hbm, ⟨26, _⟩ => ⟨S8x8x1x512x16, .f32⟩
  | .hbm, ⟨27, _⟩ => ⟨S_, .f32⟩
  | .hbm, ⟨28, _⟩ => ⟨S_, .f32⟩
  | .hbm, ⟨29, _⟩ => ⟨S8x8x1x512x16, .f32⟩
  | .hbm, ⟨30, _⟩ => ⟨S8x8x1x512x16, .f32⟩
  | .hbm, ⟨31, _⟩ => ⟨S8x8x1x512x16, .i32⟩
  | .hbm, ⟨32, _⟩ => ⟨S8x1x1x1x1, .i32⟩
  | .hbm, ⟨33, _⟩ => ⟨S8x8x1x512x16, .i32⟩
  | .hbm, ⟨34, _⟩ => ⟨S8x8x1x512x16, .i1⟩
  | .hbm, ⟨35, _⟩ => ⟨S_, .f32⟩
  | .hbm, ⟨36, _⟩ => ⟨S_, .f32⟩
  | .hbm, ⟨37, _⟩ => ⟨S8x8x1x512x16, .f32⟩
  | .hbm, ⟨38, _⟩ => ⟨S8x8x1x512x16, .f32⟩
  | .hbm, ⟨39, _⟩ => ⟨S_, .f32⟩
  | .hbm, ⟨40, _⟩ => ⟨S8x8x1, .f32⟩
  | .hbm, ⟨41, _⟩ => ⟨S8x8x1x1x1, .f32⟩
  | .hbm, ⟨42, _⟩ => ⟨S8x8x1x512x16, .f32⟩
  | .hbm, ⟨43, _⟩ => ⟨S8x8x1x512x16, .f32⟩
  | .hbm, ⟨44, _⟩ => ⟨S8x8x1x512x16, .f32⟩
  | .hbm, ⟨45, _⟩ => ⟨S_, .f32⟩
  | .hbm, ⟨46, _⟩ => ⟨S8x8x1, .f32⟩
  | .hbm, ⟨47, _⟩ => ⟨S8x8x1x1x1, .f32⟩
  | .hbm, ⟨48, _⟩ => ⟨S8x8x1x512x16, .f32⟩
  | .hbm, ⟨49, _⟩ => ⟨S8x8x1x512x16, .f32⟩
  | .hbm, ⟨50, _⟩ => ⟨S8x8x128x1, .f32⟩
  | .hbm, ⟨51, _⟩ => ⟨S8x1x8x128, .f32⟩
  | _, _ => ⟨S8x1x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Step.lean ====
module

public import proofs.«01_k».proof.Proof.Gen.KernelIdeal.Skeleton
public import proofs.«01_k».proof.Proof.Gen.KernelIdeal.Regions
public import Idealize.ShloMosaic.Lib.Pipeline.Launch
public import Idealize.ShloMosaic.Lib.Pipeline.Kit
public import Idealize.ShloMosaic.Lib.Scf
public import Idealize.ShloMosaic.Lib.Tactic
public import Idealize.ShloMosaic.Lib.VecWindow

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state: the pipeline's and the exchange's. -/
abbrev UU : Type := UR sig nD τ × URounds (GSem nD τ sig) (Fin 2)

local notation "𝕄" => MT nD τ sig Unit (Elt F) ℕ UU ℕ

/-- The pipeline's part of it, -/
abbrev EP : Emb (UR sig nD τ) (MT nD τ sig Unit (Elt F) ℕ UU ℕ) := embL
/-- and the exchange's. -/
abbrev ER : Emb (URounds (GSem nD τ sig) (Fin 2)) (MT nD τ sig Unit (Elt F) ℕ UU ℕ) := embR

/-- The kernel has no loops that need a variant. -/
abbrev 𝒱₀ : Variants := Variants.none

/-- The lengths' word of batch row `b`, as the body reads it. -/
abbrev lenWord (ln : S8.Idx → Elt F .i32) (off : Fin S8.rank → ℕ) (inb : ∀ a, off a + S1.size a ≤ S8.size a) : Elt F .i32 :=
  VecWindow.window ln off S1.size inb (Shape.Idx.first (s := S1) (by decide))

/-- A coordinate word of the device, as the body reads it. -/
abbrev xyWord (W : S2.Idx → Elt F .i32) (off : Fin S2.rank → ℕ) (inb : ∀ a, off a + S1.size a ≤ S2.size a) : Elt F .i32 :=
  VecWindow.window W off S1.size inb (Shape.Idx.first (s := S1) (by decide))

/-- The device's first coordinate word. -/
def wx (W : S2.Idx → Elt F .i32) : Elt F .i32 := xyWord W ![0] inb_S2_S1_0
/-- The device's second coordinate word. -/
def wy (W : S2.Idx → Elt F .i32) : Elt F .i32 := xyWord W ![1] inb_S2_S1_1

/-- Batch row `b` of the page table, as the body reads it. -/
abbrev btRow (bt : S8x512.Idx → Elt F .i32) (off : Fin S8x512.rank → ℕ) (inb : ∀ a, off a + S1x512.size a ≤ S8x512.size a) :
    S1x512.Idx → Elt F .i32 :=
  VecWindow.window bt off S1x512.size inb

/-- The number of the chunk's first page, as the body computes it. -/
def baseWord (i : grid0.Coords) (v0 v1 : BitVec 32) : BitVec 32 :=
  Scalar.addi (Scalar.addi (Scalar.muli v1 512#32) (Scalar.muli v0 256#32)) (Scalar.muli (BitVec.ofNat 32 (i 0).val) 64#32)

/-- How often each key slot of the chunk occurs in each batch row, from the rows of the page table and the
    lengths' words: the counts of the chunk's pages, spread over each page's slots. -/
def cntRows (i : grid0.Coords) (v0 v1 : Elt F .i32) (r0 r1 r2 r3 r4 r5 r6 r7 : S1x512.Idx → Elt F .i32) (l0 l1 l2 l3 l4 l5 l6 l7 : Elt F .i32) :
    FVec F S8x1024 .f32 :=
  k0_pay33 (k0_pay22 i v0 v1 r0 l0) (k0_pay24 (F := F) (k0_pay23 i v0 v1 r1 l1))
    (k0_pay25 (baseWord i v0 v1) r2 l2) (k0_pay26 (baseWord i v0 v1) r3 l3)
    (k0_pay28 (F := F) (iota .tc S64x512 32 [1] iota_S64x512_d1_w32) l4 (k0_pay27 (F := F) (baseWord i v0 v1) r4))
    (k0_pay29 (baseWord i v0 v1) r5 l5) (k0_pay30 (baseWord i v0 v1) r6 l6)
    (k0_pay31 (F := F) r7) (k0_pay32 (baseWord i v0 v1))
    (iota .tc S64x512 32 [1] iota_S64x512_d1_w32) l7

/-- The same counts, from the whole page table and the lengths. -/
def cntVec (i : grid0.Coords) (W : S2.Idx → Elt F .i32) (ln : S8.Idx → Elt F .i32) (bt : S8x512.Idx → Elt F .i32) : FVec F S8x1024 .f32 :=
  cntRows i (wx W) (wy W) (btRow bt ![0, 0] inb_S8x512_S1x512_0_0) (btRow bt ![1, 0] inb_S8x512_S1x512_1_0)
    (btRow bt ![2, 0] inb_S8x512_S1x512_2_0) (btRow bt ![3, 0] inb_S8x512_S1x512_3_0) (btRow bt ![4, 0] inb_S8x512_S1x512_4_0)
    (btRow bt ![5, 0] inb_S8x512_S1x512_5_0) (btRow bt ![6, 0] inb_S8x512_S1x512_6_0) (btRow bt ![7, 0] inb_S8x512_S1x512_7_0)
    (lenWord ln ![0] inb_S8_S1_0) (lenWord ln ![1] inb_S8_S1_1) (lenWord ln ![2] inb_S8_S1_2) (lenWord ln ![3] inb_S8_S1_3)
    (lenWord ln ![4] inb_S8_S1_4) (lenWord ln ![5] inb_S8_S1_5) (lenWord ln ![6] inb_S8_S1_6) (lenWord ln ![7] inb_S8_S1_7)

section Step
variable (q : S8x1x8x128.Idx → Elt F .bf16) (k v : S64x16x8x128.Idx → Elt F .bf16) (cv : FVec F S8x1024 .f32)
  (acc : S8x8x128.Idx → Elt F .f32) (mm ll : S8x8.Idx → Elt F .f32)

/-- The running maximum after a chunk. -/
def stepM : S8x8.Idx → Elt F .f32 :=
  k0_pay53 (F := F) (k0_pay45 (k0_pay34 q) (k0_pay35 k) (k0_pay37 (k0_pay34 q) k) (k0_pay38 (k0_pay34 q) k) (k0_pay39 (k0_pay34 q) k)
    (k0_pay40 (k0_pay34 q) k) (k0_pay41 (k0_pay34 q) k) (k0_pay42 (k0_pay34 q) k) (k0_pay43 (k0_pay34 q) k) mm)

/-- The running sum of weights after a chunk. -/
def stepL : S8x8.Idx → Elt F .f32 :=
  k0_pay48 cv (k0_pay34 q) (k0_pay35 k) (k0_pay37 (k0_pay34 q) k) (k0_pay38 (k0_pay34 q) k) (k0_pay39 (k0_pay34 q) k)
    (k0_pay40 (k0_pay34 q) k) (k0_pay41 (k0_pay34 q) k) (k0_pay42 (k0_pay34 q) k) (k0_pay43 (k0_pay34 q) k) mm ll

/-- The running weighted sum of value rows after a chunk. -/
def stepA : S8x8x128.Idx → Elt F .f32 :=
  k0_pay52 (k0_pay36 v)
    (k0_pay46 (k0_pay34 q) (k0_pay35 k) (k0_pay37 (k0_pay34 q) k) (k0_pay38 (k0_pay34 q) k) (k0_pay39 (k0_pay34 q) k)
      (k0_pay40 (k0_pay34 q) k) (k0_pay41 (k0_pay34 q) k) (k0_pay42 (k0_pay34 q) k) (k0_pay43 (k0_pay34 q) k) mm)
    (k0_pay47 cv (k0_pay34 q) (k0_pay35 k) (k0_pay37 (k0_pay34 q) k) (k0_pay38 (k0_pay34 q) k) (k0_pay39 (k0_pay34 q) k)
      (k0_pay40 (k0_pay34 q) k) (k0_pay41 (k0_pay34 q) k) (k0_pay42 (k0_pay34 q) k) (k0_pay43 (k0_pay34 q) k) mm)
    (k0_pay49 cv (k0_pay34 q) (k0_pay35 k) (k0_pay36 v) (k0_pay37 (k0_pay34 q) k) (k0_pay38 (k0_pay34 q) k) (k0_pay39 (k0_pay34 q) k)
      (k0_pay40 (k0_pay34 q) k) (k0_pay41 (k0_pay34 q) k) (k0_pay42 (k0_pay34 q) k) (k0_pay43 (k0_pay34 q) k) mm)
    (k0_pay50 cv (k0_pay34 q) (k0_pay35 k) (k0_pay36 v) (k0_pay37 (k0_pay34 q) k) (k0_pay38 (k0_pay34 q) k) (k0_pay39 (k0_pay34 q) k)
      (k0_pay40 (k0_pay34 q) k) (k0_pay41 (k0_pay34 q) k) (k0_pay42 (k0_pay34 q) k) (k0_pay43 (k0_pay34 q) k) mm)
    (k0_pay51 cv (k0_pay34 q) (k0_pay35 k) (k0_pay36 v) (k0_pay37 (k0_pay34 q) k) (k0_pay38 (k0_pay34 q) k) (k0_pay39 (k0_pay34 q) k)
      (k0_pay40 (k0_pay34 q) k) (k0_pay41 (k0_pay34 q) k) (k0_pay42 (k0_pay34 q) k) (k0_pay43 (k0_pay34 q) k) mm)
    acc
end Step

/-- The exchange at the last grid point: what the body runs after it has folded its last chunk. -/
def tailProg (i : grid0.Coords) (arg1 : Memref sig .tc .smem S2 .i32) (harg1 : arg1.IsWhole) (arg2 : Memref sig .tc .smem S8 .i32) (harg2 : arg2.IsWhole) (arg3 : Memref sig .tc .vmem S8x1x8x128 .bf16) (harg3 : arg3.IsWhole) (arg4 : Memref sig .tc .vmem S64x16x8x128 .bf16) (harg4 : arg4.IsWhole) (arg5 : Memref sig .tc .vmem S64x16x8x128 .bf16) (harg5 : arg5.IsWhole) (arg6 : Memref sig .tc .vmem S8x512 .i32) (harg6 : arg6.IsWhole) (arg7 : Memref sig .tc .vmem S8x1x8x128 .f32) (harg7 : arg7.IsWhole) (arg8 : Memref sig .tc .vmem S8x8x128 .f32) (harg8 : arg8.IsWhole) (arg9 : Memref sig .tc .vmem S8x8 .f32) (harg9 : arg9.IsWhole) (arg10 : Memref sig .tc .vmem S8x8 .f32) (harg10 : arg10.IsWhole) (arg11 : Memref sig .tc .vmem S3x8x8x128 .f32) (harg11 : arg11.IsWhole) (arg12 : Memref sig .tc .vmem S3x2x8x8 .f32) (harg12 : arg12.IsWhole) (arg13 : DmaSems sig S4) (arg14 : DmaSems sig S4) (v0 v1 : Elt F .i32) (k0_hw1 : k0_chk1 i v0 v1) : Prog (TpuEff nD τ sig (Elt F) Λ₀ .tc) PUnit :=
  if k0_h2 : k0_cond2 i = 1#1 then do
    k0_part1 i arg1 harg1 arg2 harg2 arg3 harg3 arg4 harg4 arg5 harg5 arg6 harg6 arg7 harg7 arg8 harg8 arg9 harg9 arg10 harg10 arg11 harg11 arg12 harg12 arg13 arg14 v0 v1 k0_hw1 (Scalar.subi 1#32 v0) (Scalar.subi 1#32 v1) k0_h2
    k0_part2 i arg1 harg1 arg2 harg2 arg3 harg3 arg4 harg4 arg5 harg5 arg6 harg6 arg7 harg7 arg8 harg8 arg9 harg9 arg10 harg10 arg11 harg11 arg12 harg12 arg13 arg14 v0 v1 k0_hw1 (Scalar.subi 1#32 v0) k0_h2
    k0_part3 i arg1 harg1 arg2 harg2 arg3 harg3 arg4 harg4 arg5 harg5 arg6 harg6 arg7 harg7 arg8 harg8 arg9 harg9 arg10 harg10 arg11 harg11 arg12 harg12 arg13 arg14 v1 (Scalar.subi 1#32 v0)
    let ⟨v405, v412, v417, v419, v420⟩ : (Σ' (v405 : FVec F S8x8 .f32) (v412 : FVec F S8x8 .f32) (v417 : FVec F S8x8x128 .f32) (v419 : FVec F S8x8x128 .f32), FVec F S8x8x1 .f32) ← k0_part4 i arg1 harg1 arg2 harg2 arg3 harg3 arg4 harg4 arg5 harg5 arg6 harg6 arg7 harg7 arg8 harg8 arg9 harg9 arg10 harg10 arg11 harg11 arg12 harg12 arg13 arg14
    let ⟨v445, c0_i32_235⟩ : (Σ' (v445 : BitVec 32), BitVec 32) ← k0_part5 i arg1 harg1 arg2 harg2 arg3 harg3 arg4 harg4 arg5 harg5 arg6 harg6 arg7 harg7 arg8 harg8 arg9 harg9 arg10 harg10 arg11 harg11 arg12 harg12 arg13 arg14 v0 v1 k0_hw1 (Scalar.subi 1#32 v1) k0_h2 v405 v412 v417 v419 v420
    k0_part6 i arg1 harg1 arg2 harg2 arg3 harg3 arg4 harg4 arg5 harg5 arg6 harg6 arg7 harg7 arg8 harg8 arg9 harg9 arg10 harg10 arg11 harg11 arg12 harg12 arg13 arg14 v0 v1 k0_hw1 (Scalar.subi 1#32 v1) k0_h2 v445 c0_i32_235
    let ⟨v490, v492, v493⟩ : (Σ' (v490 : FVec F S8x8 .f32) (v492 : FVec F S8x8 .f32), Vec F S1x1x8x8 .f32) ← k0_part7 i arg1 harg1 arg2 harg2 arg3 harg3 arg4 harg4 arg5 harg5 arg6 harg6 arg7 harg7 arg8 harg8 arg9 harg9 arg10 harg10 arg11 harg11 arg12 harg12 arg13 arg14 v0 (Scalar.subi 1#32 v1)
    let v495 : Vec F S1x1x8x8 .f32 ← Prog.lift (.load arg12 (Rect.unit (s := S3x2x8x8) ![2, 1, 0, 0] S1x1x8x8.size inb_S3x2x8x8_S1x1x8x8_2_1_0_0).toLoadRect (View.loadsAt_vmem h_S1x1x8x8))
    let v505 : Vec F S1x8x8x128 .f32 ← Prog.lift (.load arg11 (Rect.unit (s := S3x8x8x128) ![0, 0, 0, 0] S1x8x8x128.size inb_S3x8x8x128_S1x8x8x128_0_0_0_0).toLoadRect (View.loadsAt_vmem h_S1x8x8x128))
    let v510 : Vec F S1x8x8x128 .f32 ← Prog.lift (.load arg11 (Rect.unit (s := S3x8x8x128) ![2, 0, 0, 0] S1x8x8x128.size inb_S3x8x8x128_S1x8x8x128_2_0_0_0).toLoadRect (View.loadsAt_vmem h_S1x8x8x128))
    let v521 : Vec F S8x1x8x128 .f32 ← Prog.lift (.load arg7 (Rect.unit (s := S8x1x8x128) ![0, 0, 0, 0] S8x1x8x128.size inb_S8x1x8x128_S8x1x8x128_0_0_0_0).toLoadRect (View.loadsAt_vmem h_S8x1x8x128))
    Prog.lift (.store arg7 (Rect.unit (s := S8x1x8x128) ![0, 0, 0, 0] S8x1x8x128.size inb_S8x1x8x128_S8x1x8x128_0_0_0_0) (k0_pay1 v490 v492 v493 v495 v505 v510) Finset.univ (View.stores_vmem_bits_univ h_S8x1x8x128 rfl) (.inl rfl))
    pure ⟨⟩
  else do
    pure ⟨⟩

set_option maxHeartbeats 400000 in
/-- The chunk's part of the body at a grid point that is not the first: the accumulators go one step on. -/
theorem step_pos (c : Dev nD) (i : grid0.Coords) (arg1 : Memref sig .tc .smem S2 .i32) (harg1 : arg1.IsWhole) (arg2 : Memref sig .tc .smem S8 .i32) (harg2 : arg2.IsWhole) (arg3 : Memref sig .tc .vmem S8x1x8x128 .bf16) (harg3 : arg3.IsWhole) (arg4 : Memref sig .tc .vmem S64x16x8x128 .bf16) (harg4 : arg4.IsWhole) (arg5 : Memref sig .tc .vmem S64x16x8x128 .bf16) (harg5 : arg5.IsWhole) (arg6 : Memref sig .tc .vmem S8x512 .i32) (harg6 : arg6.IsWhole) (arg7 : Memref sig .tc .vmem S8x1x8x128 .f32) (harg7 : arg7.IsWhole) (arg8 : Memref sig .tc .vmem S8x8x128 .f32) (harg8 : arg8.IsWhole) (arg9 : Memref sig .tc .vmem S8x8 .f32) (harg9 : arg9.IsWhole) (arg10 : Memref sig .tc .vmem S8x8 .f32) (harg10 : arg10.IsWhole) (arg11 : Memref sig .tc .vmem S3x8x8x128 .f32) (harg11 : arg11.IsWhole) (arg12 : Memref sig .tc .vmem S3x2x8x8 .f32) (harg12 : arg12.IsWhole) (arg13 : DmaSems sig S4) (arg14 : DmaSems sig S4) (hi0 : ¬ (Scalar.cmpi .ne (Scalar.extui (Scalar.cmpi .eq (BitVec.ofNat 32 (i 0).val) 0#32) : BitVec 32) 0#32 = 1#1))
    (W : S2.Idx → Elt F .i32) (ln : S8.Idx → Elt F .i32) (q : S8x1x8x128.Idx → Elt F .bf16) (k v : S64x16x8x128.Idx → Elt F .bf16) (bt : S8x512.Idx → Elt F .i32)
    (acc : S8x8x128.Idx → Elt F .f32) (mm ll : S8x8.Idx → Elt F .f32)
    (hchk : k0_chk1 i (wx W) (wy W))
    (Q : PUnit → sProp 𝕄) :
   iprop(((arg1.view.loc c ↦[arg1.view.set]{fullShare} arg1.view.rep W) ∗ (arg2.view.loc c ↦[arg2.view.set]{fullShare} arg2.view.rep ln) ∗ (arg3.view.loc c ↦[arg3.view.set]{fullShare} arg3.view.rep q) ∗ (arg4.view.loc c ↦[arg4.view.set]{fullShare} arg4.view.rep k) ∗ (arg5.view.loc c ↦[arg5.view.set]{fullShare} arg5.view.rep v) ∗ (arg6.view.loc c ↦[arg6.view.set]{fullShare} arg6.view.rep bt)
     ∗ (arg8.view.loc c ↦[arg8.view.set]{fullShare} arg8.view.rep acc) ∗ (arg9.view.loc c ↦[arg9.view.set]{fullShare} arg9.view.rep mm) ∗ (arg10.view.loc c ↦[arg10.view.set]{fullShare} arg10.view.rep ll))
     ∗ (((arg1.view.loc c ↦[arg1.view.set]{fullShare} arg1.view.rep W) ∗ (arg2.view.loc c ↦[arg2.view.set]{fullShare} arg2.view.rep ln) ∗ (arg3.view.loc c ↦[arg3.view.set]{fullShare} arg3.view.rep q) ∗ (arg4.view.loc c ↦[arg4.view.set]{fullShare} arg4.view.rep k) ∗ (arg5.view.loc c ↦[arg5.view.set]{fullShare} arg5.view.rep v) ∗ (arg6.view.loc c ↦[arg6.view.set]{fullShare} arg6.view.rep bt)
     ∗ (arg8.view.loc c ↦[arg8.view.set]{fullShare} arg8.view.rep (stepA q k v (cntVec i W ln bt) acc mm)) ∗ (arg9.view.loc c ↦[arg9.view.set]{fullShare} arg9.view.rep (stepM q k mm)) ∗ (arg10.view.loc c ↦[arg10.view.set]{fullShare} arg10.view.rep (stepL q k (cntVec i W ln bt) mm ll)))
      -∗ wp frame (wpE (defs₀ (F := F)) 𝒱₀ c none) Set.univ (tailProg i arg1 harg1 arg2 harg2 arg3 harg3 arg4 harg4 arg5 harg5 arg6 harg6 arg7 harg7 arg8 harg8 arg9 harg9 arg10 harg10 arg11 harg11 arg12 harg12 arg13 arg14 (wx W) (wy W) hchk) Q))
    ⊢ wp frame (wpE (defs₀ (F := F)) 𝒱₀ c none) Set.univ (cc0_body i arg1 harg1 arg2 harg2 arg3 harg3 arg4 harg4 arg5 harg5 arg6 harg6 arg7 harg7 arg8 harg8 arg9 harg9 arg10 harg10 arg11 harg11 arg12 harg12 arg13 arg14) Q := by
  have hw0 : View.readAt (Elt F) arg1.view (Rect.unit (s := S2) ![0] S1.size inb_S2_S1_0).toLoadRect (arg1.view.rep W) (Shape.Idx.first (s := S1) (by decide)) = wx W := by
    rw [View.readAt_rep_unit (inb' := inb_S2_S1_0) (h := rfl)]; rfl
  have hw1 : View.readAt (Elt F) arg1.view (Rect.unit (s := S2) ![1] S1.size inb_S2_S1_1).toLoadRect (arg1.view.rep W) (Shape.Idx.first (s := S1) (by decide)) = wy W := by
    rw [View.readAt_rep_unit (inb' := inb_S2_S1_1) (h := rfl)]; rfl
  have hchk' := hchk
  rw [← hw0, ← hw1] at hchk'
  have hq : View.readAt (Elt F) arg3.view (Rect.unit (s := S8x1x8x128) ![0, 0, 0, 0] S8x1x8x128.size inb_S8x1x8x128_S8x1x8x128_0_0_0_0).toLoadRect (arg3.view.rep q) = q :=
    View.readAt_rep_full _ _ _
  have hk : View.readAt (Elt F) arg4.view (Rect.unit (s := S64x16x8x128) ![0, 0, 0, 0] S64x16x8x128.size inb_S64x16x8x128_S64x16x8x128_0_0_0_0).toLoadRect (arg4.view.rep k) = k :=
    View.readAt_rep_full _ _ _
  have hv : View.readAt (Elt F) arg5.view (Rect.unit (s := S64x16x8x128) ![0, 0, 0, 0] S64x16x8x128.size inb_S64x16x8x128_S64x16x8x128_0_0_0_0).toLoadRect (arg5.view.rep v) = v :=
    View.readAt_rep_full _ _ _
  have ha : View.readAt (Elt F) arg8.view (Rect.unit (s := S8x8x128) ![0, 0, 0] S8x8x128.size inb_S8x8x128_S8x8x128_0_0_0).toLoadRect (arg8.view.rep acc) = acc :=
    View.readAt_rep_full _ _ _
  have hm : View.readAt (Elt F) arg9.view (Rect.unit (s := S8x8) ![0, 0] S8x8.size inb_S8x8_S8x8_0_0).toLoadRect (arg9.view.rep mm) = mm :=
    View.readAt_rep_full _ _ _
  have hl : View.readAt (Elt F) arg10.view (Rect.unit (s := S8x8) ![0, 0] S8x8.size inb_S8x8_S8x8_0_0).toLoadRect (arg10.view.rep ll) = ll :=
    View.readAt_rep_full _ _ _
  iintro ⟨⟨H1, H2, H3, H4, H5, H6, H8, H9, H10⟩, HQ⟩
  rw [cc0_body_eq_skeleton]; unfold cc0_body_skel
  rw [k0_part8_eq_skeleton, k0_part9_eq_skeleton, k0_part10_eq_skeleton, k0_part11_eq_skeleton, k0_part12_eq_skeleton, k0_part13_eq_skeleton, k0_part14_eq_skeleton]
  sl_exec
  ihave H8 := pointsTo_rep_of_read c arg8 _ fullShare (stepA q k v (cntVec i W ln bt) acc mm) ?h8 $$ H8
  case h8 =>
    rw [View.read_writes_full]
    refine Eq.trans (b := stepA q k v (cntRows i (View.readAt (Elt F) arg1.view (Rect.unit (s := S2) ![0] S1.size inb_S2_S1_0).toLoadRect (arg1.view.rep W) (Shape.Idx.first (s := S1) (by decide))) (View.readAt (Elt F) arg1.view (Rect.unit (s := S2) ![1] S1.size inb_S2_S1_1).toLoadRect (arg1.view.rep W) (Shape.Idx.first (s := S1) (by decide))) (View.readAt (Elt F) arg6.view (Rect.unit (s := S8x512) ![0, 0] S1x512.size inb_S8x512_S1x512_0_0).toLoadRect (arg6.view.rep bt)) (View.readAt (Elt F) arg6.view (Rect.unit (s := S8x512) ![1, 0] S1x512.size inb_S8x512_S1x512_1_0).toLoadRect (arg6.view.rep bt)) (View.readAt (Elt F) arg6.view (Rect.unit (s := S8x512) ![2, 0] S1x512.size inb_S8x512_S1x512_2_0).toLoadRect (arg6.view.rep bt)) (View.readAt (Elt F) arg6.view (Rect.unit (s := S8x512) ![3, 0] S1x512.size inb_S8x512_S1x512_3_0).toLoadRect (arg6.view.rep bt)) (View.readAt (Elt F) arg6.view (Rect.unit (s := S8x512) ![4, 0] S1x512.size inb_S8x512_S1x512_4_0).toLoadRect (arg6.view.rep bt)) (View.readAt (Elt F) arg6.view (Rect.unit (s := S8x512) ![5, 0] S1x512.size inb_S8x512_S1x512_5_0).toLoadRect (arg6.view.rep bt)) (View.readAt (Elt F) arg6.view (Rect.unit (s := S8x512) ![6, 0] S1x512.size inb_S8x512_S1x512_6_0).toLoadRect (arg6.view.rep bt)) (View.readAt (Elt F) arg6.view (Rect.unit (s := S8x512) ![7, 0] S1x512.size inb_S8x512_S1x512_7_0).toLoadRect (arg6.view.rep bt)) (View.readAt (Elt F) arg2.view (Rect.unit (s := S8) ![0] S1.size inb_S8_S1_0).toLoadRect (arg2.view.rep ln) (Shape.Idx.first (s := S1) (by decide))) (View.readAt (Elt F) arg2.view (Rect.unit (s := S8) ![1] S1.size inb_S8_S1_1).toLoadRect (arg2.view.rep ln) (Shape.Idx.first (s := S1) (by decide))) (View.readAt (Elt F) arg2.view (Rect.unit (s := S8) ![2] S1.size inb_S8_S1_2).toLoadRect (arg2.view.rep ln) (Shape.Idx.first (s := S1) (by decide))) (View.readAt (Elt F) arg2.view (Rect.unit (s := S8) ![3] S1.size inb_S8_S1_3).toLoadRect (arg2.view.rep ln) (Shape.Idx.first (s := S1) (by decide))) (View.readAt (Elt F) arg2.view (Rect.unit (s := S8) ![4] S1.size inb_S8_S1_4).toLoadRect (arg2.view.rep ln) (Shape.Idx.first (s := S1) (by decide))) (View.readAt (Elt F) arg2.view (Rect.unit (s := S8) ![5] S1.size inb_S8_S1_5).toLoadRect (arg2.view.rep ln) (Shape.Idx.first (s := S1) (by decide))) (View.readAt (Elt F) arg2.view (Rect.unit (s := S8) ![6] S1.size inb_S8_S1_6).toLoadRect (arg2.view.rep ln) (Shape.Idx.first (s := S1) (by decide))) (View.readAt (Elt F) arg2.view (Rect.unit (s := S8) ![7] S1.size inb_S8_S1_7).toLoadRect (arg2.view.rep ln) (Shape.Idx.first (s := S1) (by decide)))) acc mm) rfl ?_
    simp only [hw0, hw1, View.readAt_rep_unit arg6.view bt inb_S8x512_S1x512_0_0 rfl inb_S8x512_S1x512_0_0, View.readAt_rep_unit arg2.view ln inb_S8_S1_0 rfl inb_S8_S1_0, View.readAt_rep_unit arg6.view bt inb_S8x512_S1x512_1_0 rfl inb_S8x512_S1x512_1_0, View.readAt_rep_unit arg2.view ln inb_S8_S1_1 rfl inb_S8_S1_1, View.readAt_rep_unit arg6.view bt inb_S8x512_S1x512_2_0 rfl inb_S8x512_S1x512_2_0, View.readAt_rep_unit arg2.view ln inb_S8_S1_2 rfl inb_S8_S1_2, View.readAt_rep_unit arg6.view bt inb_S8x512_S1x512_3_0 rfl inb_S8x512_S1x512_3_0, View.readAt_rep_unit arg2.view ln inb_S8_S1_3 rfl inb_S8_S1_3, View.readAt_rep_unit arg6.view bt inb_S8x512_S1x512_4_0 rfl inb_S8x512_S1x512_4_0, View.readAt_rep_unit arg2.view ln inb_S8_S1_4 rfl inb_S8_S1_4, View.readAt_rep_unit arg6.view bt inb_S8x512_S1x512_5_0 rfl inb_S8x512_S1x512_5_0, View.readAt_rep_unit arg2.view ln inb_S8_S1_5 rfl inb_S8_S1_5, View.readAt_rep_unit arg6.view bt inb_S8x512_S1x512_6_0 rfl inb_S8x512_S1x512_6_0, View.readAt_rep_unit arg2.view ln inb_S8_S1_6 rfl inb_S8_S1_6, View.readAt_rep_unit arg6.view bt inb_S8x512_S1x512_7_0 rfl inb_S8x512_S1x512_7_0, View.readAt_rep_unit arg2.view ln inb_S8_S1_7 rfl inb_S8_S1_7]
    rfl
  ihave H9 := pointsTo_rep_of_read c arg9 _ fullShare (stepM q k mm) ?h9 $$ H9
  case h9 =>
    rw [View.read_writes_full]
    refine Eq.trans (b := stepM q k mm) rfl ?_
    simp only [hw0, hw1, View.readAt_rep_unit arg6.view bt inb_S8x512_S1x512_0_0 rfl inb_S8x512_S1x512_0_0, View.readAt_rep_unit arg2.view ln inb_S8_S1_0 rfl inb_S8_S1_0, View.readAt_rep_unit arg6.view bt inb_S8x512_S1x512_1_0 rfl inb_S8x512_S1x512_1_0, View.readAt_rep_unit arg2.view ln inb_S8_S1_1 rfl inb_S8_S1_1, View.readAt_rep_unit arg6.view bt inb_S8x512_S1x512_2_0 rfl inb_S8x512_S1x512_2_0, View.readAt_rep_unit arg2.view ln inb_S8_S1_2 rfl inb_S8_S1_2, View.readAt_rep_unit arg6.view bt inb_S8x512_S1x512_3_0 rfl inb_S8x512_S1x512_3_0, View.readAt_rep_unit arg2.view ln inb_S8_S1_3 rfl inb_S8_S1_3, View.readAt_rep_unit arg6.view bt inb_S8x512_S1x512_4_0 rfl inb_S8x512_S1x512_4_0, View.readAt_rep_unit arg2.view ln inb_S8_S1_4 rfl inb_S8_S1_4, View.readAt_rep_unit arg6.view bt inb_S8x512_S1x512_5_0 rfl inb_S8x512_S1x512_5_0, View.readAt_rep_unit arg2.view ln inb_S8_S1_5 rfl inb_S8_S1_5, View.readAt_rep_unit arg6.view bt inb_S8x512_S1x512_6_0 rfl inb_S8x512_S1x512_6_0, View.readAt_rep_unit arg2.view ln inb_S8_S1_6 rfl inb_S8_S1_6, View.readAt_rep_unit arg6.view bt inb_S8x512_S1x512_7_0 rfl inb_S8x512_S1x512_7_0, View.readAt_rep_unit arg2.view ln inb_S8_S1_7 rfl inb_S8_S1_7]
  ihave H10 := pointsTo_rep_of_read c arg10 _ fullShare (stepL q k (cntVec i W ln bt) mm ll) ?h10 $$ H10
  case h10 =>
    rw [View.read_writes_full]
    refine Eq.trans (b := stepL q k (cntRows i (View.readAt (Elt F) arg1.view (Rect.unit (s := S2) ![0] S1.size inb_S2_S1_0).toLoadRect (arg1.view.rep W) (Shape.Idx.first (s := S1) (by decide))) (View.readAt (Elt F) arg1.view (Rect.unit (s := S2) ![1] S1.size inb_S2_S1_1).toLoadRect (arg1.view.rep W) (Shape.Idx.first (s := S1) (by decide))) (View.readAt (Elt F) arg6.view (Rect.unit (s := S8x512) ![0, 0] S1x512.size inb_S8x512_S1x512_0_0).toLoadRect (arg6.view.rep bt)) (View.readAt (Elt F) arg6.view (Rect.unit (s := S8x512) ![1, 0] S1x512.size inb_S8x512_S1x512_1_0).toLoadRect (arg6.view.rep bt)) (View.readAt (Elt F) arg6.view (Rect.unit (s := S8x512) ![2, 0] S1x512.size inb_S8x512_S1x512_2_0).toLoadRect (arg6.view.rep bt)) (View.readAt (Elt F) arg6.view (Rect.unit (s := S8x512) ![3, 0] S1x512.size inb_S8x512_S1x512_3_0).toLoadRect (arg6.view.rep bt)) (View.readAt (Elt F) arg6.view (Rect.unit (s := S8x512) ![4, 0] S1x512.size inb_S8x512_S1x512_4_0).toLoadRect (arg6.view.rep bt)) (View.readAt (Elt F) arg6.view (Rect.unit (s := S8x512) ![5, 0] S1x512.size inb_S8x512_S1x512_5_0).toLoadRect (arg6.view.rep bt)) (View.readAt (Elt F) arg6.view (Rect.unit (s := S8x512) ![6, 0] S1x512.size inb_S8x512_S1x512_6_0).toLoadRect (arg6.view.rep bt)) (View.readAt (Elt F) arg6.view (Rect.unit (s := S8x512) ![7, 0] S1x512.size inb_S8x512_S1x512_7_0).toLoadRect (arg6.view.rep bt)) (View.readAt (Elt F) arg2.view (Rect.unit (s := S8) ![0] S1.size inb_S8_S1_0).toLoadRect (arg2.view.rep ln) (Shape.Idx.first (s := S1) (by decide))) (View.readAt (Elt F) arg2.view (Rect.unit (s := S8) ![1] S1.size inb_S8_S1_1).toLoadRect (arg2.view.rep ln) (Shape.Idx.first (s := S1) (by decide))) (View.readAt (Elt F) arg2.view (Rect.unit (s := S8) ![2] S1.size inb_S8_S1_2).toLoadRect (arg2.view.rep ln) (Shape.Idx.first (s := S1) (by decide))) (View.readAt (Elt F) arg2.view (Rect.unit (s := S8) ![3] S1.size inb_S8_S1_3).toLoadRect (arg2.view.rep ln) (Shape.Idx.first (s := S1) (by decide))) (View.readAt (Elt F) arg2.view (Rect.unit (s := S8) ![4] S1.size inb_S8_S1_4).toLoadRect (arg2.view.rep ln) (Shape.Idx.first (s := S1) (by decide))) (View.readAt (Elt F) arg2.view (Rect.unit (s := S8) ![5] S1.size inb_S8_S1_5).toLoadRect (arg2.view.rep ln) (Shape.Idx.first (s := S1) (by decide))) (View.readAt (Elt F) arg2.view (Rect.unit (s := S8) ![6] S1.size inb_S8_S1_6).toLoadRect (arg2.view.rep ln) (Shape.Idx.first (s := S1) (by decide))) (View.readAt (Elt F) arg2.view (Rect.unit (s := S8) ![7] S1.size inb_S8_S1_7).toLoadRect (arg2.view.rep ln) (Shape.Idx.first (s := S1) (by decide)))) mm ll) rfl ?_
    simp only [hw0, hw1, View.readAt_rep_unit arg6.view bt inb_S8x512_S1x512_0_0 rfl inb_S8x512_S1x512_0_0, View.readAt_rep_unit arg2.view ln inb_S8_S1_0 rfl inb_S8_S1_0, View.readAt_rep_unit arg6.view bt inb_S8x512_S1x512_1_0 rfl inb_S8x512_S1x512_1_0, View.readAt_rep_unit arg2.view ln inb_S8_S1_1 rfl inb_S8_S1_1, View.readAt_rep_unit arg6.view bt inb_S8x512_S1x512_2_0 rfl inb_S8x512_S1x512_2_0, View.readAt_rep_unit arg2.view ln inb_S8_S1_2 rfl inb_S8_S1_2, View.readAt_rep_unit arg6.view bt inb_S8x512_S1x512_3_0 rfl inb_S8x512_S1x512_3_0, View.readAt_rep_unit arg2.view ln inb_S8_S1_3 rfl inb_S8_S1_3, View.readAt_rep_unit arg6.view bt inb_S8x512_S1x512_4_0 rfl inb_S8x512_S1x512_4_0, View.readAt_rep_unit arg2.view ln inb_S8_S1_4 rfl inb_S8_S1_4, View.readAt_rep_unit arg6.view bt inb_S8x512_S1x512_5_0 rfl inb_S8x512_S1x512_5_0, View.readAt_rep_unit arg2.view ln inb_S8_S1_5 rfl inb_S8_S1_5, View.readAt_rep_unit arg6.view bt inb_S8x512_S1x512_6_0 rfl inb_S8x512_S1x512_6_0, View.readAt_rep_unit arg2.view ln inb_S8_S1_6 rfl inb_S8_S1_6, View.readAt_rep_unit arg6.view bt inb_S8x512_S1x512_7_0 rfl inb_S8x512_S1x512_7_0, View.readAt_rep_unit arg2.view ln inb_S8_S1_7 rfl inb_S8_S1_7]
    rfl
  have key : ∀ v0 v1 (h : k0_chk1 i v0 v1), v0 = wx W → v1 = wy W →
      (wp frame (wpE (defs₀ (F := F)) 𝒱₀ c none) Set.univ (tailProg i arg1 harg1 arg2 harg2 arg3 harg3 arg4 harg4 arg5 harg5 arg6 harg6 arg7 harg7 arg8 harg8 arg9 harg9 arg10 harg10 arg11 harg11 arg12 harg12 arg13 arg14 (wx W) (wy W) hchk) Q
        ⊢ wp frame (wpE (defs₀ (F := F)) 𝒱₀ c none) Set.univ (tailProg i arg1 harg1 arg2 harg2 arg3 harg3 arg4 harg4 arg5 harg5 arg6 harg6 arg7 harg7 arg8 harg8 arg9 harg9 arg10 harg10 arg11 harg11 arg12 harg12 arg13 arg14 v0 v1 h) Q) := by
    intro v0 v1 h e0 e1; subst e0; subst e1; exact .rfl
  have key' := key _ _ hchk' hw0 hw1
  clear key
  unfold tailProg at key'
  iapply key'
  clear key'
  iapply HQ
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iexact H10

set_option maxHeartbeats 400000 in
/-- The same at the first grid point, where the accumulators are initialised first. -/
theorem step_zero (c : Dev nD) (i : grid0.Coords) (arg1 : Memref sig .tc .smem S2 .i32) (harg1 : arg1.IsWhole) (arg2 : Memref sig .tc .smem S8 .i32) (harg2 : arg2.IsWhole) (arg3 : Memref sig .tc .vmem S8x1x8x128 .bf16) (harg3 : arg3.IsWhole) (arg4 : Memref sig .tc .vmem S64x16x8x128 .bf16) (harg4 : arg4.IsWhole) (arg5 : Memref sig .tc .vmem S64x16x8x128 .bf16) (harg5 : arg5.IsWhole) (arg6 : Memref sig .tc .vmem S8x512 .i32) (harg6 : arg6.IsWhole) (arg7 : Memref sig .tc .vmem S8x1x8x128 .f32) (harg7 : arg7.IsWhole) (arg8 : Memref sig .tc .vmem S8x8x128 .f32) (harg8 : arg8.IsWhole) (arg9 : Memref sig .tc .vmem S8x8 .f32) (harg9 : arg9.IsWhole) (arg10 : Memref sig .tc .vmem S8x8 .f32) (harg10 : arg10.IsWhole) (arg11 : Memref sig .tc .vmem S3x8x8x128 .f32) (harg11 : arg11.IsWhole) (arg12 : Memref sig .tc .vmem S3x2x8x8 .f32) (harg12 : arg12.IsWhole) (arg13 : DmaSems sig S4) (arg14 : DmaSems sig S4) (hi0 : (Scalar.cmpi .ne (Scalar.extui (Scalar.cmpi .eq (BitVec.ofNat 32 (i 0).val) 0#32) : BitVec 32) 0#32 = 1#1))
    (W : S2.Idx → Elt F .i32) (ln : S8.Idx → Elt F .i32) (q : S8x1x8x128.Idx → Elt F .bf16) (k v : S64x16x8x128.Idx → Elt F .bf16) (bt : S8x512.Idx → Elt F .i32)
    (acc : S8x8x128.Idx → Elt F .f32) (mm ll : S8x8.Idx → Elt F .f32)
    (hchk : k0_chk1 i (wx W) (wy W))
    (Q : PUnit → sProp 𝕄) :
   iprop(((arg1.view.loc c ↦[arg1.view.set]{fullShare} arg1.view.rep W) ∗ (arg2.view.loc c ↦[arg2.view.set]{fullShare} arg2.view.rep ln) ∗ (arg3.view.loc c ↦[arg3.view.set]{fullShare} arg3.view.rep q) ∗ (arg4.view.loc c ↦[arg4.view.set]{fullShare} arg4.view.rep k) ∗ (arg5.view.loc c ↦[arg5.view.set]{fullShare} arg5.view.rep v) ∗ (arg6.view.loc c ↦[arg6.view.set]{fullShare} arg6.view.rep bt)
     ∗ (arg8.view.loc c ↦[arg8.view.set]{fullShare} arg8.view.rep acc) ∗ (arg9.view.loc c ↦[arg9.view.set]{fullShare} arg9.view.rep mm) ∗ (arg10.view.loc c ↦[arg10.view.set]{fullShare} arg10.view.rep ll))
     ∗ (((arg1.view.loc c ↦[arg1.view.set]{fullShare} arg1.view.rep W) ∗ (arg2.view.loc c ↦[arg2.view.set]{fullShare} arg2.view.rep ln) ∗ (arg3.view.loc c ↦[arg3.view.set]{fullShare} arg3.view.rep q) ∗ (arg4.view.loc c ↦[arg4.view.set]{fullShare} arg4.view.rep k) ∗ (arg5.view.loc c ↦[arg5.view.set]{fullShare} arg5.view.rep v) ∗ (arg6.view.loc c ↦[arg6.view.set]{fullShare} arg6.view.rep bt)
     ∗ (arg8.view.loc c ↦[arg8.view.set]{fullShare} arg8.view.rep (stepA q k v (cntVec i W ln bt) (k0_pay19 (F := F)) (k0_pay20 (F := F)))) ∗ (arg9.view.loc c ↦[arg9.view.set]{fullShare} arg9.view.rep (stepM q k (k0_pay20 (F := F)))) ∗ (arg10.view.loc c ↦[arg10.view.set]{fullShare} arg10.view.rep (stepL q k (cntVec i W ln bt) (k0_pay20 (F := F)) (k0_pay21 (F := F)))))
      -∗ wp frame (wpE (defs₀ (F := F)) 𝒱₀ c none) Set.univ (tailProg i arg1 harg1 arg2 harg2 arg3 harg3 arg4 harg4 arg5 harg5 arg6 harg6 arg7 harg7 arg8 harg8 arg9 harg9 arg10 harg10 arg11 harg11 arg12 harg12 arg13 arg14 (wx W) (wy W) hchk) Q))
    ⊢ wp frame (wpE (defs₀ (F := F)) 𝒱₀ c none) Set.univ (cc0_body i arg1 harg1 arg2 harg2 arg3 harg3 arg4 harg4 arg5 harg5 arg6 harg6 arg7 harg7 arg8 harg8 arg9 harg9 arg10 harg10 arg11 harg11 arg12 harg12 arg13 arg14) Q := by
  have hw0 : View.readAt (Elt F) arg1.view (Rect.unit (s := S2) ![0] S1.size inb_S2_S1_0).toLoadRect (arg1.view.rep W) (Shape.Idx.first (s := S1) (by decide)) = wx W := by
    rw [View.readAt_rep_unit (inb' := inb_S2_S1_0) (h := rfl)]; rfl
  have hw1 : View.readAt (Elt F) arg1.view (Rect.unit (s := S2) ![1] S1.size inb_S2_S1_1).toLoadRect (arg1.view.rep W) (Shape.Idx.first (s := S1) (by decide)) = wy W := by
    rw [View.readAt_rep_unit (inb' := inb_S2_S1_1) (h := rfl)]; rfl
  have hchk' := hchk
  rw [← hw0, ← hw1] at hchk'
  have hq : View.readAt (Elt F) arg3.view (Rect.unit (s := S8x1x8x128) ![0, 0, 0, 0] S8x1x8x128.size inb_S8x1x8x128_S8x1x8x128_0_0_0_0).toLoadRect (arg3.view.rep q) = q :=
    View.readAt_rep_full _ _ _
  have hk : View.readAt (Elt F) arg4.view (Rect.unit (s := S64x16x8x128) ![0, 0, 0, 0] S64x16x8x128.size inb_S64x16x8x128_S64x16x8x128_0_0_0_0).toLoadRect (arg4.view.rep k) = k :=
    View.readAt_rep_full _ _ _
  have hv : View.readAt (Elt F) arg5.view (Rect.unit (s := S64x16x8x128) ![0, 0, 0, 0] S64x16x8x128.size inb_S64x16x8x128_S64x16x8x128_0_0_0_0).toLoadRect (arg5.view.rep v) = v :=
    View.readAt_rep_full _ _ _
  have ha : View.readAt (Elt F) arg8.view (Rect.unit (s := S8x8x128) ![0, 0, 0] S8x8x128.size inb_S8x8x128_S8x8x128_0_0_0).toLoadRect (arg8.view.rep acc) = acc :=
    View.readAt_rep_full _ _ _
  have hm : View.readAt (Elt F) arg9.view (Rect.unit (s := S8x8) ![0, 0] S8x8.size inb_S8x8_S8x8_0_0).toLoadRect (arg9.view.rep mm) = mm :=
    View.readAt_rep_full _ _ _
  have hl : View.readAt (Elt F) arg10.view (Rect.unit (s := S8x8) ![0, 0] S8x8.size inb_S8x8_S8x8_0_0).toLoadRect (arg10.view.rep ll) = ll :=
    View.readAt_rep_full _ _ _
  iintro ⟨⟨H1, H2, H3, H4, H5, H6, H8, H9, H10⟩, HQ⟩
  rw [cc0_body_eq_skeleton]; unfold cc0_body_skel
  rw [k0_part8_eq_skeleton, k0_part9_eq_skeleton, k0_part10_eq_skeleton, k0_part11_eq_skeleton, k0_part12_eq_skeleton, k0_part13_eq_skeleton, k0_part14_eq_skeleton]
  sl_exec
  have z8 : step_zero.sl.v306 (F := F) arg8 = k0_pay19 := by unfold step_zero.sl.v306; exact View.readCov_full _ _ _ _ _
  have z9 : step_zero.sl.v238 (F := F) arg9 = k0_pay20 := by unfold step_zero.sl.v238; exact View.readCov_full _ _ _ _ _
  have z10 : step_zero.sl.v250 (F := F) arg10 = k0_pay21 := by unfold step_zero.sl.v250; exact View.readCov_full _ _ _ _ _
  ihave H8 := pointsTo_rep_of_read c arg8 _ fullShare (stepA q k v (cntVec i W ln bt) (k0_pay19 (F := F)) (k0_pay20 (F := F))) ?h8 $$ H8
  case h8 =>
    rw [View.read_writes_full]
    refine Eq.trans (b := stepA q k v (cntRows i (View.readAt (Elt F) arg1.view (Rect.unit (s := S2) ![0] S1.size inb_S2_S1_0).toLoadRect (arg1.view.rep W) (Shape.Idx.first (s := S1) (by decide))) (View.readAt (Elt F) arg1.view (Rect.unit (s := S2) ![1] S1.size inb_S2_S1_1).toLoadRect (arg1.view.rep W) (Shape.Idx.first (s := S1) (by decide))) (View.readAt (Elt F) arg6.view (Rect.unit (s := S8x512) ![0, 0] S1x512.size inb_S8x512_S1x512_0_0).toLoadRect (arg6.view.rep bt)) (View.readAt (Elt F) arg6.view (Rect.unit (s := S8x512) ![1, 0] S1x512.size inb_S8x512_S1x512_1_0).toLoadRect (arg6.view.rep bt)) (View.readAt (Elt F) arg6.view (Rect.unit (s := S8x512) ![2, 0] S1x512.size inb_S8x512_S1x512_2_0).toLoadRect (arg6.view.rep bt)) (View.readAt (Elt F) arg6.view (Rect.unit (s := S8x512) ![3, 0] S1x512.size inb_S8x512_S1x512_3_0).toLoadRect (arg6.view.rep bt)) (View.readAt (Elt F) arg6.view (Rect.unit (s := S8x512) ![4, 0] S1x512.size inb_S8x512_S1x512_4_0).toLoadRect (arg6.view.rep bt)) (View.readAt (Elt F) arg6.view (Rect.unit (s := S8x512) ![5, 0] S1x512.size inb_S8x512_S1x512_5_0).toLoadRect (arg6.view.rep bt)) (View.readAt (Elt F) arg6.view (Rect.unit (s := S8x512) ![6, 0] S1x512.size inb_S8x512_S1x512_6_0).toLoadRect (arg6.view.rep bt)) (View.readAt (Elt F) arg6.view (Rect.unit (s := S8x512) ![7, 0] S1x512.size inb_S8x512_S1x512_7_0).toLoadRect (arg6.view.rep bt)) (View.readAt (Elt F) arg2.view (Rect.unit (s := S8) ![0] S1.size inb_S8_S1_0).toLoadRect (arg2.view.rep ln) (Shape.Idx.first (s := S1) (by decide))) (View.readAt (Elt F) arg2.view (Rect.unit (s := S8) ![1] S1.size inb_S8_S1_1).toLoadRect (arg2.view.rep ln) (Shape.Idx.first (s := S1) (by decide))) (View.readAt (Elt F) arg2.view (Rect.unit (s := S8) ![2] S1.size inb_S8_S1_2).toLoadRect (arg2.view.rep ln) (Shape.Idx.first (s := S1) (by decide))) (View.readAt (Elt F) arg2.view (Rect.unit (s := S8) ![3] S1.size inb_S8_S1_3).toLoadRect (arg2.view.rep ln) (Shape.Idx.first (s := S1) (by decide))) (View.readAt (Elt F) arg2.view (Rect.unit (s := S8) ![4] S1.size inb_S8_S1_4).toLoadRect (arg2.view.rep ln) (Shape.Idx.first (s := S1) (by decide))) (View.readAt (Elt F) arg2.view (Rect.unit (s := S8) ![5] S1.size inb_S8_S1_5).toLoadRect (arg2.view.rep ln) (Shape.Idx.first (s := S1) (by decide))) (View.readAt (Elt F) arg2.view (Rect.unit (s := S8) ![6] S1.size inb_S8_S1_6).toLoadRect (arg2.view.rep ln) (Shape.Idx.first (s := S1) (by decide))) (View.readAt (Elt F) arg2.view (Rect.unit (s := S8) ![7] S1.size inb_S8_S1_7).toLoadRect (arg2.view.rep ln) (Shape.Idx.first (s := S1) (by decide)))) (step_zero.sl.v306 arg8) (step_zero.sl.v238 arg9)) rfl ?_
    simp only [z8, z9, z10, hw0, hw1, View.readAt_rep_unit arg6.view bt inb_S8x512_S1x512_0_0 rfl inb_S8x512_S1x512_0_0, View.readAt_rep_unit arg2.view ln inb_S8_S1_0 rfl inb_S8_S1_0, View.readAt_rep_unit arg6.view bt inb_S8x512_S1x512_1_0 rfl inb_S8x512_S1x512_1_0, View.readAt_rep_unit arg2.view ln inb_S8_S1_1 rfl inb_S8_S1_1, View.readAt_rep_unit arg6.view bt inb_S8x512_S1x512_2_0 rfl inb_S8x512_S1x512_2_0, View.readAt_rep_unit arg2.view ln inb_S8_S1_2 rfl inb_S8_S1_2, View.readAt_rep_unit arg6.view bt inb_S8x512_S1x512_3_0 rfl inb_S8x512_S1x512_3_0, View.readAt_rep_unit arg2.view ln inb_S8_S1_3 rfl inb_S8_S1_3, View.readAt_rep_unit arg6.view bt inb_S8x512_S1x512_4_0 rfl inb_S8x512_S1x512_4_0, View.readAt_rep_unit arg2.view ln inb_S8_S1_4 rfl inb_S8_S1_4, View.readAt_rep_unit arg6.view bt inb_S8x512_S1x512_5_0 rfl inb_S8x512_S1x512_5_0, View.readAt_rep_unit arg2.view ln inb_S8_S1_5 rfl inb_S8_S1_5, View.readAt_rep_unit arg6.view bt inb_S8x512_S1x512_6_0 rfl inb_S8x512_S1x512_6_0, View.readAt_rep_unit arg2.view ln inb_S8_S1_6 rfl inb_S8_S1_6, View.readAt_rep_unit arg6.view bt inb_S8x512_S1x512_7_0 rfl inb_S8x512_S1x512_7_0, View.readAt_rep_unit arg2.view ln inb_S8_S1_7 rfl inb_S8_S1_7]
    rfl
  ihave H9 := pointsTo_rep_of_read c arg9 _ fullShare (stepM q k (k0_pay20 (F := F))) ?h9 $$ H9
  case h9 =>
    rw [View.read_writes_full]
    refine Eq.trans (b := stepM q k (step_zero.sl.v238 arg9)) rfl ?_
    simp only [z8, z9, z10, hw0, hw1, View.readAt_rep_unit arg6.view bt inb_S8x512_S1x512_0_0 rfl inb_S8x512_S1x512_0_0, View.readAt_rep_unit arg2.view ln inb_S8_S1_0 rfl inb_S8_S1_0, View.readAt_rep_unit arg6.view bt inb_S8x512_S1x512_1_0 rfl inb_S8x512_S1x512_1_0, View.readAt_rep_unit arg2.view ln inb_S8_S1_1 rfl inb_S8_S1_1, View.readAt_rep_unit arg6.view bt inb_S8x512_S1x512_2_0 rfl inb_S8x512_S1x512_2_0, View.readAt_rep_unit arg2.view ln inb_S8_S1_2 rfl inb_S8_S1_2, View.readAt_rep_unit arg6.view bt inb_S8x512_S1x512_3_0 rfl inb_S8x512_S1x512_3_0, View.readAt_rep_unit arg2.view ln inb_S8_S1_3 rfl inb_S8_S1_3, View.readAt_rep_unit arg6.view bt inb_S8x512_S1x512_4_0 rfl inb_S8x512_S1x512_4_0, View.readAt_rep_unit arg2.view ln inb_S8_S1_4 rfl inb_S8_S1_4, View.readAt_rep_unit arg6.view bt inb_S8x512_S1x512_5_0 rfl inb_S8x512_S1x512_5_0, View.readAt_rep_unit arg2.view ln inb_S8_S1_5 rfl inb_S8_S1_5, View.readAt_rep_unit arg6.view bt inb_S8x512_S1x512_6_0 rfl inb_S8x512_S1x512_6_0, View.readAt_rep_unit arg2.view ln inb_S8_S1_6 rfl inb_S8_S1_6, View.readAt_rep_unit arg6.view bt inb_S8x512_S1x512_7_0 rfl inb_S8x512_S1x512_7_0, View.readAt_rep_unit arg2.view ln inb_S8_S1_7 rfl inb_S8_S1_7]
  ihave H10 := pointsTo_rep_of_read c arg10 _ fullShare (stepL q k (cntVec i W ln bt) (k0_pay20 (F := F)) (k0_pay21 (F := F))) ?h10 $$ H10
  case h10 =>
    rw [View.read_writes_full]
    refine Eq.trans (b := stepL q k (cntRows i (View.readAt (Elt F) arg1.view (Rect.unit (s := S2) ![0] S1.size inb_S2_S1_0).toLoadRect (arg1.view.rep W) (Shape.Idx.first (s := S1) (by decide))) (View.readAt (Elt F) arg1.view (Rect.unit (s := S2) ![1] S1.size inb_S2_S1_1).toLoadRect (arg1.view.rep W) (Shape.Idx.first (s := S1) (by decide))) (View.readAt (Elt F) arg6.view (Rect.unit (s := S8x512) ![0, 0] S1x512.size inb_S8x512_S1x512_0_0).toLoadRect (arg6.view.rep bt)) (View.readAt (Elt F) arg6.view (Rect.unit (s := S8x512) ![1, 0] S1x512.size inb_S8x512_S1x512_1_0).toLoadRect (arg6.view.rep bt)) (View.readAt (Elt F) arg6.view (Rect.unit (s := S8x512) ![2, 0] S1x512.size inb_S8x512_S1x512_2_0).toLoadRect (arg6.view.rep bt)) (View.readAt (Elt F) arg6.view (Rect.unit (s := S8x512) ![3, 0] S1x512.size inb_S8x512_S1x512_3_0).toLoadRect (arg6.view.rep bt)) (View.readAt (Elt F) arg6.view (Rect.unit (s := S8x512) ![4, 0] S1x512.size inb_S8x512_S1x512_4_0).toLoadRect (arg6.view.rep bt)) (View.readAt (Elt F) arg6.view (Rect.unit (s := S8x512) ![5, 0] S1x512.size inb_S8x512_S1x512_5_0).toLoadRect (arg6.view.rep bt)) (View.readAt (Elt F) arg6.view (Rect.unit (s := S8x512) ![6, 0] S1x512.size inb_S8x512_S1x512_6_0).toLoadRect (arg6.view.rep bt)) (View.readAt (Elt F) arg6.view (Rect.unit (s := S8x512) ![7, 0] S1x512.size inb_S8x512_S1x512_7_0).toLoadRect (arg6.view.rep bt)) (View.readAt (Elt F) arg2.view (Rect.unit (s := S8) ![0] S1.size inb_S8_S1_0).toLoadRect (arg2.view.rep ln) (Shape.Idx.first (s := S1) (by decide))) (View.readAt (Elt F) arg2.view (Rect.unit (s := S8) ![1] S1.size inb_S8_S1_1).toLoadRect (arg2.view.rep ln) (Shape.Idx.first (s := S1) (by decide))) (View.readAt (Elt F) arg2.view (Rect.unit (s := S8) ![2] S1.size inb_S8_S1_2).toLoadRect (arg2.view.rep ln) (Shape.Idx.first (s := S1) (by decide))) (View.readAt (Elt F) arg2.view (Rect.unit (s := S8) ![3] S1.size inb_S8_S1_3).toLoadRect (arg2.view.rep ln) (Shape.Idx.first (s := S1) (by decide))) (View.readAt (Elt F) arg2.view (Rect.unit (s := S8) ![4] S1.size inb_S8_S1_4).toLoadRect (arg2.view.rep ln) (Shape.Idx.first (s := S1) (by decide))) (View.readAt (Elt F) arg2.view (Rect.unit (s := S8) ![5] S1.size inb_S8_S1_5).toLoadRect (arg2.view.rep ln) (Shape.Idx.first (s := S1) (by decide))) (View.readAt (Elt F) arg2.view (Rect.unit (s := S8) ![6] S1.size inb_S8_S1_6).toLoadRect (arg2.view.rep ln) (Shape.Idx.first (s := S1) (by decide))) (View.readAt (Elt F) arg2.view (Rect.unit (s := S8) ![7] S1.size inb_S8_S1_7).toLoadRect (arg2.view.rep ln) (Shape.Idx.first (s := S1) (by decide)))) (step_zero.sl.v238 arg9) (step_zero.sl.v250 arg10)) rfl ?_
    simp only [z8, z9, z10, hw0, hw1, View.readAt_rep_unit arg6.view bt inb_S8x512_S1x512_0_0 rfl inb_S8x512_S1x512_0_0, View.readAt_rep_unit arg2.view ln inb_S8_S1_0 rfl inb_S8_S1_0, View.readAt_rep_unit arg6.view bt inb_S8x512_S1x512_1_0 rfl inb_S8x512_S1x512_1_0, View.readAt_rep_unit arg2.view ln inb_S8_S1_1 rfl inb_S8_S1_1, View.readAt_rep_unit arg6.view bt inb_S8x512_S1x512_2_0 rfl inb_S8x512_S1x512_2_0, View.readAt_rep_unit arg2.view ln inb_S8_S1_2 rfl inb_S8_S1_2, View.readAt_rep_unit arg6.view bt inb_S8x512_S1x512_3_0 rfl inb_S8x512_S1x512_3_0, View.readAt_rep_unit arg2.view ln inb_S8_S1_3 rfl inb_S8_S1_3, View.readAt_rep_unit arg6.view bt inb_S8x512_S1x512_4_0 rfl inb_S8x512_S1x512_4_0, View.readAt_rep_unit arg2.view ln inb_S8_S1_4 rfl inb_S8_S1_4, View.readAt_rep_unit arg6.view bt inb_S8x512_S1x512_5_0 rfl inb_S8x512_S1x512_5_0, View.readAt_rep_unit arg2.view ln inb_S8_S1_5 rfl inb_S8_S1_5, View.readAt_rep_unit arg6.view bt inb_S8x512_S1x512_6_0 rfl inb_S8x512_S1x512_6_0, View.readAt_rep_unit arg2.view ln inb_S8_S1_6 rfl inb_S8_S1_6, View.readAt_rep_unit arg6.view bt inb_S8x512_S1x512_7_0 rfl inb_S8x512_S1x512_7_0, View.readAt_rep_unit arg2.view ln inb_S8_S1_7 rfl inb_S8_S1_7]
    rfl
  have key : ∀ v0 v1 (h : k0_chk1 i v0 v1), v0 = wx W → v1 = wy W →
      (wp frame (wpE (defs₀ (F := F)) 𝒱₀ c none) Set.univ (tailProg i arg1 harg1 arg2 harg2 arg3 harg3 arg4 harg4 arg5 harg5 arg6 harg6 arg7 harg7 arg8 harg8 arg9 harg9 arg10 harg10 arg11 harg11 arg12 harg12 arg13 arg14 (wx W) (wy W) hchk) Q
        ⊢ wp frame (wpE (defs₀ (F := F)) 𝒱₀ c none) Set.univ (tailProg i arg1 harg1 arg2 harg2 arg3 harg3 arg4 harg4 arg5 harg5 arg6 harg6 arg7 harg7 arg8 harg8 arg9 harg9 arg10 harg10 arg11 harg11 arg12 harg12 arg13 arg14 v0 v1 h) Q) := by
    intro v0 v1 h e0 e1; subst e0; subst e1; exact .rfl
  have key' := key _ _ hchk' hw0 hw1
  clear key
  unfold tailProg at key'
  iapply key'
  clear key'
  iapply HQ
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iexact H10

end Cert.KProof
end
-- ==== Proof.Talk.lean ====
module

public import proofs.«01_k».proof.Proof.Step
public import Idealize.ShloMosaic.Lib.Rounds
public import Idealize.ShloMosaic.Lib.ValueIdxCore

/-!
# The exchange: who hands what to whom

Device `c = 2 x + y` of the 2 × 2 mesh talks to its two neighbours, `px c = 2 (1 - x) + y` and `py c = 2 x + (1 - y)`, at the last
grid point. Its semaphores:

* the barrier, one unit from either neighbour, waited for as two. `px c`'s unit hands `c` the landing slots 1 of `px c`, and `py c`'s
  the landing slots 2 of `py c`;
* four send semaphores and four receive semaphores, two a phase (one for the weighted sums, one for the statistics). A send semaphore
  gives back the sender's own slot 0, a receive semaphore the device's own landing slot, with what the neighbour had in its slot 0.

In phase 1 slot 0 holds what the device folded from its own chunks (`lA`, `lM`, `lL`), in phase 2 what it made of that and of
`px c`'s (`cA`, `cM`, `cL`).
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Neighbours, slots, cells -/

/-- The neighbour along the first mesh axis. -/
def px (c : Dev nD) : Dev nD := ⟨(c.val + 2) % 4, Nat.mod_lt _ (by decide)⟩
/-- The neighbour along the second mesh axis. -/
def py (c : Dev nD) : Dev nD := ⟨2 * (c.val / 2) + (c.val + 1) % 2, by have := c.isLt; revert this; generalize c.val = v; decide +revert⟩

/-- The neighbour's neighbour along the first axis is the device. -/
theorem px_px (c : Dev nD) : px (px c) = c := by revert c; decide
/-- The neighbour's neighbour along the second axis is the device. -/
theorem py_py (c : Dev nD) : py (py c) = c := by revert c; decide
/-- The two neighbours differ. -/
theorem px_ne_py (c : Dev nD) : px c ≠ py c := by revert c; decide

/-- The two involutions as permutations of the devices. -/
def swapX : Dev nD ≃ Dev nD := ⟨px, px, px_px, px_px⟩
/-- The same along the second axis. -/
def swapY : Dev nD ≃ Dev nD := ⟨py, py, py_py, py_py⟩

/-- The buffer of weighted sums. -/
abbrev aM : Memref sig .tc .vmem S3x8x8x128 .f32 := Memref.whole cc0_scratch3
/-- The buffer of statistics. -/
abbrev sM : Memref sig .tc .vmem S3x2x8x8 .f32 := Memref.whole cc0_scratch4

/-- Slots 0, 1, 2 of the buffer of weighted sums. -/
abbrev aS0 : Memref sig .tc .vmem S8x8x128 .f32 := (aM.slice (Rect.unit (s := S3x8x8x128) ![0, 0, 0, 0] S1x8x8x128.size inb_S3x8x8x128_S1x8x8x128_0_0_0_0) (fun _ => rfl)).squeeze S8x8x128 squeezes_S1x8x8x128_S8x8x128
/-- Slot 1 of the sums. -/
abbrev aS1 : Memref sig .tc .vmem S8x8x128 .f32 := (aM.slice (Rect.unit (s := S3x8x8x128) ![1, 0, 0, 0] S1x8x8x128.size inb_S3x8x8x128_S1x8x8x128_1_0_0_0) (fun _ => rfl)).squeeze S8x8x128 squeezes_S1x8x8x128_S8x8x128
/-- Slot 2 of the sums. -/
abbrev aS2 : Memref sig .tc .vmem S8x8x128 .f32 := (aM.slice (Rect.unit (s := S3x8x8x128) ![2, 0, 0, 0] S1x8x8x128.size inb_S3x8x8x128_S1x8x8x128_2_0_0_0) (fun _ => rfl)).squeeze S8x8x128 squeezes_S1x8x8x128_S8x8x128
/-- Slots 0, 1, 2 of the buffer of statistics (maximum and sum). -/
abbrev sS0 : Memref sig .tc .vmem S2x8x8 .f32 := (sM.slice (Rect.unit (s := S3x2x8x8) ![0, 0, 0, 0] S1x2x8x8.size inb_S3x2x8x8_S1x2x8x8_0_0_0_0) (fun _ => rfl)).squeeze S2x8x8 squeezes_S1x2x8x8_S2x8x8
/-- Slot 1 of the statistics. -/
abbrev sS1 : Memref sig .tc .vmem S2x8x8 .f32 := (sM.slice (Rect.unit (s := S3x2x8x8) ![1, 0, 0, 0] S1x2x8x8.size inb_S3x2x8x8_S1x2x8x8_1_0_0_0) (fun _ => rfl)).squeeze S2x8x8 squeezes_S1x2x8x8_S2x8x8
/-- Slot 2 of the statistics. -/
abbrev sS2 : Memref sig .tc .vmem S2x8x8 .f32 := (sM.slice (Rect.unit (s := S3x2x8x8) ![2, 0, 0, 0] S1x2x8x8.size inb_S3x2x8x8_S1x2x8x8_2_0_0_0) (fun _ => rfl)).squeeze S2x8x8 squeezes_S1x2x8x8_S2x8x8

/-- The barrier semaphore. -/
abbrev barS : Sem sig := (SemArray.scalar (sig.barrier 0 rfl) : Sems sig S_).sem
/-- Send semaphore 0. -/
abbrev snd0 : DmaSem sig := ((cc0_scratch5.slice (Rect.unit (s := S4) ![0] S1.size inb_S4_S1_0)).squeeze S_ squeezes_S1_S_).sem
/-- Send semaphore 1. -/
abbrev snd1 : DmaSem sig := ((cc0_scratch5.slice (Rect.unit (s := S4) ![1] S1.size inb_S4_S1_1)).squeeze S_ squeezes_S1_S_).sem
/-- Send semaphore 2. -/
abbrev snd2 : DmaSem sig := ((cc0_scratch5.slice (Rect.unit (s := S4) ![2] S1.size inb_S4_S1_2)).squeeze S_ squeezes_S1_S_).sem
/-- Send semaphore 3. -/
abbrev snd3 : DmaSem sig := ((cc0_scratch5.slice (Rect.unit (s := S4) ![3] S1.size inb_S4_S1_3)).squeeze S_ squeezes_S1_S_).sem
/-- Receive semaphore 0. -/
abbrev rcv0 : DmaSem sig := ((cc0_scratch6.slice (Rect.unit (s := S4) ![0] S1.size inb_S4_S1_0)).squeeze S_ squeezes_S1_S_).sem
/-- Receive semaphore 1. -/
abbrev rcv1 : DmaSem sig := ((cc0_scratch6.slice (Rect.unit (s := S4) ![1] S1.size inb_S4_S1_1)).squeeze S_ squeezes_S1_S_).sem
/-- Receive semaphore 2. -/
abbrev rcv2 : DmaSem sig := ((cc0_scratch6.slice (Rect.unit (s := S4) ![2] S1.size inb_S4_S1_2)).squeeze S_ squeezes_S1_S_).sem
/-- Receive semaphore 3. -/
abbrev rcv3 : DmaSem sig := ((cc0_scratch6.slice (Rect.unit (s := S4) ![3] S1.size inb_S4_S1_3)).squeeze S_ squeezes_S1_S_).sem

/-- The call's own semaphores: four send, four receive. -/
abbrev osem : Fin 8 → SemLoc sig := fun
  | 0 => .dma snd0 | 1 => .dma snd1 | 2 => .dma snd2 | 3 => .dma snd3
  | 4 => .dma rcv0 | 5 => .dma rcv1 | 6 => .dma rcv2 | 7 => .dma rcv3

/-- The transfer semaphores differ, -/
theorem osem_inj : Function.Injective osem := by decide
/-- and none is the barrier. -/
theorem osem_ne_bar : ∀ k : Fin 8, osem k ≠ .reg barS := by decide

/-- Which of the call's own semaphores this is. -/
def oIdx : SemLoc sig → Fin 8
  | .dma q => ⟨(q.val - 7) % 8, Nat.mod_lt _ (by decide)⟩
  | .reg _ => 0
/-- The number of a transfer semaphore. -/
theorem oIdx_osem : ∀ k : Fin 8, oIdx (osem k) = k := by decide
/-- One of the call's own semaphores. -/
abbrev IsOwn (sm : SemLoc sig) : Prop := ∃ k : Fin 8, sm = osem k

/-- The barrier cell of device `c`. -/
abbrev barCell (c : Dev nD) : GSem nD τ sig := ((c : Thread nD τ), .reg barS)
/-- Its transfer cell `k`. -/
abbrev oCell (c : Dev nD) (k : Fin 8) : GSem nD τ sig := ((c : Thread nD τ), osem k)

/-- The credit of a copy of a slot of weighted sums, and of a slot of statistics. -/
abbrev NA : ℕ := (aS0 : Memref sig .tc .vmem S8x8x128 .f32).view.dmaCredit
/-- The credit of a copy of a slot of statistics. -/
abbrev NS : ℕ := (sS0 : Memref sig .tc .vmem S2x8x8 .f32).view.dmaCredit
/-- A copy of sums has credit. -/
theorem NA_pos : 0 < NA := View.dmaCredit_pos _ (by decide)
/-- A copy of statistics has credit. -/
theorem NS_pos : 0 < NS := View.dmaCredit_pos _ (by decide)
/-- The credit of own semaphore `k`: the even ones carry the weighted sums. -/
def oAmt : Fin 8 → ℕ := fun | 0 => NA | 1 => NS | 2 => NA | 3 => NS | 4 => NA | 5 => NS | 6 => NA | 7 => NS
/-- Every transfer cell gets something. -/
theorem oAmt_pos : ∀ k, 0 < oAmt k := fun k => by
  match k with
  | 0 => exact NA_pos
  | 1 => exact NS_pos
  | 2 => exact NA_pos
  | 3 => exact NS_pos
  | 4 => exact NA_pos
  | 5 => exact NS_pos
  | 6 => exact NA_pos
  | 7 => exact NS_pos

/-! ## Contents -/

section Contents
variable {α : Type}

/-- The two statistics, one above the other. -/
def stk (M L : S8x8.Idx → α) : S2x8x8.Idx → α := fun i => if (i 0).val = 0 then M (ValueIdx.ix2 (n0 := 8) (n1 := 8) (i 1) (i 2)) else L (ValueIdx.ix2 (n0 := 8) (n1 := 8) (i 1) (i 2))
end Contents

/-- A slot of sums in the shape in which it is loaded. -/
abbrev exA (A : S8x8x128.Idx → Elt F .f32) : S1x8x8x128.Idx → Elt F .f32 := shapeCast S1x8x8x128 A (by decide)
/-- A statistic in the shape in which it is loaded. -/
abbrev exS (M : S8x8.Idx → Elt F .f32) : S1x1x8x8.Idx → Elt F .f32 := shapeCast S1x1x8x8 M (by decide)

/-- The maximum of two partial results. -/
def cmbM (M M' : S8x8.Idx → Elt F .f32) : S8x8.Idx → Elt F .f32 := k0_pay7 (exS M) (exS M')
/-- The sum of weights of two partial results. -/
def cmbL (M L M' L' : S8x8.Idx → Elt F .f32) : S8x8.Idx → Elt F .f32 := k0_pay10 (exS M) (exS L) (exS M') (exS L')
/-- The weighted sum of two partial results, as it is stored. -/
def cmbA1 (M : S8x8.Idx → Elt F .f32) (A : S8x8x128.Idx → Elt F .f32) (M' : S8x8.Idx → Elt F .f32) (A' : S8x8x128.Idx → Elt F .f32) : S1x8x8x128.Idx → Elt F .f32 :=
  k0_pay14 (k0_pay11 (exS M) (exS M') (exA A)) (k0_pay12 (exA A')) (k0_pay13 (exS M) (exS M'))
/-- The weighted sum of two partial results. -/
def cmbA (M : S8x8.Idx → Elt F .f32) (A : S8x8x128.Idx → Elt F .f32) (M' : S8x8.Idx → Elt F .f32) (A' : S8x8x128.Idx → Elt F .f32) : S8x8x128.Idx → Elt F .f32 :=
  shapeCast S8x8x128 (cmbA1 M A M' A') (by decide)
/-- The result from two partial results. -/
def outOf (M L : S8x8.Idx → Elt F .f32) (A : S8x8x128.Idx → Elt F .f32) (M' L' : S8x8.Idx → Elt F .f32) (A' : S8x8x128.Idx → Elt F .f32) : S8x1x8x128.Idx → Elt F .f32 :=
  k0_pay1 (k0_pay17 (exS M)) (k0_pay18 (exS L)) (exS M') (exS L') (exA A) (exA A')

/-! ## The schedule -/

/-- A slot of device `c` that holds `X`. -/
abbrev holdA (M : Memref sig .tc .vmem S8x8x128 .f32) (c : Dev nD) (X : S8x8x128.Idx → Elt F .f32) : sProp 𝕄 :=
  (M.view.loc (c : Thread nD τ) ↦[M.view.set]{fullShare} M.view.rep X)
/-- The same for a slot of statistics. -/
abbrev holdS (M : Memref sig .tc .vmem S2x8x8 .f32) (c : Dev nD) (X : S2x8x8.Idx → Elt F .f32) : sProp 𝕄 :=
  (M.view.loc (c : Thread nD τ) ↦[M.view.set]{fullShare} M.view.rep X)
/-- A slot of device `c` at contents not chosen. -/
abbrev anyA (M : Memref sig .tc .vmem S8x8x128 .f32) (c : Dev nD) : sProp 𝕄 :=
  iprop(∃ f : Buf (Elt F) (M.view.loc (c : Thread nD τ)), M.view.loc (c : Thread nD τ) ↦[M.view.set]{fullShare} f)
/-- The same for a slot of statistics. -/
abbrev anyS (M : Memref sig .tc .vmem S2x8x8 .f32) (c : Dev nD) : sProp 𝕄 :=
  iprop(∃ f : Buf (Elt F) (M.view.loc (c : Thread nD τ)), M.view.loc (c : Thread nD τ) ↦[M.view.set]{fullShare} f)

/-- What a neighbour's barrier unit hands over: its landing slots of that phase, and that its receive cells are open. -/
def barPay (d : Fin 2) (c : Dev nD) : sProp 𝕄 :=
  match d with
  | 0 => iprop(anyA aS1 (px c) ∗ anyS sS1 (px c) ∗ reached ER (oCell (px c) 4) 0 ∗ reached ER (oCell (px c) 5) 0)
  | 1 => iprop(anyA aS2 (py c) ∗ anyS sS2 (py c) ∗ reached ER (oCell (py c) 6) 0 ∗ reached ER (oCell (py c) 7) 0)

section Sched

-- what every device has folded from its own chunks: the weighted sums, the maxima, the sums of weights
variable (lA : Dev nD → S8x8x128.Idx → Elt F .f32) (lM lL : Dev nD → S8x8.Idx → Elt F .f32)

/-- The same after phase 1. -/
def cA (c : Dev nD) : S8x8x128.Idx → Elt F .f32 := cmbA (lM c) (lA c) (lM (px c)) (lA (px c))
/-- The maxima after the first phase. -/
def cM (c : Dev nD) : S8x8.Idx → Elt F .f32 := cmbM (lM c) (lM (px c))
/-- The denominators after the first phase. -/
def cL (c : Dev nD) : S8x8.Idx → Elt F .f32 := cmbL (lM c) (lL c) (lM (px c)) (lL (px c))
/-- The result after phase 2. -/
def cOut (c : Dev nD) : S8x1x8x128.Idx → Elt F .f32 :=
  outOf (cM lM c) (cL lM lL c) (cA lA lM c) (cM lM (py c)) (cL lM lL (py c)) (cA lA lM (py c))

/-- What own semaphore `k` of device `c` hands over. -/
def oPay (k : Fin 8) (c : Dev nD) : sProp 𝕄 :=
  match k with
  | 0 => holdA aS0 c (lA c)
  | 1 => holdS sS0 c (stk (lM c) (lL c))
  | 2 => holdA aS0 c (cA lA lM c)
  | 3 => holdS sS0 c (stk (cM lM c) (cL lM lL c))
  | 4 => holdA aS1 c (lA (px c))
  | 5 => holdS sS1 c (stk (lM (px c)) (lL (px c)))
  | 6 => holdA aS2 c (cA lA lM (py c))
  | 7 => holdS sS2 c (stk (cM lM (py c)) (cL lM lL (py c)))

open Classical in
/-- One round: two units on every barrier, one copy on every own semaphore. -/
def talkRd : Rounds.Schedule (GSem nD τ sig) (Fin 2) 𝕄 where
  duties g r := if r = 0 ∧ g.1.2 = .tc ∧ g.2 = .reg barS then {0, 1} else if r = 0 ∧ g.1.2 = .tc ∧ IsOwn g.2 then {0} else ∅
  unitless _ := False
  amount g _ _ := if g.2 = .reg barS then 1 else oAmt (oIdx g.2)
  payload g _ d := if g.2 = .reg barS then barPay d g.1.1 else oPay lA lM lL (oIdx g.2) g.1.1
  amount_pos g _ _ _ := by
    split
    · exact Nat.one_pos
    · exact oAmt_pos _

set_option synthInstance.maxHeartbeats 400000 in
instance talkRd_payload_storable (g : GSem nD τ sig) (r : ℕ) (d : Fin 2) :
    BI.Storable (upEmb : UEmb _ 𝕄) ((talkRd (F := F) lA lM lL).payload g r d) := by
  show BI.Storable upEmb (if g.2 = .reg barS then barPay d g.1.1 else oPay lA lM lL (oIdx g.2) g.1.1)
  unfold barPay oPay
  (repeat' split) <;> infer_instance

variable (c : Dev nD)

/-- Each barrier cell has two duties, -/
theorem duties_bar : (talkRd lA lM lL).duties (barCell c) 0 = {0, 1} := by dsimp only [talkRd]; exact if_pos ⟨rfl, rfl, rfl⟩
/-- each transfer cell one, -/
theorem duties_own (k : Fin 8) : (talkRd lA lM lL).duties (oCell c k) 0 = {0} := by
  dsimp only [talkRd]; rw [if_neg (fun h => osem_ne_bar k h.2.2), if_pos ⟨rfl, rfl, k, rfl⟩]
/-- and only in round 0. -/
theorem duties_later (g : GSem nD τ sig) : ∀ r, 1 ≤ r → (talkRd lA lM lL).duties g r = ∅ :=
  fun r hr => by dsimp only [talkRd]; rw [if_neg (fun h => by omega), if_neg (fun h => by omega)]
/-- A barrier signal is one unit. -/
theorem amount_bar (d : Fin 2) : (talkRd lA lM lL).amount (barCell c) 0 d = 1 := by dsimp only [talkRd]; exact if_pos rfl
/-- A landing is the credit of its copy. -/
theorem amount_own (k : Fin 8) (d : Fin 2) : (talkRd lA lM lL).amount (oCell c k) 0 d = oAmt k := by
  dsimp only [talkRd]; rw [if_neg (osem_ne_bar k), oIdx_osem]
/-- A barrier waits for two units, -/
theorem expect_bar : (talkRd lA lM lL).expect (barCell c) 0 = 2 := by
  unfold Schedule.expect Schedule.amountOf; rw [duties_bar, Finset.sum_pair (by decide), amount_bar, amount_bar]
/-- a transfer cell for the credit of its copy. -/
theorem expect_own (k : Fin 8) : (talkRd lA lM lL).expect (oCell c k) 0 = oAmt k := by
  unfold Schedule.expect Schedule.amountOf; rw [duties_own, Finset.sum_singleton, amount_own]
/-- What a barrier signal carries. -/
theorem payload_bar (d : Fin 2) : (talkRd lA lM lL).payload (barCell c) 0 d = barPay d c := by dsimp only [talkRd]; exact if_pos rfl
/-- What a landing carries. -/
theorem payload_own (k : Fin 8) (d : Fin 2) : (talkRd lA lM lL).payload (oCell c k) 0 d = oPay lA lM lL k c := by
  dsimp only [talkRd]; rw [if_neg (osem_ne_bar k), oIdx_osem]
/-- What a barrier's wait yields. -/
theorem rest_bar : bigSep ((talkRd lA lM lL).duties (barCell c) 0 \ ∅) (fun u => (talkRd lA lM lL).payload (barCell c) 0 u)
    = iprop(barPay 0 c ∗ barPay 1 c) := by
  rw [Finset.sdiff_empty, duties_bar, bigSep_insert (by decide), bigSep_singleton, payload_bar, payload_bar]; rfl
/-- What a transfer's wait yields. -/
theorem rest_own (k : Fin 8) : bigSep ((talkRd lA lM lL).duties (oCell c k) 0 \ ∅) (fun u => (talkRd lA lM lL).payload (oCell c k) 0 u)
    = oPay lA lM lL k c := by
  rw [Finset.sdiff_empty, duties_own, bigSep_singleton, payload_own]

end Sched

/-! ## What is owed at launch; the levels -/

/-- What device `c` owes after the two barrier units: the four copies. -/
abbrev O₆ (c : Dev nD) : CellTallies nD τ sig Unit := tallyAt (oCell (py c) 7) () NS + tallyAt (oCell (py c) 6) () NA
/-- What a device still owes before the copies of the first phase. -/
abbrev O₄ (c : Dev nD) : CellTallies nD τ sig Unit := O₆ c + tallyAt (oCell (px c) 5) () NS + tallyAt (oCell (px c) 4) () NA
/-- What device `c` owes at launch. -/
abbrev O₀ (c : Dev nD) : CellTallies nD τ sig Unit := O₄ c + tallyAt (barCell (py c)) () 1 + tallyAt (barCell (px c)) () 1

/-- The tensor core's cells carry a level. -/
def L (g : GSem nD τ sig) : Finset Unit := if g.1.2 = .tc then {()} else ∅
/-- Barriers below the receive semaphores of phase 1, these below the ones of phase 2; everything else at 0. -/
def lv (g : GSem nD τ sig) (_ : Unit) : ℕ := if g.2 = .reg barS then 1 else if 6 ≤ (oIdx g.2).val then 3 else if 4 ≤ (oIdx g.2).val then 2 else 0

/-- A cell of the tensor core has its level. -/
theorem L_tc (c : Dev nD) (sm : SemLoc sig) : L ((c : Thread nD τ), sm) = {()} := if_pos rfl
/-- Other cells have none. -/
theorem L_of_ne (g : GSem nD τ sig) (h : g.1.2 ≠ .tc) : L g = ∅ := if_neg h
/-- The barrier's level. -/
theorem lv_bar (c : Dev nD) : lv (barCell c) () = 1 := if_pos rfl
/-- The transfer cells' levels: first phase below second phase. -/
theorem lv_own (c : Dev nD) (k : Fin 8) : lv (oCell c k) () = if 6 ≤ k.val then 3 else if 4 ≤ k.val then 2 else 0 := by
  dsimp only [lv]; rw [if_neg (osem_ne_bar k), oIdx_osem]

/-- The cells that a device owes to in the second phase. -/
theorem pos6 {c : Dev nD} {g : GSem nD τ sig} {u : Unit} (h : 0 < O₆ c g u) : g = oCell (py c) 7 ∨ g = oCell (py c) 6 := by
  rcases Pipeline.add_pos_cases h with h | h
  · exact .inl (Pipeline.tallyAt_pos h).1
  · exact .inr (Pipeline.tallyAt_pos h).1
/-- The cells that a device owes to from the first phase on. -/
theorem pos4 {c : Dev nD} {g : GSem nD τ sig} {u : Unit} (h : 0 < O₄ c g u) :
    (g = oCell (py c) 7 ∨ g = oCell (py c) 6) ∨ g = oCell (px c) 5 ∨ g = oCell (px c) 4 := by
  rcases Pipeline.add_pos_cases h with h | h
  · rcases Pipeline.add_pos_cases h with h | h
    · exact .inl (pos6 h)
    · exact .inr (.inl (Pipeline.tallyAt_pos h).1)
  · exact .inr (.inr (Pipeline.tallyAt_pos h).1)
/-- The cells that a device owes to at first. -/
theorem pos0 {c : Dev nD} {g : GSem nD τ sig} {u : Unit} (h : 0 < O₀ c g u) :
    ((g = oCell (py c) 7 ∨ g = oCell (py c) 6) ∨ g = oCell (px c) 5 ∨ g = oCell (px c) 4) ∨ g = barCell (py c) ∨ g = barCell (px c) := by
  rcases Pipeline.add_pos_cases h with h | h
  · rcases Pipeline.add_pos_cases h with h | h
    · exact .inl (pos4 h)
    · exact .inr (.inl (Pipeline.tallyAt_pos h).1)
  · exact .inr (.inr (Pipeline.tallyAt_pos h).1)

/-- A wait below everything owed is allowed. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-- The barrier wait, with the four copies owed. -/
theorem mayWait_bar (c : Dev nD) : (levAts L lv : sProp 𝕄) ⊢ MayWait (c : Thread nD τ) (.reg barS) () (O₄ c) :=
  mayWait_of c _ _ fun g u hg => by
    rw [lv_bar]
    rcases pos4 hg with (rfl | rfl) | rfl | rfl <;> exact ⟨rfl, by rw [lv_own]; decide⟩
/-- The waits of phase 1, with the copies of phase 2 owed. -/
theorem mayWait_one (c : Dev nD) (k : Fin 8) (hk : k.val < 6) : (levAts L lv : sProp 𝕄) ⊢ MayWait (c : Thread nD τ) (osem k) () (O₆ c) :=
  mayWait_of c _ _ fun g u hg => by
    have h3 : lv ((c : Thread nD τ), osem k) () < 3 := by
      rw [lv_own, if_neg (by omega)]; split <;> omega
    rcases pos6 hg with rfl | rfl
    · exact ⟨rfl, h3.trans_eq (lv_own (py c) 7).symm⟩
    · exact ⟨rfl, h3.trans_eq (lv_own (py c) 6).symm⟩
/-- A staging wait, with everything owed. -/
theorem mayWait_zero_level (c : Dev nD) (sm : SemLoc sig) (h0 : lv ((c : Thread nD τ), sm) () = 0) :
    (levAts L lv : sProp 𝕄) ⊢ MayWait (c : Thread nD τ) sm () (O₀ c) :=
  mayWait_of c _ _ fun g u hg => by
    rw [h0]
    rcases pos0 hg with ((rfl | rfl) | rfl | rfl) | rfl | rfl <;>
      first | exact ⟨rfl, by rw [lv_own]; decide⟩ | exact ⟨rfl, by rw [lv_bar]; decide⟩

end Cert.KProof
end
-- ==== Proof.Slots.lean ====
module

public import proofs.«01_k».proof.Proof.Talk
public import Idealize.ShloMosaic.Lib.VecWindow
public import Idealize.ShloMosaic.Lib.Pipeline.Value
public import Idealize.ShloMosaic.Lib.Exec

/-!
# Loads and stores of slots

The kernel loads and stores the slots of its two exchange buffers through the whole buffers, while a copy hands slots over one by
one. Here are the loads and stores of a slot that is held apart.
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable (c : Dev nD) {α : Type}

/-- A load of contents that are known. -/
theorem ld {s : Shape} {e : EltTy} {m : Memref sig .tc .vmem s e} {r : Rect s} {hl : m.view.LoadsAt r.toLoadRect}
    {k : (r.shape.Idx → Elt F e) → Prog (TpuEff nD τ sig (Elt F) Λ₀ .tc) α} (P : sProp 𝕄) {Q : α → sProp 𝕄}
    {S : Finset (Idx (m.view.loc (c : Thread nD τ)))} {f : Buf (Elt F) (m.view.loc (c : Thread nD τ))}
    (hP : P = (m.view.loc (c : Thread nD τ) ↦[S]{fullShare} f)) (hS : m.view.setOn r.toLoadRect.set ⊆ S)
    (v : r.shape.Idx → Elt F e) (hv : m.view.readAt (Elt F) r.toLoadRect f = v) :
    P ⊢ iprop((P -∗ wp frame (wpE (defs₀ (F := F)) 𝒱₀ (c : Thread nD τ) none) Set.univ (k v) Q) -∗ wp frame (wpE (defs₀ (F := F)) 𝒱₀ (c : Thread nD τ) none) Set.univ (.op (.load m r.toLoadRect hl) k) Q) := by
  subst hP hv; exact wp_load 𝒱₀ (c : Thread nD τ) none Set.univ hS

/-- A load whose result is not used. -/
theorem ld_any {s : Shape} {e : EltTy} {m : Memref sig .tc .vmem s e} {r : Rect s} {hl : m.view.LoadsAt r.toLoadRect}
    {k : Prog (TpuEff nD τ sig (Elt F) Λ₀ .tc) α} (P : sProp 𝕄) {Q : α → sProp 𝕄}
    {S : Finset (Idx (m.view.loc (c : Thread nD τ)))} {f : Buf (Elt F) (m.view.loc (c : Thread nD τ))}
    (hP : P = (m.view.loc (c : Thread nD τ) ↦[S]{fullShare} f)) (hS : m.view.setOn r.toLoadRect.set ⊆ S) :
    P ⊢ iprop((P -∗ wp frame (wpE (defs₀ (F := F)) 𝒱₀ (c : Thread nD τ) none) Set.univ k Q) -∗ wp frame (wpE (defs₀ (F := F)) 𝒱₀ (c : Thread nD τ) none) Set.univ (.op (.load m r.toLoadRect hl) fun _ => k) Q) := by
  exact ld c (k := fun _ => k) P hP hS _ rfl

/-- A store. -/
theorem st {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (P P' : sProp 𝕄) {Q : α → sProp 𝕄}
    {S : Finset (Idx (m.view.loc (c : Thread nD τ)))} {f : Buf (Elt F) (m.view.loc (c : Thread nD τ))}
    (hP : P = (m.view.loc (c : Thread nD τ) ↦[S]{fullShare} f)) (hS : (m.access r).set ⊆ S)
    (hP' : P' = (m.view.loc (c : Thread nD τ) ↦[S]{fullShare} (m.access r).write (Elt F) f w Finset.univ)) :
    P ⊢ iprop((P' -∗ wp frame (wpE (defs₀ (F := F)) 𝒱₀ (c : Thread nD τ) none) Set.univ (k ⟨⟩) Q) -∗ wp frame (wpE (defs₀ (F := F)) 𝒱₀ (c : Thread nD τ) none) Set.univ (.op (.store m r w Finset.univ hx hm) k) Q) := by
  subst hP hP'
  exact wp_store (Lvl := ℕ) (defs := defs₀ (F := F)) (Q := Q) (k := k) (hx := hx) (hm := hm) 𝒱₀ (c : Thread nD τ) none Set.univ (m := m) (r := r) (S := S) (f := f) (w := w) (Mk := Finset.univ) ((View.setOn_univ (m.access r)).le.trans hS)

/-! ## Which elements

Each fact is proved once, for a slot at any offset, and then named for the slots. -/

/-- The slot of the sums at an offset, as a rectangle. -/
abbrev rcA (o : Fin S3x8x8x128.rank → ℕ) (h : ∀ a, o a + S1x8x8x128.size a ≤ S3x8x8x128.size a) : Rect S3x8x8x128 :=
  Rect.unit (s := S3x8x8x128) o S1x8x8x128.size h
/-- The slot of the statistics at an offset, as a rectangle. -/
abbrev rcS (o : Fin S3x2x8x8.rank → ℕ) (h : ∀ a, o a + S1x2x8x8.size a ≤ S3x2x8x8.size a) : Rect S3x2x8x8 :=
  Rect.unit (s := S3x2x8x8) o S1x2x8x8.size h
/-- One statistic of a slot, as a rectangle. -/
abbrev rcH (o : Fin S3x2x8x8.rank → ℕ) (h : ∀ a, o a + S1x1x8x8.size a ≤ S3x2x8x8.size a) : Rect S3x2x8x8 :=
  Rect.unit (s := S3x2x8x8) o S1x1x8x8.size h
/-- The slot of the sums at an offset. -/
abbrev slotA (o : Fin S3x8x8x128.rank → ℕ) (h : ∀ a, o a + S1x8x8x128.size a ≤ S3x8x8x128.size a) : Memref sig .tc .vmem S8x8x128 .f32 :=
  (aM.slice (rcA o h) (fun _ => rfl)).squeeze S8x8x128 squeezes_S1x8x8x128_S8x8x128
/-- The slot of the statistics at an offset. -/
abbrev slotS (o : Fin S3x2x8x8.rank → ℕ) (h : ∀ a, o a + S1x2x8x8.size a ≤ S3x2x8x8.size a) : Memref sig .tc .vmem S2x8x8 .f32 :=
  (sM.slice (rcS o h) (fun _ => rfl)).squeeze S2x8x8 squeezes_S1x2x8x8_S2x8x8

/-- A store into a slot of the sums stays in the slot. -/
theorem accA (o : Fin S3x8x8x128.rank → ℕ) (h) : (aM.access (rcA o h)).set ⊆ (slotA o h).view.set := by rw [Memref.set_view_squeeze]
/-- A load of a slot of the sums stays in the slot. -/
theorem inA (o : Fin S3x8x8x128.rank → ℕ) (h) : aM.view.setOn (rcA o h).toLoadRect.set ⊆ (slotA o h).view.set := by
  rw [Memref.set_view_squeeze]; exact (le_of_eq (View.set_slice aM.view (rcA o h)).symm)
/-- A load of a statistic stays in its slot. -/
theorem inH (o o' : Fin S3x2x8x8.rank → ℕ) (h h') (hw : LoadRect.within (rcS o h) (rcH o' h').toLoadRect = true) :
    sM.view.setOn (rcH o' h').toLoadRect.set ⊆ (slotS o h).view.set := by
  rw [Memref.set_view_squeeze]
  exact (Memref.setOn_subset_setOn_of_within sM (rcS o h) (rcH o' h') hw).trans (le_of_eq (View.set_slice sM.view (rcS o h)).symm)
/-- A store into a statistic stays in its slot. -/
theorem accH (o o' : Fin S3x2x8x8.rank → ℕ) (h h') (hw : LoadRect.within (rcS o h) (rcH o' h').toLoadRect = true) :
    (sM.access (rcH o' h')).set ⊆ (slotS o h).view.set := by
  rw [View.set_slice]; exact inH o o' h h' hw

/-- A store into slot 0 of the sums stays in it. -/
theorem accA0 : (aM.access (Rect.unit (s := S3x8x8x128) ![0, 0, 0, 0] S1x8x8x128.size inb_S3x8x8x128_S1x8x8x128_0_0_0_0)).set ⊆ (aS0).view.set := accA _ _
/-- A load of slot 0 of the sums stays in it. -/
theorem inA0 : aM.view.setOn (Rect.unit (s := S3x8x8x128) ![0, 0, 0, 0] S1x8x8x128.size inb_S3x8x8x128_S1x8x8x128_0_0_0_0).toLoadRect.set ⊆ (aS0).view.set := inA _ _
/-- A load of the maxima of slot 0 stays in the slot. -/
theorem inS00 : sM.view.setOn (Rect.unit (s := S3x2x8x8) ![0, 0, 0, 0] S1x1x8x8.size inb_S3x2x8x8_S1x1x8x8_0_0_0_0).toLoadRect.set ⊆ (sS0).view.set := inH _ _ _ _ (by decide)
/-- A store into the maxima of slot 0 stays in the slot. -/
theorem accS00 : (sM.access (Rect.unit (s := S3x2x8x8) ![0, 0, 0, 0] S1x1x8x8.size inb_S3x2x8x8_S1x1x8x8_0_0_0_0)).set ⊆ (sS0).view.set := accH _ _ _ _ (by decide)
/-- A load of the denominators of slot 0 stays in the slot. -/
theorem inS01 : sM.view.setOn (Rect.unit (s := S3x2x8x8) ![0, 1, 0, 0] S1x1x8x8.size inb_S3x2x8x8_S1x1x8x8_0_1_0_0).toLoadRect.set ⊆ (sS0).view.set := inH _ _ _ _ (by decide)
/-- A store into the denominators of slot 0 stays in the slot. -/
theorem accS01 : (sM.access (Rect.unit (s := S3x2x8x8) ![0, 1, 0, 0] S1x1x8x8.size inb_S3x2x8x8_S1x1x8x8_0_1_0_0)).set ⊆ (sS0).view.set := accH _ _ _ _ (by decide)
/-- A load of slot 1 of the sums stays in it. -/
theorem inA1 : aM.view.setOn (Rect.unit (s := S3x8x8x128) ![1, 0, 0, 0] S1x8x8x128.size inb_S3x8x8x128_S1x8x8x128_1_0_0_0).toLoadRect.set ⊆ (aS1).view.set := inA _ _
/-- A load of the maxima of slot 1 stays in the slot. -/
theorem inS10 : sM.view.setOn (Rect.unit (s := S3x2x8x8) ![1, 0, 0, 0] S1x1x8x8.size inb_S3x2x8x8_S1x1x8x8_1_0_0_0).toLoadRect.set ⊆ (sS1).view.set := inH _ _ _ _ (by decide)
/-- A load of the denominators of slot 1 stays in the slot. -/
theorem inS11 : sM.view.setOn (Rect.unit (s := S3x2x8x8) ![1, 1, 0, 0] S1x1x8x8.size inb_S3x2x8x8_S1x1x8x8_1_1_0_0).toLoadRect.set ⊆ (sS1).view.set := inH _ _ _ _ (by decide)
/-- A load of slot 2 of the sums stays in it. -/
theorem inA2 : aM.view.setOn (Rect.unit (s := S3x8x8x128) ![2, 0, 0, 0] S1x8x8x128.size inb_S3x8x8x128_S1x8x8x128_2_0_0_0).toLoadRect.set ⊆ (aS2).view.set := inA _ _
/-- A load of the maxima of slot 2 stays in the slot. -/
theorem inS20 : sM.view.setOn (Rect.unit (s := S3x2x8x8) ![2, 0, 0, 0] S1x1x8x8.size inb_S3x2x8x8_S1x1x8x8_2_0_0_0).toLoadRect.set ⊆ (sS2).view.set := inH _ _ _ _ (by decide)
/-- A load of the denominators of slot 2 stays in the slot. -/
theorem inS21 : sM.view.setOn (Rect.unit (s := S3x2x8x8) ![2, 1, 0, 0] S1x1x8x8.size inb_S3x2x8x8_S1x1x8x8_2_1_0_0).toLoadRect.set ⊆ (sS2).view.set := inH _ _ _ _ (by decide)

/-! ## What a load of a slot reads -/

/-- A statistic in the shape in which it is loaded, at an index. -/
theorem exS_apply {α : Type} (M : S8x8.Idx → α) (h : S8x8.ShapeCasts S1x1x8x8) (j : S1x1x8x8.Idx) : shapeCast S1x1x8x8 M h j = M (ValueIdx.ix2 (n0 := 8) (n1 := 8) (j 2) (j 3)) :=
  shapeCast_apply M h j _ (by
    rw [Shape.rowMajor_val_two, Shape.rowMajor_val_four]
    have h0 : (j 0).val < 1 := (j 0).isLt
    have h1 : (j 1).val < 1 := (j 1).isLt
    show (j 2).val * 8 + (j 3).val = (((j 0).val * 1 + (j 1).val) * 8 + (j 2).val) * 8 + (j 3).val
    omega)
/-- A slot of statistics in the shape in which it is loaded, at an index. -/
theorem exS2_apply {α : Type} (X : S2x8x8.Idx → α) (h : S2x8x8.ShapeCasts S1x2x8x8) (j : S1x2x8x8.Idx) : shapeCast S1x2x8x8 X h j = X (ValueIdx.ix3 (n0 := 2) (n1 := 8) (n2 := 8) (j 1) (j 2) (j 3)) :=
  shapeCast_apply X h j _ (by
    rw [Shape.rowMajor_val_three, Shape.rowMajor_val_four]
    have h0 : (j 0).val < 1 := (j 0).isLt
    show ((j 1).val * 8 + (j 2).val) * 8 + (j 3).val = (((j 0).val * 2 + (j 1).val) * 8 + (j 2).val) * 8 + (j 3).val
    omega)
/-- A loaded slot of statistics in its own shape, at an index. -/
theorem exS2b_apply {α : Type} (X : S1x2x8x8.Idx → α) (h : S1x2x8x8.ShapeCasts S2x8x8) (j : S2x8x8.Idx) : shapeCast S2x8x8 X h j = X (ValueIdx.ix4 (n0 := 1) (n1 := 2) (n2 := 8) (n3 := 8) 0 (j 0) (j 1) (j 2)) :=
  shapeCast_apply X h j _ (by
    rw [Shape.rowMajor_val_three, Shape.rowMajor_val_four]
    show ((0 * 2 + (j 0).val) * 8 + (j 1).val) * 8 + (j 2).val = ((j 0).val * 8 + (j 1).val) * 8 + (j 2).val
    omega)
/-- A load of a slot of the sums. -/
theorem rdA (o : Fin S3x8x8x128.rank → ℕ) (ho) (A : S8x8x128.Idx → Elt F .f32) : aM.view.readAt (Elt F) (rcA o ho).toLoadRect ((slotA o ho).view.rep A) = exA A := by
  have h : shapeCast S8x8x128 (aM.view.readAt (Elt F) (rcA o ho).toLoadRect ((slotA o ho).view.rep A)) (show S1x8x8x128.ShapeCasts S8x8x128 by decide) = A := View.read_rep (slotA o ho).view A
  exact (shapeCast_shapeCast _ (show S1x8x8x128.ShapeCasts S8x8x128 by decide) (show S8x8x128.ShapeCasts S1x8x8x128 by decide)).symm.trans (congrArg (fun X => shapeCast S1x8x8x128 X (by decide)) h)
/-- A load of a slot of the statistics. -/
theorem rdS (o : Fin S3x2x8x8.rank → ℕ) (ho) (X : S2x8x8.Idx → Elt F .f32) : sM.view.readAt (Elt F) (rcS o ho).toLoadRect ((slotS o ho).view.rep X) = shapeCast S1x2x8x8 X (by decide) := by
  have h : shapeCast S2x8x8 (sM.view.readAt (Elt F) (rcS o ho).toLoadRect ((slotS o ho).view.rep X)) (show S1x2x8x8.ShapeCasts S2x8x8 by decide) = X := View.read_rep (slotS o ho).view X
  exact (shapeCast_shapeCast _ (show S1x2x8x8.ShapeCasts S2x8x8 by decide) (show S2x8x8.ShapeCasts S1x2x8x8 by decide)).symm.trans (congrArg (fun X => shapeCast S1x2x8x8 X (by decide)) h)
/-- A load of one statistic of a slot: `Z` is the one of the two that it reads. -/
theorem rdH (n : ℕ) (e : Fin 2) (ho ho') (X : S2x8x8.Idx → Elt F .f32) (Z : S8x8.Idx → Elt F .f32)
    (hZ : ∀ a b : Fin 8, X (ValueIdx.ix3 (n0 := 2) (n1 := 8) (n2 := 8) e a b) = Z (ValueIdx.ix2 (n0 := 8) (n1 := 8) a b)) :
    sM.view.readAt (Elt F) (rcH ![n, e.val, 0, 0] ho').toLoadRect ((slotS ![n, 0, 0, 0] ho).view.rep X) = exS Z := by
  funext x
  have h := congrFun (rdS (F := F) ![n, 0, 0, 0] ho X) (ValueIdx.ix4 (n0 := 1) (n1 := 2) (n2 := 8) (n3 := 8) 0 e (x 2) (x 3))
  rw [exS2_apply] at h
  refine Eq.trans ?_ (h.trans ((hZ (x 2) (x 3)).trans (exS_apply Z _ x).symm))
  exact congrArg (sM.view.read (Elt F) ((slotS ![n, 0, 0, 0] ho).view.rep X)) (funext fun a => Fin.ext (by
    have h0 : (x 0).val < 1 := (x 0).isLt
    have h1 : (x 1).val < 1 := (x 1).isLt
    match a with
    | 0 => show n + 1 * (x 0).val = n + 1 * 0; omega
    | 1 => show e.val + 1 * (x 1).val = 0 + 1 * e.val; omega
    | 2 => rfl
    | 3 => rfl))

/-- A load of slot 0 of the sums. -/
theorem rdA0 (A : S8x8x128.Idx → Elt F .f32) : aM.view.readAt (Elt F) (Rect.unit (s := S3x8x8x128) ![0, 0, 0, 0] S1x8x8x128.size inb_S3x8x8x128_S1x8x8x128_0_0_0_0).toLoadRect ((aS0).view.rep A) = exA A := rdA _ _ A
/-- A load of the maxima of slot 0. -/
theorem rdS00 (M L : S8x8.Idx → Elt F .f32) : sM.view.readAt (Elt F) (Rect.unit (s := S3x2x8x8) ![0, 0, 0, 0] S1x1x8x8.size inb_S3x2x8x8_S1x1x8x8_0_0_0_0).toLoadRect ((sS0).view.rep (stk M L)) = exS M :=
  rdH 0 0 _ _ (stk M L) M fun _ _ => if_pos rfl
/-- A load of the denominators of slot 0. -/
theorem rdS01 (M L : S8x8.Idx → Elt F .f32) : sM.view.readAt (Elt F) (Rect.unit (s := S3x2x8x8) ![0, 1, 0, 0] S1x1x8x8.size inb_S3x2x8x8_S1x1x8x8_0_1_0_0).toLoadRect ((sS0).view.rep (stk M L)) = exS L :=
  rdH 0 1 _ _ (stk M L) L fun _ _ => if_neg Nat.one_ne_zero
/-- A load of slot 1 of the sums. -/
theorem rdA1 (A : S8x8x128.Idx → Elt F .f32) : aM.view.readAt (Elt F) (Rect.unit (s := S3x8x8x128) ![1, 0, 0, 0] S1x8x8x128.size inb_S3x8x8x128_S1x8x8x128_1_0_0_0).toLoadRect ((aS1).view.rep A) = exA A := rdA _ _ A
/-- A load of the maxima of slot 1. -/
theorem rdS10 (M L : S8x8.Idx → Elt F .f32) : sM.view.readAt (Elt F) (Rect.unit (s := S3x2x8x8) ![1, 0, 0, 0] S1x1x8x8.size inb_S3x2x8x8_S1x1x8x8_1_0_0_0).toLoadRect ((sS1).view.rep (stk M L)) = exS M :=
  rdH 1 0 _ _ (stk M L) M fun _ _ => if_pos rfl
/-- A load of the denominators of slot 1. -/
theorem rdS11 (M L : S8x8.Idx → Elt F .f32) : sM.view.readAt (Elt F) (Rect.unit (s := S3x2x8x8) ![1, 1, 0, 0] S1x1x8x8.size inb_S3x2x8x8_S1x1x8x8_1_1_0_0).toLoadRect ((sS1).view.rep (stk M L)) = exS L :=
  rdH 1 1 _ _ (stk M L) L fun _ _ => if_neg Nat.one_ne_zero
/-- A load of slot 2 of the sums. -/
theorem rdA2 (A : S8x8x128.Idx → Elt F .f32) : aM.view.readAt (Elt F) (Rect.unit (s := S3x8x8x128) ![2, 0, 0, 0] S1x8x8x128.size inb_S3x8x8x128_S1x8x8x128_2_0_0_0).toLoadRect ((aS2).view.rep A) = exA A := rdA _ _ A
/-- A load of the maxima of slot 2. -/
theorem rdS20 (M L : S8x8.Idx → Elt F .f32) : sM.view.readAt (Elt F) (Rect.unit (s := S3x2x8x8) ![2, 0, 0, 0] S1x1x8x8.size inb_S3x2x8x8_S1x1x8x8_2_0_0_0).toLoadRect ((sS2).view.rep (stk M L)) = exS M :=
  rdH 2 0 _ _ (stk M L) M fun _ _ => if_pos rfl
/-- A load of the denominators of slot 2. -/
theorem rdS21 (M L : S8x8.Idx → Elt F .f32) : sM.view.readAt (Elt F) (Rect.unit (s := S3x2x8x8) ![2, 1, 0, 0] S1x1x8x8.size inb_S3x2x8x8_S1x1x8x8_2_1_0_0).toLoadRect ((sS2).view.rep (stk M L)) = exS L :=
  rdH 2 1 _ _ (stk M L) L fun _ _ => if_neg Nat.one_ne_zero

/-! ## What a store of a slot leaves -/

/-- Slot 0 of the sums after a store into it. -/
theorem wrA0 (f : aM.view.ty.Contents (Elt F)) (w : S1x8x8x128.Idx → Elt F .f32) :
    (aS0).view.read (Elt F) ((aM.access (Rect.unit (s := S3x8x8x128) ![0, 0, 0, 0] S1x8x8x128.size inb_S3x8x8x128_S1x8x8x128_0_0_0_0)).write (Elt F) f w Finset.univ) = shapeCast S8x8x128 w (by decide) := by
  have h : (aM.slice (Rect.unit (s := S3x8x8x128) ![0, 0, 0, 0] S1x8x8x128.size inb_S3x8x8x128_S1x8x8x128_0_0_0_0) (fun _ => rfl)).view.read (Elt F) ((aM.access (Rect.unit (s := S3x8x8x128) ![0, 0, 0, 0] S1x8x8x128.size inb_S3x8x8x128_S1x8x8x128_0_0_0_0)).write (Elt F) f w Finset.univ) = w := View.read_write_univ _ _
  exact congrArg (fun X => shapeCast S8x8x128 X (by decide)) h
/-- Slot 0 of the statistics after the stores of the maxima and of the denominators. -/
theorem wrS0 (f : sM.view.ty.Contents (Elt F)) (M L : S8x8.Idx → Elt F .f32) :
    (sS0).view.read (Elt F) ((sM.access (Rect.unit (s := S3x2x8x8) ![0, 1, 0, 0] S1x1x8x8.size inb_S3x2x8x8_S1x1x8x8_0_1_0_0)).write (Elt F) ((sM.access (Rect.unit (s := S3x2x8x8) ![0, 0, 0, 0] S1x1x8x8.size inb_S3x2x8x8_S1x1x8x8_0_0_0_0)).write (Elt F) f (exS M) Finset.univ) (exS L) Finset.univ) = stk M L := by
  funext y
  let g := sM.view.writes (Elt F) f [⟨(Rect.unit (s := S3x2x8x8) ![0, 1, 0, 0] S1x1x8x8.size inb_S3x2x8x8_S1x1x8x8_0_1_0_0), exS L⟩, ⟨(Rect.unit (s := S3x2x8x8) ![0, 0, 0, 0] S1x1x8x8.size inb_S3x2x8x8_S1x1x8x8_0_0_0_0), exS M⟩]
  have h : (sS0).view.read (Elt F) g y = sM.view.read (Elt F) g (ValueIdx.ix4 (n0 := 3) (n1 := 2) (n2 := 8) (n3 := 8) 0 (y 0) (y 1) (y 2)) := by
    refine (exS2b_apply (sM.view.readAt (Elt F) (Rect.unit (s := S3x2x8x8) ![0, 0, 0, 0] S1x2x8x8.size inb_S3x2x8x8_S1x2x8x8_0_0_0_0).toLoadRect g) (by decide) y).trans ?_
    exact congrArg (sM.view.read (Elt F) g) (funext fun a => Fin.ext (by
      match a with
      | 0 => rfl
      | 1 => show 0 + 1 * (y 0).val = (y 0).val; omega
      | 2 => show 0 + 1 * (y 1).val = (y 1).val; omega
      | 3 => show 0 + 1 * (y 2).val = (y 2).val; omega))
  refine h.trans ?_
  by_cases hy : (y 0).val = 0
  · refine (View.read_writes_cons_unit_of_not_mem sM.view f _ _ _ _ rfl 1 (.inl (by show (y 0).val < 1; omega))).trans ?_
    refine (View.read_writes_cons_unit_of_mem sM.view f _ _ _ _ (ValueIdx.ix4 (n0 := 1) (n1 := 1) (n2 := 8) (n3 := 8) 0 0 (y 1) (y 2)) rfl (fun a => by
      match a with
      | 0 => rfl
      | 1 => exact hy
      | 2 => show (y 1).val = 0 + (y 1).val; omega
      | 3 => show (y 2).val = 0 + (y 2).val; omega)).trans ?_
    exact (exS_apply M _ _).trans (if_pos hy).symm
  · refine (View.read_writes_cons_unit_of_mem sM.view f _ _ _ _ (ValueIdx.ix4 (n0 := 1) (n1 := 1) (n2 := 8) (n3 := 8) 0 0 (y 1) (y 2)) rfl (fun a => by
      have h2 : (y 0).val < 2 := (y 0).isLt
      match a with
      | 0 => rfl
      | 1 => show (y 0).val = 1 + 0; omega
      | 2 => show (y 1).val = 0 + (y 1).val; omega
      | 3 => show (y 2).val = 0 + (y 2).val; omega)).trans ?_
    exact (exS_apply L _ _).trans (if_neg hy).symm
end

end Cert.KProof
end
-- ==== Proof.Swap.lean ====
module

public import proofs.«01_k».proof.Proof.Slots
public import Idealize.ShloMosaic.Lib.DeliveryRep

/-!
# The exchange, run
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section
variable (lA : Dev nD → S8x8x128.Idx → Elt F .f32) (lM lL : Dev nD → S8x8.Idx → Elt F .f32)

/-! ## The schedule's tables, cell by cell -/

/-- The send cell 0 of device `c`. -/
abbrev s0C (c : Dev nD) : GSem nD τ sig := ((c : Thread nD τ), .dma snd0)
/-- The only duty on send cell 0. -/
theorem duties_s0 (c : Dev nD) : (talkRd lA lM lL).duties (s0C c) 0 = {0} := duties_own lA lM lL c 0
/-- What lands on send cell 0. -/
theorem amount_s0 (c : Dev nD) (d : Fin 2) : (talkRd lA lM lL).amount (s0C c) 0 d = NA := amount_own lA lM lL c 0 d
/-- What the wait on send cell 0 expects. -/
theorem expect_s0 (c : Dev nD) : (talkRd lA lM lL).expect (s0C c) 0 = NA := expect_own lA lM lL c 0
/-- What the landing on send cell 0 carries. -/
theorem payload_s0 (c : Dev nD) (d : Fin 2) : (talkRd lA lM lL).payload (s0C c) 0 d = holdA aS0 c (lA c) := payload_own lA lM lL c 0 d
/-- The send cell 1 of device `c`. -/
abbrev s1C (c : Dev nD) : GSem nD τ sig := ((c : Thread nD τ), .dma snd1)
/-- The only duty on send cell 1. -/
theorem duties_s1 (c : Dev nD) : (talkRd lA lM lL).duties (s1C c) 0 = {0} := duties_own lA lM lL c 1
/-- What lands on send cell 1. -/
theorem amount_s1 (c : Dev nD) (d : Fin 2) : (talkRd lA lM lL).amount (s1C c) 0 d = NS := amount_own lA lM lL c 1 d
/-- What the wait on send cell 1 expects. -/
theorem expect_s1 (c : Dev nD) : (talkRd lA lM lL).expect (s1C c) 0 = NS := expect_own lA lM lL c 1
/-- What the landing on send cell 1 carries. -/
theorem payload_s1 (c : Dev nD) (d : Fin 2) : (talkRd lA lM lL).payload (s1C c) 0 d = holdS sS0 c (stk (lM c) (lL c)) := payload_own lA lM lL c 1 d
/-- The send cell 2 of device `c`. -/
abbrev s2C (c : Dev nD) : GSem nD τ sig := ((c : Thread nD τ), .dma snd2)
/-- The only duty on send cell 2. -/
theorem duties_s2 (c : Dev nD) : (talkRd lA lM lL).duties (s2C c) 0 = {0} := duties_own lA lM lL c 2
/-- What lands on send cell 2. -/
theorem amount_s2 (c : Dev nD) (d : Fin 2) : (talkRd lA lM lL).amount (s2C c) 0 d = NA := amount_own lA lM lL c 2 d
/-- What the wait on send cell 2 expects. -/
theorem expect_s2 (c : Dev nD) : (talkRd lA lM lL).expect (s2C c) 0 = NA := expect_own lA lM lL c 2
/-- What the landing on send cell 2 carries. -/
theorem payload_s2 (c : Dev nD) (d : Fin 2) : (talkRd lA lM lL).payload (s2C c) 0 d = holdA aS0 c (cA lA lM c) := payload_own lA lM lL c 2 d
/-- The send cell 3 of device `c`. -/
abbrev s3C (c : Dev nD) : GSem nD τ sig := ((c : Thread nD τ), .dma snd3)
/-- The only duty on send cell 3. -/
theorem duties_s3 (c : Dev nD) : (talkRd lA lM lL).duties (s3C c) 0 = {0} := duties_own lA lM lL c 3
/-- What lands on send cell 3. -/
theorem amount_s3 (c : Dev nD) (d : Fin 2) : (talkRd lA lM lL).amount (s3C c) 0 d = NS := amount_own lA lM lL c 3 d
/-- What the wait on send cell 3 expects. -/
theorem expect_s3 (c : Dev nD) : (talkRd lA lM lL).expect (s3C c) 0 = NS := expect_own lA lM lL c 3
/-- What the landing on send cell 3 carries. -/
theorem payload_s3 (c : Dev nD) (d : Fin 2) : (talkRd lA lM lL).payload (s3C c) 0 d = holdS sS0 c (stk (cM lM c) (cL lM lL c)) := payload_own lA lM lL c 3 d
/-- The receive cell 0 of device `c`. -/
abbrev r0C (c : Dev nD) : GSem nD τ sig := ((c : Thread nD τ), .dma rcv0)
/-- The only duty on receive cell 0. -/
theorem duties_r0 (c : Dev nD) : (talkRd lA lM lL).duties (r0C c) 0 = {0} := duties_own lA lM lL c 4
/-- What lands on receive cell 0. -/
theorem amount_r0 (c : Dev nD) (d : Fin 2) : (talkRd lA lM lL).amount (r0C c) 0 d = NA := amount_own lA lM lL c 4 d
/-- What the wait on receive cell 0 expects. -/
theorem expect_r0 (c : Dev nD) : (talkRd lA lM lL).expect (r0C c) 0 = NA := expect_own lA lM lL c 4
/-- What the landing on receive cell 0 carries. -/
theorem payload_r0 (c : Dev nD) (d : Fin 2) : (talkRd lA lM lL).payload (r0C c) 0 d = holdA aS1 c (lA (px c)) := payload_own lA lM lL c 4 d
/-- The receive cell 1 of device `c`. -/
abbrev r1C (c : Dev nD) : GSem nD τ sig := ((c : Thread nD τ), .dma rcv1)
/-- The only duty on receive cell 1. -/
theorem duties_r1 (c : Dev nD) : (talkRd lA lM lL).duties (r1C c) 0 = {0} := duties_own lA lM lL c 5
/-- What lands on receive cell 1. -/
theorem amount_r1 (c : Dev nD) (d : Fin 2) : (talkRd lA lM lL).amount (r1C c) 0 d = NS := amount_own lA lM lL c 5 d
/-- What the wait on receive cell 1 expects. -/
theorem expect_r1 (c : Dev nD) : (talkRd lA lM lL).expect (r1C c) 0 = NS := expect_own lA lM lL c 5
/-- What the landing on receive cell 1 carries. -/
theorem payload_r1 (c : Dev nD) (d : Fin 2) : (talkRd lA lM lL).payload (r1C c) 0 d = holdS sS1 c (stk (lM (px c)) (lL (px c))) := payload_own lA lM lL c 5 d
/-- The receive cell 2 of device `c`. -/
abbrev r2C (c : Dev nD) : GSem nD τ sig := ((c : Thread nD τ), .dma rcv2)
/-- The only duty on receive cell 2. -/
theorem duties_r2 (c : Dev nD) : (talkRd lA lM lL).duties (r2C c) 0 = {0} := duties_own lA lM lL c 6
/-- What lands on receive cell 2. -/
theorem amount_r2 (c : Dev nD) (d : Fin 2) : (talkRd lA lM lL).amount (r2C c) 0 d = NA := amount_own lA lM lL c 6 d
/-- What the wait on receive cell 2 expects. -/
theorem expect_r2 (c : Dev nD) : (talkRd lA lM lL).expect (r2C c) 0 = NA := expect_own lA lM lL c 6
/-- What the landing on receive cell 2 carries. -/
theorem payload_r2 (c : Dev nD) (d : Fin 2) : (talkRd lA lM lL).payload (r2C c) 0 d = holdA aS2 c (cA lA lM (py c)) := payload_own lA lM lL c 6 d
/-- The receive cell 3 of device `c`. -/
abbrev r3C (c : Dev nD) : GSem nD τ sig := ((c : Thread nD τ), .dma rcv3)
/-- The only duty on receive cell 3. -/
theorem duties_r3 (c : Dev nD) : (talkRd lA lM lL).duties (r3C c) 0 = {0} := duties_own lA lM lL c 7
/-- What lands on receive cell 3. -/
theorem amount_r3 (c : Dev nD) (d : Fin 2) : (talkRd lA lM lL).amount (r3C c) 0 d = NS := amount_own lA lM lL c 7 d
/-- What the wait on receive cell 3 expects. -/
theorem expect_r3 (c : Dev nD) : (talkRd lA lM lL).expect (r3C c) 0 = NS := expect_own lA lM lL c 7
/-- What the landing on receive cell 3 carries. -/
theorem payload_r3 (c : Dev nD) (d : Fin 2) : (talkRd lA lM lL).payload (r3C c) 0 d = holdS sS2 c (stk (cM lM (py c)) (cL lM lL (py c))) := payload_own lA lM lL c 7 d
/-- The neighbour along the first axis pays with its slots 1, -/
theorem payload_bar0 (c : Dev nD) : (talkRd lA lM lL).payload (barCell c) 0 0
    = iprop(anyA aS1 (px c) ∗ anyS sS1 (px c) ∗ reached ER (r0C (px c)) 0 ∗ reached ER (r1C (px c)) 0) := payload_bar lA lM lL c 0
/-- and the one along the second axis with its slots 2. -/
theorem payload_bar1 (c : Dev nD) : (talkRd lA lM lL).payload (barCell c) 0 1
    = iprop(anyA aS2 (py c) ∗ anyS sS2 (py c) ∗ reached ER (r2C (py c)) 0 ∗ reached ER (r3C (py c)) 0) := payload_bar lA lM lL c 1

/-- An operation followed by the rest of the program. -/
theorem lift_bind {α β : Type} (e : TpuEff nD τ sig (Elt F) Λ₀ .tc β) (k : β → Prog (TpuEff nD τ sig (Elt F) Λ₀ .tc) α) :
    (Prog.lift e >>= k) = .op e k := rfl
/-- A program that starts with an operation, followed by the rest. -/
theorem op_bind {α β γ : Type} (e : TpuEff nD τ sig (Elt F) Λ₀ .tc β) (k : β → Prog (TpuEff nD τ sig (Elt F) Λ₀ .tc) γ) (k' : γ → Prog (TpuEff nD τ sig (Elt F) Λ₀ .tc) α) :
    (Prog.op e k >>= k') = .op e fun x => k x >>= k' := rfl
/-- A finished program, followed by the rest. -/
theorem ret_bind {α β : Type} (b : β) (k : β → Prog (TpuEff nD τ sig (Elt F) Λ₀ .tc) α) :
    ((pure b : Prog (TpuEff nD τ sig (Elt F) Λ₀ .tc) β) >>= k) = k b := rfl
/-- The same with the constructor. -/
theorem ret_bind' {α β : Type} (b : β) (k : β → Prog (TpuEff nD τ sig (Elt F) Λ₀ .tc) α) : (Prog.ret b >>= k) = k b := rfl
/-- An operation as a program. -/
theorem lift_eq {β : Type} (e : TpuEff nD τ sig (Elt F) Λ₀ .tc β) : Prog.lift e = .op e .ret := rfl

variable (K : GSem nD τ sig → ℕ)

/-- The invariants that device `c` opens. -/
def invs (c : Dev nD) : sProp 𝕄 :=
  iprop(cellInv ER (talkRd lA lM lL) (K (barCell c)) (barCell c)
    ∗ cellInv ER (talkRd lA lM lL) (K (s0C c)) (s0C c) ∗ cellInv ER (talkRd lA lM lL) (K (s1C c)) (s1C c) ∗ cellInv ER (talkRd lA lM lL) (K (s2C c)) (s2C c) ∗ cellInv ER (talkRd lA lM lL) (K (s3C c)) (s3C c) ∗ cellInv ER (talkRd lA lM lL) (K (r0C c)) (r0C c) ∗ cellInv ER (talkRd lA lM lL) (K (r1C c)) (r1C c) ∗ cellInv ER (talkRd lA lM lL) (K (r2C c)) (r2C c) ∗ cellInv ER (talkRd lA lM lL) (K (r3C c)) (r3C c)
    ∗ cellInv ER (talkRd lA lM lL) (K (barCell (px c))) (barCell (px c)) ∗ cellInv ER (talkRd lA lM lL) (K (barCell (py c))) (barCell (py c))
    ∗ cellInv ER (talkRd lA lM lL) (K (r0C (px c))) (r0C (px c)) ∗ cellInv ER (talkRd lA lM lL) (K (r1C (px c))) (r1C (px c))
    ∗ cellInv ER (talkRd lA lM lL) (K (r2C (py c))) (r2C (py c)) ∗ cellInv ER (talkRd lA lM lL) (K (r3C (py c))) (r3C (py c)))

instance invs_persistent (c : Dev nD) : BI.Persistent (invs lA lM lL K c) := by unfold invs; infer_instance

/-- The duties that device `c` discharges. -/
def toks (c : Dev nD) : sProp 𝕄 :=
  iprop(dutyTok ER (barCell (px c)) 0 (0 : Fin 2) ∗ dutyTok ER (barCell (py c)) 0 (1 : Fin 2)
    ∗ dutyTok ER (s0C c) 0 (0 : Fin 2) ∗ dutyTok ER (s1C c) 0 (0 : Fin 2) ∗ dutyTok ER (s2C c) 0 (0 : Fin 2) ∗ dutyTok ER (s3C c) 0 (0 : Fin 2)
    ∗ dutyTok ER (r0C (px c)) 0 (0 : Fin 2) ∗ dutyTok ER (r1C (px c)) 0 (0 : Fin 2) ∗ dutyTok ER (r2C (py c)) 0 (0 : Fin 2) ∗ dutyTok ER (r3C (py c)) 0 (0 : Fin 2))

/-- What device `c` holds of the protocol when it comes to the exchange. -/
def opened (c : Dev nD) : sProp 𝕄 :=
  iprop(invs lA lM lL K c ∗ reached ER (barCell (px c)) 0 ∗ reached ER (barCell (py c)) 0
    ∗ (reached ER (s0C c) 0 ∗ reached ER (s1C c) 0 ∗ reached ER (s2C c) 0 ∗ reached ER (s3C c) 0 ∗ reached ER (r0C c) 0 ∗ reached ER (r1C c) 0 ∗ reached ER (r2C c) 0 ∗ reached ER (r3C c) 0)
    ∗ atPos ER (barCell c) 0 ∅ 0
    ∗ (atPos ER (s0C c) 0 ∅ 0 ∗ atPos ER (s1C c) 0 ∅ 0 ∗ atPos ER (s2C c) 0 ∅ 0 ∗ atPos ER (s3C c) 0 ∅ 0 ∗ atPos ER (r0C c) 0 ∅ 0 ∗ atPos ER (r1C c) 0 ∅ 0 ∗ atPos ER (r2C c) 0 ∅ 0 ∗ atPos ER (r3C c) 0 ∅ 0)
    ∗ toks c)

/-- The credit that device `c` waits with. -/
def creds (c : Dev nD) : sProp 𝕄 :=
  iprop(cred (tallyAt (barCell c) () 2) ∗ cred (tallyAt (r0C c) () NA) ∗ cred (tallyAt (r1C c) () NS) ∗ cred (tallyAt (r2C c) () NA) ∗ cred (tallyAt (r3C c) () NS))

/-- Every slot, at contents not chosen. -/
def slotsAny (c : Dev nD) : sProp 𝕄 := iprop((anyA aS0 c ∗ anyA aS1 c ∗ anyA aS2 c) ∗ (anyS sS0 c ∗ anyS sS1 c ∗ anyS sS2 c))

/-- What a store into slot 0 of the sums leaves. -/
theorem asA0 (c : Dev nD) (f : Buf (Elt F) (aM.view.loc (c : Thread nD τ))) (w : S1x8x8x128.Idx → Elt F .f32) (X : S8x8x128.Idx → Elt F .f32) (h : shapeCast S8x8x128 w (by decide) = X) :
    (aM.view.loc (c : Thread nD τ) ↦[aS0.view.set]{fullShare} (aM.access (Rect.unit (s := S3x8x8x128) ![0, 0, 0, 0] S1x8x8x128.size inb_S3x8x8x128_S1x8x8x128_0_0_0_0)).write (Elt F) f w Finset.univ : sProp 𝕄) ⊢ holdA aS0 c X :=
  pointsTo_rep_of_read (c : Thread nD τ) aS0 _ fullShare X ((wrA0 f w).trans h)
/-- What two stores into slot 0 of the statistics leave. -/
theorem asS0 (c : Dev nD) (f : Buf (Elt F) (sM.view.loc (c : Thread nD τ))) (w w' : S1x1x8x8.Idx → Elt F .f32) (M L : S8x8.Idx → Elt F .f32) (h : w = exS M) (h' : w' = exS L) :
    (sM.view.loc (c : Thread nD τ) ↦[sS0.view.set]{fullShare} (sM.access (Rect.unit (s := S3x2x8x8) ![0, 1, 0, 0] S1x1x8x8.size inb_S3x2x8x8_S1x1x8x8_0_1_0_0)).write (Elt F) ((sM.access (Rect.unit (s := S3x2x8x8) ![0, 0, 0, 0] S1x1x8x8.size inb_S3x2x8x8_S1x1x8x8_0_0_0_0)).write (Elt F) f w Finset.univ) w' Finset.univ : sProp 𝕄) ⊢ holdS sS0 c (stk M L) := by
  subst h; subst h'
  exact pointsTo_rep_of_read (c : Thread nD τ) sS0 _ fullShare (stk M L) (wrS0 f M L)
/-- What the store of the result leaves. -/
theorem asO (c : Dev nD) (arg7 : Memref sig .tc .vmem S8x1x8x128 .f32) (f : Buf (Elt F) (arg7.view.loc (c : Thread nD τ))) (w X : S8x1x8x128.Idx → Elt F .f32) (h : w = X) :
    (arg7.view.loc (c : Thread nD τ) ↦[arg7.view.set]{fullShare} (arg7.access (Rect.unit (s := S8x1x8x128) ![0, 0, 0, 0] S8x1x8x128.size inb_S8x1x8x128_S8x1x8x128_0_0_0_0)).write (Elt F) f w Finset.univ : sProp 𝕄)
      ⊢ (arg7.view.loc (c : Thread nD τ) ↦[arg7.view.set]{fullShare} arg7.view.rep X) := by
  subst h
  exact pointsTo_rep_of_read (c : Thread nD τ) arg7 _ fullShare w (View.read_writes_full arg7.view f inb_S8x1x8x128_S8x1x8x128_0_0_0_0 w [])

/-- A copy of a slot to a neighbour's slot. -/
theorem copyStep (c : Dev nD) {s : Shape} {e : EltTy} {src dst : Memref sig .tc .vmem s e} {q sem : DmaSem sig} {d : Dev nD} (c' : Dev nD) (hd : d = c')
    {h0 : dst.view.ref.isScScratch = false} {h1 : src.view.WordExact} {h2 : dst.view.WordExact} {h3 : DmaTarget.Typed (.vmem : Space) (.dma sem) (.remote (d : Thread nD τ) dst (.dma q) h0)}
    {k : PUnit → Prog (TpuEff nD τ sig (Elt F) Λ₀ .tc) PUnit} {Q : PUnit → sProp 𝕄} (X : s.Idx → Elt F e) (κ₁ κ₂ : ℕ)
    (O₁ O₂ : CellTallies nD τ sig Unit) (W : Waits sig Unit) (N : ℕ) (hN : dst.view.dmaCredit = N)
    (hO : O₁ = O₂ + tallyAt ((c' : Thread nD τ), .dma sem) () N)
    (hd₁ : (talkRd lA lM lL).duties ((c : Thread nD τ), .dma q) 0 = {0}) (hd₂ : (talkRd lA lM lL).duties ((c' : Thread nD τ), .dma sem) 0 = {0})
    (ha₁ : (talkRd lA lM lL).amount ((c : Thread nD τ), .dma q) 0 0 = N) (ha₂ : (talkRd lA lM lL).amount ((c' : Thread nD τ), .dma sem) 0 0 = N)
    (hp₁ : (talkRd lA lM lL).payload ((c : Thread nD τ), .dma q) 0 0 = (src.view.loc (c : Thread nD τ) ↦[src.view.set]{fullShare} src.view.rep X))
    (hp₂ : (talkRd lA lM lL).payload ((c' : Thread nD τ), .dma sem) 0 0 = (dst.view.loc (c' : Thread nD τ) ↦[dst.view.set]{fullShare} dst.view.rep X)) :
    iprop(cellInv ER (talkRd lA lM lL) κ₁ ((c : Thread nD τ), .dma q) ∗ cellInv ER (talkRd lA lM lL) κ₂ ((c' : Thread nD τ), .dma sem)
        ∗ (src.view.loc (c : Thread nD τ) ↦[src.view.set]{fullShare} src.view.rep X)
        ∗ (∃ f : Buf (Elt F) (dst.view.loc (c' : Thread nD τ)), dst.view.loc (c' : Thread nD τ) ↦[dst.view.set]{fullShare} f)
        ∗ owes (c : Thread nD τ) O₁ W
        ∗ dutyTok ER ((c : Thread nD τ), .dma q) 0 (0 : Fin 2) ∗ reached ER ((c : Thread nD τ), .dma q) 0
        ∗ dutyTok ER ((c' : Thread nD τ), .dma sem) 0 (0 : Fin 2) ∗ reached ER ((c' : Thread nD τ), .dma sem) 0)
      ⊢ iprop(((cred (tallyAt ((c : Thread nD τ), .dma q) () N) ∗ owes (c : Thread nD τ) O₂ W) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (d : Thread nD τ) dst (.dma q) h0) (.dma sem) h1 h2 h3) k) Q) := by
  subst hd
  iintro ⟨I1, I2, Hs, ⟨%fd, Hd⟩, HO, T1, R1, T2, R2⟩
  iapply (Rounds.wp_send_pointsTo 𝒱₀ ER (talkRd lA lM lL) (c : Thread nD τ) none (c' := (d : Thread nD τ)) (src := src) (dst := dst) (sS := .dma q) (sem := .dma sem) (q := fullShare)
    (fs := src.view.rep X) (κ₁ := κ₁) (κ₂ := κ₂) (r₁ := 0) (r₂ := 0) (d₁ := (0 : Fin 2)) (d₂ := (0 : Fin 2)) (fd := fd)
    (by rw [hd₁]; exact Finset.mem_singleton_self _) (by rw [hd₂]; exact Finset.mem_singleton_self _) () () N hN ha₁ ha₂ O₂ hO (W := W)
    (by rw [hp₁])
    (by rw [hp₂]; exact pointsTo_rep_of_read (d : Thread nD τ) dst _ fullShare X ((View.read_write_univ _ _).trans (View.read_rep src.view X)))) $$ [I1 I2 Hs Hd HO T1 R1 T2 R2]
  isplitl [I1]; · iexact I1
  isplitl [I2]; · iexact I2
  isplitl [Hs]; · iexact Hs
  isplitl [Hd]; · iexact Hd
  isplitl [HO]; · iexact HO
  isplitl [T1]; · iexact T1
  isplitl [R1]; · iexact R1
  isplitl [T2]; · iexact T2
  iexact R2

/-- A wait for a copy, which hands over what the semaphore's cell carries. -/
theorem waitStep (c : Dev nD) {s s' : Shape} {e e' : EltTy} {src : Memref sig .tc .vmem s' e'} {dst : Memref sig .tc .vmem s e} {q : DmaSem sig}
    {h1 : src.view.WordExact} {h2 : dst.view.WordExact}
    {k : PUnit → Prog (TpuEff nD τ sig (Elt F) Λ₀ .tc) PUnit} {Q : PUnit → sProp 𝕄} (κ : ℕ) (O : CellTallies nD τ sig Unit) (W : Waits sig Unit) (N : ℕ) (P : sProp 𝕄) (hN : dst.view.dmaCredit = N)
    (hx : (talkRd lA lM lL).expect ((c : Thread nD τ), .dma q) 0 = N) (hd : (talkRd lA lM lL).duties ((c : Thread nD τ), .dma q) 0 = {0})
    (hp : (talkRd lA lM lL).payload ((c : Thread nD τ), .dma q) 0 0 = P) :
    iprop(cellInv ER (talkRd lA lM lL) κ ((c : Thread nD τ), .dma q) ∗ cred (tallyAt ((c : Thread nD τ), .dma q) () N) ∗ owes (c : Thread nD τ) O W
        ∗ MayWait (c : Thread nD τ) (.dma q) () O ∗ atPos ER ((c : Thread nD τ), .dma q) 0 ∅ 0)
      ⊢ iprop(((owes (c : Thread nD τ) O (insert (.dma q, ()) W) ∗ atPos ER ((c : Thread nD τ), .dma q) (0 + 1) ∅ 0 ∗ P) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 q src dst h1 h2) k) Q) := by
  iintro ⟨I, C, HO, HM, A⟩ HK
  iapply (Rounds.wp_wait_rest_token 𝒱₀ ER (talkRd lA lM lL) (c : Thread nD τ) none (κ := κ)
    (wpE_waitDma2_eq (src := src) (dst := dst) 𝒱₀ (c : Thread nD τ) none Set.univ) (Set.mem_univ _) () (O := O) (W := W) (R := 0) (m := 0) (T := ∅)
    ((Nat.zero_add _).trans (hN.trans hx.symm))) $$ [I C HO HM A]
  · rw [hN]
    isplitl [I]; · iexact I
    isplitl [C]; · iexact C
    isplitl [HO]; · iexact HO
    isplitl [HM]; · iexact HM
    iexact A
  iintro ⟨HO, A, -, Hp⟩
  iapply HK
  isplitl [HO]; · iexact HO
  isplitl [A]; · iexact A
  ihave Hp := (Entails.of_eq (show bigSep ((talkRd lA lM lL).duties ((c : Thread nD τ), .dma q) 0 \ ∅) (fun u => (talkRd lA lM lL).payload ((c : Thread nD τ), .dma q) 0 u) = P by
    rw [Finset.sdiff_empty, hd, bigSep_singleton, hp])) $$ Hp
  iexact Hp

/-- A cell whose only round is over gives its counter back, at zero. -/
theorem closeCell (κ : ℕ) (g : GSem nD τ sig) : iprop(cellInv ER (talkRd lA lM lL) κ g ∗ atPos ER g (0 + 1) ∅ 0) ⊢ (|={Set.univ}=> semVal g 0 : sProp 𝕄) :=
  Rounds.cell_close ER (talkRd lA lM lL) (Set.mem_univ κ) id (duties_later lA lM lL g)

/-- What device `c` has after the exchange: its counters at zero, its slots, the result, nothing owed. -/
def swapPost (c : Dev nD) (arg7 : Memref sig .tc .vmem S8x1x8x128 .f32) : sProp 𝕄 :=
  iprop(semVal (barCell c) 0
    ∗ (semVal (s0C c) 0 ∗ semVal (s1C c) 0 ∗ semVal (s2C c) 0 ∗ semVal (s3C c) 0 ∗ semVal (r0C c) 0 ∗ semVal (r1C c) 0 ∗ semVal (r2C c) 0 ∗ semVal (r3C c) 0)
    ∗ ((Memref.whole cc0_scratch0).view.loc (c : Thread nD τ) ↦[(Memref.whole cc0_scratch0).view.set]{fullShare} (Memref.whole cc0_scratch0).view.rep (lA c))
    ∗ ((Memref.whole cc0_scratch1).view.loc (c : Thread nD τ) ↦[(Memref.whole cc0_scratch1).view.set]{fullShare} (Memref.whole cc0_scratch1).view.rep (lM c))
    ∗ ((Memref.whole cc0_scratch2).view.loc (c : Thread nD τ) ↦[(Memref.whole cc0_scratch2).view.set]{fullShare} (Memref.whole cc0_scratch2).view.rep (lL c))
    ∗ slotsAny c
    ∗ (arg7.view.loc (c : Thread nD τ) ↦[arg7.view.set]{fullShare} arg7.view.rep (cOut lA lM lL c))
    ∗ ∃ W, owes (c : Thread nD τ) 0 W)

set_option pp.maxSteps 20000 in
set_option maxHeartbeats 4000000 in
/-- The exchange of device `c`: from its folded chunks to the result of all devices. -/
theorem swapRun (c : Dev nD) (i : grid0.Coords) (hi : k0_cond2 i = 1#1) (h1 h2) (arg3 : Memref sig .tc .vmem S8x1x8x128 .bf16) (h3 : arg3.IsWhole) (arg4 : Memref sig .tc .vmem S64x16x8x128 .bf16) (h4 : arg4.IsWhole) (arg5 : Memref sig .tc .vmem S64x16x8x128 .bf16) (h5 : arg5.IsWhole) (arg6 : Memref sig .tc .vmem S8x512 .i32) (h6 : arg6.IsWhole) (arg7 : Memref sig .tc .vmem S8x1x8x128 .f32) (h7 : arg7.IsWhole) (h8 h9 h10 h11 h12)
    (v0 v1 : Elt F .i32) (hchk : k0_chk1 i v0 v1)
    (hd1 : (⟨k0_dev1 v0 v1, k0_dev1_lt i v0 v1 hchk hi⟩ : Dev nD) = px c)
    (hd2 : (⟨k0_dev2 v0 v1, k0_dev2_lt i v0 v1 hchk hi⟩ : Dev nD) = py c)
    (hd3 : (⟨k0_dev3 v0 v1, k0_dev3_lt i v0 v1 hchk hi⟩ : Dev nD) = px c)
    (hd4 : (⟨k0_dev4 v0 v1, k0_dev4_lt i v0 v1 hchk hi⟩ : Dev nD) = px c)
    (hd5 : (⟨k0_dev5 v0 v1, k0_dev5_lt i v0 v1 hchk hi⟩ : Dev nD) = py c)
    (hd6 : (⟨k0_dev6 v0 v1, k0_dev6_lt i v0 v1 hchk hi⟩ : Dev nD) = py c)
    (W : Waits sig Unit) (Q : PUnit → sProp 𝕄)
    (hmwB : (levAts L lv : sProp 𝕄) ⊢ MayWait (c : Thread nD τ) (.reg barS) () (O₄ c))
    (hmw0 : (levAts L lv : sProp 𝕄) ⊢ MayWait (c : Thread nD τ) (.dma snd0) () (O₆ c))
    (hmw1 : (levAts L lv : sProp 𝕄) ⊢ MayWait (c : Thread nD τ) (.dma snd1) () (O₆ c))
    (hmw4 : (levAts L lv : sProp 𝕄) ⊢ MayWait (c : Thread nD τ) (.dma rcv0) () (O₆ c))
    (hmw5 : (levAts L lv : sProp 𝕄) ⊢ MayWait (c : Thread nD τ) (.dma rcv1) () (O₆ c)) :
    iprop((opened lA lM lL K c ∗ creds c ∗ levAts L lv
       ∗ ((Memref.whole cc0_scratch0).view.loc (c : Thread nD τ) ↦[(Memref.whole cc0_scratch0).view.set]{fullShare} (Memref.whole cc0_scratch0).view.rep (lA c))
       ∗ ((Memref.whole cc0_scratch1).view.loc (c : Thread nD τ) ↦[(Memref.whole cc0_scratch1).view.set]{fullShare} (Memref.whole cc0_scratch1).view.rep (lM c))
       ∗ ((Memref.whole cc0_scratch2).view.loc (c : Thread nD τ) ↦[(Memref.whole cc0_scratch2).view.set]{fullShare} (Memref.whole cc0_scratch2).view.rep (lL c))
       ∗ slotsAny c ∗ (∃ f7, arg7.view.loc (c : Thread nD τ) ↦[arg7.view.set]{fullShare} f7) ∗ owes (c : Thread nD τ) (O₀ c) W)
      ∗ (swapPost lA lM lL c arg7 -∗ Q ⟨⟩))
    ⊢ wp frame (wpE (defs₀ (F := F)) 𝒱₀ c none) Set.univ (tailProg i (Memref.whole main_v11) h1 (Memref.whole main_arg4) h2 arg3 h3 arg4 h4 arg5 h5 arg6 h6 arg7 h7 (Memref.whole cc0_scratch0) h8 (Memref.whole cc0_scratch1) h9 (Memref.whole cc0_scratch2) h10 (Memref.whole cc0_scratch3) h11 (Memref.whole cc0_scratch4) h12 cc0_scratch5 cc0_scratch6 v0 v1 hchk) Q := by
  unfold tailProg
  rw [dif_pos hi]
  rw [k0_part1_eq_skeleton, k0_part2_eq_skeleton, k0_part3_eq_skeleton, k0_part4_eq_skeleton, k0_part5_eq_skeleton, k0_part6_eq_skeleton, k0_part7_eq_skeleton]
  unfold opened invs toks creds slotsAny
  iintro ⟨⟨⟨⟨#IB, #I0, #I1, #I2, #I3, #I4, #I5, #I6, #I7, #IBx, #IBy, #Ix0, #Ix1, #Iy2, #Iy3⟩, #RBx, #RBy, ⟨#R0, #R1, #R2, #R3, #R4, #R5, #R6, #R7⟩, AB, ⟨A0, A1, A2, A3, A4, A5, A6, A7⟩, ⟨TBx, TBy, T0, T1, T2, T3, T4, T5, T6, T7⟩⟩, ⟨CB, C4, C5, C6, C7⟩, #Hlev, HA, HM, HL, ⟨⟨⟨%fa0, Ha0⟩, Ha1, Ha2⟩, ⟨%fs0, Hs0⟩, Hs1, Hs2⟩, ⟨%f7, H7⟩, HO⟩, HQ⟩
  simp only [k0_part1_skel, k0_part2_skel, k0_part3_skel, k0_part4_skel, k0_part5_skel, k0_part6_skel, k0_part7_skel, semSignalWord, semWaitWord, lift_bind, op_bind, ret_bind, ret_bind', hd1, hd2]
  iapply (Rounds.wp_signal 𝒱₀ ER (talkRd lA lM lL) (c : Thread nD τ) none (dst := (px c : Thread nD τ)) (sem := barS) (r := 0) (d := (0 : Fin 2)) (κ := K (barCell (px c)))
      (by rw [duties_bar]; decide) (amount_bar lA lM lL (px c) 0) () (O₄ c + tallyAt (barCell (py c)) () 1) rfl) $$ [HO TBx Ha1 Hs1]
  · isplitr; · iexact IBx
    isplitl [HO]; · iexact HO
    isplitl [TBx]; · iexact TBx
    isplitl [Ha1 Hs1]
    · rw [payload_bar0, px_px]
      isplitl [Ha1]; · iexact Ha1
      isplitl [Hs1]; · iexact Hs1
      isplitr; · iexact R4
      iexact R5
    · iexact RBx
  iintro HO
  iapply (Rounds.wp_signal 𝒱₀ ER (talkRd lA lM lL) (c : Thread nD τ) none (dst := (py c : Thread nD τ)) (sem := barS) (r := 0) (d := (1 : Fin 2)) (κ := K (barCell (py c)))
      (by rw [duties_bar]; decide) (amount_bar lA lM lL (py c) 1) () (O₄ c) rfl) $$ [HO TBy Ha2 Hs2]
  · isplitr; · iexact IBy
    isplitl [HO]; · iexact HO
    isplitl [TBy]; · iexact TBy
    isplitl [Ha2 Hs2]
    · rw [payload_bar1, py_py]
      isplitl [Ha2]; · iexact Ha2
      isplitl [Hs2]; · iexact Hs2
      isplitr; · iexact R6
      iexact R7
    · iexact RBy
  iintro HO
  iapply (Rounds.wp_wait_rest_token 𝒱₀ ER (talkRd lA lM lL) (c : Thread nD τ) none (κ := K (barCell c))
      (wpE_semWait_eq 𝒱₀ (c : Thread nD τ) none Set.univ) (Set.mem_univ _) () (O := O₄ c) (W := W) (R := 0) (m := 0) (T := ∅)
      ((Nat.zero_add 2).trans (expect_bar lA lM lL c).symm)) $$ [CB HO AB]
  · isplitr; · iexact IB
    isplitl [CB]; · iexact CB
    isplitl [HO]; · iexact HO
    isplitr; · iapply hmwB; iexact Hlev
    iexact AB
  iintro ⟨HO, AB, -, Hpay⟩
  ihave Hp := (Entails.of_eq (rest_bar lA lM lL c)) $$ Hpay
  unfold barPay
  icases Hp with ⟨⟨Hpa1, Hps1, #Rx0, #Rx1⟩, Hpa2, Hps2, #Ry2, #Ry3⟩
  iapply (ld c (m := (Memref.whole cc0_scratch0 : Memref sig .tc .vmem S8x8x128 .f32)) _ rfl ((Memref.whole cc0_scratch0 : Memref sig .tc .vmem S8x8x128 .f32).view.setOn_subset_set _) (lA c) (View.readAt_rep_full _ _ _)) $$ HA
  iintro HA
  iapply (ld_any c (m := aM) _ rfl inA0) $$ Ha0
  iintro Ha0
  iapply (st c (m := aM) _ _ rfl accA0 rfl) $$ Ha0
  iintro Ha0
  ihave Ha0 := (asA0 c fa0 (k0_pay2 (lA c)) (lA c) (shapeCast_shapeCast (lA c) (by decide) (by decide))) $$ Ha0
  iapply (ld c (m := (Memref.whole cc0_scratch1 : Memref sig .tc .vmem S8x8 .f32)) _ rfl ((Memref.whole cc0_scratch1 : Memref sig .tc .vmem S8x8 .f32).view.setOn_subset_set _) (lM c) (View.readAt_rep_full _ _ _)) $$ HM
  iintro HM
  iapply (ld_any c (m := sM) _ rfl inS00) $$ Hs0
  iintro Hs0
  iapply (st c (m := sM) _ _ rfl accS00 rfl) $$ Hs0
  iintro Hs0
  iapply (ld c (m := (Memref.whole cc0_scratch2 : Memref sig .tc .vmem S8x8 .f32)) _ rfl ((Memref.whole cc0_scratch2 : Memref sig .tc .vmem S8x8 .f32).view.setOn_subset_set _) (lL c) (View.readAt_rep_full _ _ _)) $$ HL
  iintro HL
  iapply (ld_any c (m := sM) _ rfl inS01) $$ Hs0
  iintro Hs0
  iapply (st c (m := sM) _ _ rfl accS01 rfl) $$ Hs0
  iintro Hs0
  ihave Hs0 := (asS0 c fs0 (k0_pay3 (lM c)) (k0_pay4 (lL c)) (lM c) (lL c) rfl rfl) $$ Hs0
  iapply (copyStep lA lM lL c (src := aS0) (dst := aS1) (px c) hd3 (lA c) (K (s0C c)) (K (r0C (px c))) _ (O₆ c + tallyAt (oCell (px c) 5) () NS) _ NA rfl rfl
      (duties_s0 lA lM lL c) (duties_r0 lA lM lL (px c)) (amount_s0 lA lM lL c 0) (amount_r0 lA lM lL (px c) 0)
      (payload_s0 lA lM lL c 0) ((payload_r0 lA lM lL (px c) 0).trans (by rw [px_px]))) $$ [Ha0 Hpa1 HO T0 T4]
  · isplitr; · iexact I0
    isplitr; · iexact Ix0
    isplitl [Ha0]; · iexact Ha0
    isplitl [Hpa1]; · iexact Hpa1
    isplitl [HO]; · iexact HO
    isplitl [T0]; · iexact T0
    isplitr; · iexact R0
    isplitl [T4]; · iexact T4
    iexact Rx0
  iintro ⟨C0, HO⟩
  iapply (copyStep lA lM lL c (src := sS0) (dst := sS1) (px c) hd4 (stk (lM c) (lL c)) (K (s1C c)) (K (r1C (px c))) _ (O₆ c) _ NS rfl rfl
      (duties_s1 lA lM lL c) (duties_r1 lA lM lL (px c)) (amount_s1 lA lM lL c 0) (amount_r1 lA lM lL (px c) 0)
      (payload_s1 lA lM lL c 0) ((payload_r1 lA lM lL (px c) 0).trans (by rw [px_px]))) $$ [Hs0 Hps1 HO T1 T5]
  · isplitr; · iexact I1
    isplitr; · iexact Ix1
    isplitl [Hs0]; · iexact Hs0
    isplitl [Hps1]; · iexact Hps1
    isplitl [HO]; · iexact HO
    isplitl [T1]; · iexact T1
    isplitr; · iexact R1
    isplitl [T5]; · iexact T5
    iexact Rx1
  iintro ⟨C1, HO⟩
  iapply (waitStep lA lM lL c (src := aS1) (dst := aS0) (K (s0C c)) (O₆ c) _ NA _ rfl (expect_s0 lA lM lL c) (duties_s0 lA lM lL c) (payload_s0 lA lM lL c 0)) $$ [C0 HO A0]
  · isplitr; · iexact I0
    isplitl [C0]; · iexact C0
    isplitl [HO]; · iexact HO
    isplitr; · iapply hmw0; iexact Hlev
    iexact A0
  iintro ⟨HO, A0, Ha0⟩
  iapply (waitStep lA lM lL c (src := aS0) (dst := aS1) (K (r0C c)) (O₆ c) _ NA _ rfl (expect_r0 lA lM lL c) (duties_r0 lA lM lL c) (payload_r0 lA lM lL c 0)) $$ [C4 HO A4]
  · isplitr; · iexact I4
    isplitl [C4]; · iexact C4
    isplitl [HO]; · iexact HO
    isplitr; · iapply hmw4; iexact Hlev
    iexact A4
  iintro ⟨HO, A4, Ha1⟩
  iapply (waitStep lA lM lL c (src := sS1) (dst := sS0) (K (s1C c)) (O₆ c) _ NS _ rfl (expect_s1 lA lM lL c) (duties_s1 lA lM lL c) (payload_s1 lA lM lL c 0)) $$ [C1 HO A1]
  · isplitr; · iexact I1
    isplitl [C1]; · iexact C1
    isplitl [HO]; · iexact HO
    isplitr; · iapply hmw1; iexact Hlev
    iexact A1
  iintro ⟨HO, A1, Hs0⟩
  iapply (waitStep lA lM lL c (src := sS0) (dst := sS1) (K (r1C c)) (O₆ c) _ NS _ rfl (expect_r1 lA lM lL c) (duties_r1 lA lM lL c) (payload_r1 lA lM lL c 0)) $$ [C5 HO A5]
  · isplitr; · iexact I5
    isplitl [C5]; · iexact C5
    isplitl [HO]; · iexact HO
    isplitr; · iapply hmw5; iexact Hlev
    iexact A5
  iintro ⟨HO, A5, Hs1⟩
  iapply (ld c (m := sM) _ rfl inS00 (exS (lM c)) (rdS00 (lM c) (lL c))) $$ Hs0
  iintro Hs0
  iapply (ld c (m := sM) _ rfl inS01 (exS (lL c)) (rdS01 (lM c) (lL c))) $$ Hs0
  iintro Hs0
  iapply (ld c (m := sM) _ rfl inS10 (exS (lM (px c))) (rdS10 (lM (px c)) (lL (px c)))) $$ Hs1
  iintro Hs1
  iapply (ld c (m := sM) _ rfl inS11 (exS (lL (px c))) (rdS11 (lM (px c)) (lL (px c)))) $$ Hs1
  iintro Hs1
  iapply (ld c (m := aM) _ rfl inA0 (exA (lA c)) (rdA0 (lA c))) $$ Ha0
  iintro Ha0
  iapply (ld c (m := aM) _ rfl inA1 (exA (lA (px c))) (rdA1 (lA (px c)))) $$ Ha1
  iintro Ha1
  iapply (ld_any c (m := aM) _ rfl inA0) $$ Ha0
  iintro Ha0
  iapply (st c (m := aM) _ _ rfl accA0 rfl) $$ Ha0
  iintro Ha0
  ihave Ha0 := (asA0 c _ (k0_pay14 (k0_pay11 (exS (lM c)) (exS (lM (px c))) (exA (lA c))) (k0_pay12 (exA (lA (px c)))) (k0_pay13 (exS (lM c)) (exS (lM (px c))))) (cA lA lM c) rfl) $$ Ha0
  iapply (ld_any c (m := sM) _ rfl inS00) $$ Hs0
  iintro Hs0
  iapply (st c (m := sM) _ _ rfl accS00 rfl) $$ Hs0
  iintro Hs0
  iapply (ld_any c (m := sM) _ rfl inS01) $$ Hs0
  iintro Hs0
  iapply (st c (m := sM) _ _ rfl accS01 rfl) $$ Hs0
  iintro Hs0
  ihave Hs0 := (asS0 c _ (k0_pay15 (k0_pay7 (exS (lM c)) (exS (lM (px c))))) (k0_pay16 (k0_pay10 (exS (lM c)) (exS (lL c)) (exS (lM (px c))) (exS (lL (px c))))) (cM lM c) (cL lM lL c) rfl rfl) $$ Hs0
  iapply (copyStep lA lM lL c (src := aS0) (dst := aS2) (py c) hd5 (cA lA lM c) (K (s2C c)) (K (r2C (py c))) _ (tallyAt (oCell (py c) 7) () NS) _ NA rfl rfl
      (duties_s2 lA lM lL c) (duties_r2 lA lM lL (py c)) (amount_s2 lA lM lL c 0) (amount_r2 lA lM lL (py c) 0)
      (payload_s2 lA lM lL c 0) ((payload_r2 lA lM lL (py c) 0).trans (by rw [py_py]))) $$ [Ha0 Hpa2 HO T2 T6]
  · isplitr; · iexact I2
    isplitr; · iexact Iy2
    isplitl [Ha0]; · iexact Ha0
    isplitl [Hpa2]; · iexact Hpa2
    isplitl [HO]; · iexact HO
    isplitl [T2]; · iexact T2
    isplitr; · iexact R2
    isplitl [T6]; · iexact T6
    iexact Ry2
  iintro ⟨C2, HO⟩
  iapply (copyStep lA lM lL c (src := sS0) (dst := sS2) (py c) hd6 (stk (cM lM c) (cL lM lL c)) (K (s3C c)) (K (r3C (py c))) _ (0) _ NS rfl (zero_add _).symm
      (duties_s3 lA lM lL c) (duties_r3 lA lM lL (py c)) (amount_s3 lA lM lL c 0) (amount_r3 lA lM lL (py c) 0)
      (payload_s3 lA lM lL c 0) ((payload_r3 lA lM lL (py c) 0).trans (by rw [py_py]))) $$ [Hs0 Hps2 HO T3 T7]
  · isplitr; · iexact I3
    isplitr; · iexact Iy3
    isplitl [Hs0]; · iexact Hs0
    isplitl [Hps2]; · iexact Hps2
    isplitl [HO]; · iexact HO
    isplitl [T3]; · iexact T3
    isplitr; · iexact R3
    isplitl [T7]; · iexact T7
    iexact Ry3
  iintro ⟨C3, HO⟩
  iapply (waitStep lA lM lL c (src := aS2) (dst := aS0) (K (s2C c)) (0) _ NA _ rfl (expect_s2 lA lM lL c) (duties_s2 lA lM lL c) (payload_s2 lA lM lL c 0)) $$ [C2 HO A2]
  · isplitr; · iexact I2
    isplitl [C2]; · iexact C2
    isplitl [HO]; · iexact HO
    isplitr; · rw [MayWait_zero]; iempintro
    iexact A2
  iintro ⟨HO, A2, Ha0⟩
  iapply (waitStep lA lM lL c (src := aS0) (dst := aS2) (K (r2C c)) (0) _ NA _ rfl (expect_r2 lA lM lL c) (duties_r2 lA lM lL c) (payload_r2 lA lM lL c 0)) $$ [C6 HO A6]
  · isplitr; · iexact I6
    isplitl [C6]; · iexact C6
    isplitl [HO]; · iexact HO
    isplitr; · rw [MayWait_zero]; iempintro
    iexact A6
  iintro ⟨HO, A6, Ha2⟩
  iapply (waitStep lA lM lL c (src := sS2) (dst := sS0) (K (s3C c)) (0) _ NS _ rfl (expect_s3 lA lM lL c) (duties_s3 lA lM lL c) (payload_s3 lA lM lL c 0)) $$ [C3 HO A3]
  · isplitr; · iexact I3
    isplitl [C3]; · iexact C3
    isplitl [HO]; · iexact HO
    isplitr; · rw [MayWait_zero]; iempintro
    iexact A3
  iintro ⟨HO, A3, Hs0⟩
  iapply (waitStep lA lM lL c (src := sS0) (dst := sS2) (K (r3C c)) (0) _ NS _ rfl (expect_r3 lA lM lL c) (duties_r3 lA lM lL c) (payload_r3 lA lM lL c 0)) $$ [C7 HO A7]
  · isplitr; · iexact I7
    isplitl [C7]; · iexact C7
    isplitl [HO]; · iexact HO
    isplitr; · rw [MayWait_zero]; iempintro
    iexact A7
  iintro ⟨HO, A7, Hs2⟩
  iapply (ld c (m := sM) _ rfl inS00 (exS (cM lM c)) (rdS00 (cM lM c) (cL lM lL c))) $$ Hs0
  iintro Hs0
  iapply (ld c (m := sM) _ rfl inS01 (exS (cL lM lL c)) (rdS01 (cM lM c) (cL lM lL c))) $$ Hs0
  iintro Hs0
  iapply (ld c (m := sM) _ rfl inS20 (exS (cM lM (py c))) (rdS20 (cM lM (py c)) (cL lM lL (py c)))) $$ Hs2
  iintro Hs2
  iapply (ld c (m := sM) _ rfl inS21 (exS (cL lM lL (py c))) (rdS21 (cM lM (py c)) (cL lM lL (py c)))) $$ Hs2
  iintro Hs2
  iapply (ld c (m := aM) _ rfl inA0 (exA (cA lA lM c)) (rdA0 (cA lA lM c))) $$ Ha0
  iintro Ha0
  iapply (ld c (m := aM) _ rfl inA2 (exA (cA lA lM (py c))) (rdA2 (cA lA lM (py c)))) $$ Ha2
  iintro Ha2
  iapply (ld_any c (m := arg7) _ rfl (arg7.view.setOn_subset_set _)) $$ H7
  iintro H7
  iapply (st c (m := arg7) _ _ rfl (arg7.view.set_slice_subset _) rfl) $$ H7
  iintro H7
  ihave H7 := (asO c arg7 f7 (k0_pay1 (k0_pay17 (exS (cM lM c))) (k0_pay18 (exS (cL lM lL c))) (exS (cM lM (py c))) (exS (cL lM lL (py c))) (exA (cA lA lM c)) (exA (cA lA lM (py c)))) (cOut lA lM lL c) rfl) $$ H7
  rw [show (Pure.pure PUnit.unit : Prog (TpuEff nD τ sig (Elt F) Λ₀ .tc) PUnit) = .ret PUnit.unit from rfl, wp_ret]
  imod (closeCell lA lM lL (K (barCell c)) (barCell c)) $$ [AB] with AB
  · isplitr; · iexact IB
    iexact AB
  imod (closeCell lA lM lL (K (s0C c)) (s0C c)) $$ [A0] with A0
  · isplitr; · iexact I0
    iexact A0
  imod (closeCell lA lM lL (K (s1C c)) (s1C c)) $$ [A1] with A1
  · isplitr; · iexact I1
    iexact A1
  imod (closeCell lA lM lL (K (s2C c)) (s2C c)) $$ [A2] with A2
  · isplitr; · iexact I2
    iexact A2
  imod (closeCell lA lM lL (K (s3C c)) (s3C c)) $$ [A3] with A3
  · isplitr; · iexact I3
    iexact A3
  imod (closeCell lA lM lL (K (r0C c)) (r0C c)) $$ [A4] with A4
  · isplitr; · iexact I4
    iexact A4
  imod (closeCell lA lM lL (K (r1C c)) (r1C c)) $$ [A5] with A5
  · isplitr; · iexact I5
    iexact A5
  imod (closeCell lA lM lL (K (r2C c)) (r2C c)) $$ [A6] with A6
  · isplitr; · iexact I6
    iexact A6
  imod (closeCell lA lM lL (K (r3C c)) (r3C c)) $$ [A7] with A7
  · isplitr; · iexact I7
    iexact A7
  imodintro
  iapply HQ
  unfold swapPost slotsAny
  isplitl [AB]; · iexact AB
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [HA]; · iexact HA
  isplitl [HM]; · iexact HM
  isplitl [HL]; · iexact HL
  isplitl [Ha0 Ha1 Ha2 Hs0 Hs1 Hs2]
  · isplitl [Ha0 Ha1 Ha2]
    · isplitl [Ha0]; · iexists _; iexact Ha0
      isplitl [Ha1]; · iexists _; iexact Ha1
      iexists _; iexact Ha2
    isplitl [Hs0]; · iexists _; iexact Hs0
    isplitl [Hs1]; · iexists _; iexact Hs1
    iexists _; iexact Hs2
  isplitl [H7]; · iexact H7
  iexists _; iexact HO
end
end Cert.KProof
end
-- ==== Proof.Words.lean ====
module

public import proofs.«01_k».proof.Proof.Swap
public import proofs.«01_k».proof.Proof.Gen.KernelIdeal.Regions
public import Idealize.ShloMosaic.Lib.StableHlo.RunRead

/-!
# The table of a device's place

The host writes, on device `c`, the table `[c / 2 mod 2, c mod 2]`. From it: the window index maps stay inside the arrays, and the
devices that the body addresses are the two neighbours.
-/

@[expose] public section

noncomputable section

namespace Cert.KProof

open Cert.KernelIdeal Cert.KernelIdeal.Gen
open Idealize.ShloMosaic
open Idealize.ShloMosaic.TcCoe
open Idealize.ShloMosaic.Pipeline

variable {F : FTy → Type} [FloatOps F] [Named F]
variable (m : (ℓ : Loc nD τ sig) → Buf (Elt F) ℓ)

/-- The table `[c / 2, c mod 2]` of device `c`. -/
def xyTab (c : Dev nD) : S2.Idx → BitVec 32 := fun i => BitVec.ofNat 32 (if (i 0).val = 0 then c.val / 2 else c.val % 2)

/-- Two one-element arrays side by side are the table, when they hold its two numbers. -/
theorem concat_xy (c : Dev nD) (a b : S1.Idx → BitVec 32) (ha : a = fun _ => BitVec.ofNat 32 (c.val / 2)) (hb : b = fun _ => BitVec.ofNat 32 (c.val % 2)) :
    concatenate S2 0 [⟨S1, a⟩, ⟨S1, b⟩] concatenates_S1_S1_S2_d0 = xyTab c := by
  subst ha hb
  funext i
  obtain ⟨k, rfl⟩ : ∃ k : Fin 2, i = (fun a => match a with | 0 => k) := ⟨i 0, by funext a; fin_cases a; rfl⟩
  fin_cases k <;> rfl

/-- What the host leaves in the table of places. -/
theorem V1_xy (c : Dev nD) : V1 m c main_v11 = xyTab c := by
  show StableHlo.after (hostOps0 c) (V0 m c) (Proc.devRef .tc main_v11) = _
  simp only [hostOps0]
  after_results_simp
  refine concat_xy c _ _ ?_ ?_
  · after_results_simp
    funext i
    have e : ∀ c : Dev nD, IntOp.remui .host (IntOp.divui .host (Dev.word c) 2#32) 2#32 = BitVec.ofNat 32 (c.val / 2) := by
      intro c
      rw [IntOp.divui, if_neg (by decide), IntOp.remui, if_neg (by decide)]
      revert c; decide
    exact e c
  · after_results_simp
    funext i
    have e : ∀ c : Dev nD, IntOp.remui .host (IntOp.divui .host (Dev.word c) 1#32) 2#32 = BitVec.ofNat 32 (c.val % 2) := by
      intro c
      rw [IntOp.divui, if_neg (by decide), IntOp.remui, if_neg (by decide)]
      revert c; decide
    exact e c

/-- The tables' contents on device `c`. -/
abbrev tab (c : Dev nD) : pre0.Contents (Elt F) := fun k => V1 m c (pre0.ref k)

/-- The block of K at a grid point, as the host's table gives it. -/
theorem map1_eq (pf : pre0.Contents (Elt F)) (c : Dev nD) (h : pf 0 = xyTab c) (i : grid0.Coords) :
    cc0_transform_1 inb_S2_S1_0 numel1_S1 pf i = ![4 * (c.val / 2) + (i 0).val, 0, 0, 0] := by
  unfold cc0_transform_1
  have hx : ∀ k : S2.Idx, (k 0).val = 0 → pf 0 k = BitVec.ofNat 32 (c.val / 2) := fun k hk => (congrFun h k).trans (congrArg (BitVec.ofNat 32) (if_pos hk))
  rw [show pf.at 0 (Rect.unit (s := S2) ![0] S1.size inb_S2_S1_0) numel1_S1 = BitVec.ofNat 32 (c.val / 2) from hx _ rfl]
  generalize i 0 = j
  change Fin 4 at j
  clear hx h
  revert c; revert j; decide

/-- The block of V at a grid point is the same one. -/
theorem map2_eq (pf : pre0.Contents (Elt F)) (c : Dev nD) (h : pf 0 = xyTab c) (i : grid0.Coords) :
    cc0_transform_2 inb_S2_S1_0 numel1_S1 pf i = ![4 * (c.val / 2) + (i 0).val, 0, 0, 0] := map1_eq pf c h i

/-- With the host's table the blocks of K and V stay inside the arrays. -/
theorem ok_xy (pf : pre0.Contents (Elt F)) (c : Dev nD) (h : pf 0 = xyTab c) : ok0 pf := by
  have hb : ∀ (i : grid0.Coords) a, ((![4 * (c.val / 2) + (i 0).val, 0, 0, 0] : Fin 4 → ℕ) a + 1) * S64x16x8x128.size a ≤ S512x16x8x128.size a := by
    intro i
    generalize i 0 = j
    change Fin 4 at j
    clear h
    revert c; revert j; decide
  refine ⟨fun i => ?_, fun i => ?_⟩
  · have e := map1_eq pf c h i
    have hb' : ∀ a, (cc0_transform_1 inb_S2_S1_0 numel1_S1 pf i a + 1) * S64x16x8x128.size a ≤ S512x16x8x128.size a := by rw [e]; exact hb i
    refine ⟨hb', Or.inr ?_⟩
    revert hb'; rw [e]; intro hb'
    revert hb'
    generalize i 0 = j
    change Fin 4 at j
    clear h e hb
    revert c; revert j; decide
  · have e := map2_eq pf c h i
    have hb' : ∀ a, (cc0_transform_2 inb_S2_S1_0 numel1_S1 pf i a + 1) * S64x16x8x128.size a ≤ S512x16x8x128.size a := by rw [e]; exact hb i
    refine ⟨hb', Or.inr ?_⟩
    revert hb'; rw [e]; intro hb'
    revert hb'
    generalize i 0 = j
    change Fin 4 at j
    clear h e hb
    revert c; revert j; decide

/-- The contents the region runs at on device `c`. -/
def adm (c : Dev nD) : (p : Fin 1) → (pcfgs (F := F) p).Adm := fun _ => ⟨tab m c, ok_xy _ c (V1_xy m c)⟩

/-- The first word of the table, -/
theorem wx_xy (c : Dev nD) : wx (F := F) (xyTab c) = BitVec.ofNat 32 (c.val / 2) := rfl
/-- and the second. -/
theorem wy_xy (c : Dev nD) : wy (F := F) (xyTab c) = BitVec.ofNat 32 (c.val % 2) := rfl

end Cert.KProof
-- ==== Proof.Slabs.lean ====
module

public import proofs.«01_k».proof.Proof.Words
public import Idealize.ShloMosaic.Lib.Ring

/-!
# The exchange buffers and their three slots

Each of the two exchange buffers is its three slots, disjoint and together the whole; and the two device numbers that the exchange
names are the two neighbours.
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- The three slots' offsets in the buffer of weighted sums, -/
def offA (b : Fin 3) : Fin S3x8x8x128.rank → ℕ := ![b.val, 0, 0, 0]
/-- and in that of the statistics. -/
def offS (b : Fin 3) : Fin S3x2x8x8.rank → ℕ := ![b.val, 0, 0, 0]
/-- The slots of the sums are inside their buffer. -/
theorem inbA : ∀ b a, offA b a + S1x8x8x128.size a ≤ S3x8x8x128.size a := by decide
/-- The slots of the statistics are inside their buffer. -/
theorem inbS : ∀ b a, offS b a + S1x2x8x8.size a ≤ S3x2x8x8.size a := by decide
/-- The elements of slot `b`. -/
def slA (b : Fin 3) : Finset S3x8x8x128.Idx := (Rect.unit (s := S3x8x8x128) (offA b) S1x8x8x128.size (inbA b)).set
/-- The elements of slot `b` of the statistics. -/
def slS (b : Fin 3) : Finset S3x2x8x8.Idx := (Rect.unit (s := S3x2x8x8) (offS b) S1x2x8x8.size (inbS b)).set

/-- Different slots of the sums do not meet. -/
theorem slA_disjoint : ∀ b b', b ≠ b' → Disjoint (slA b) (slA b') := fun b b' h =>
  Ring.lead_disjoint (s := S3x8x8x128) 0 1 offA S1x8x8x128.size inbA (by decide) (by decide) b b' h
/-- Different slots of the statistics do not meet. -/
theorem slS_disjoint : ∀ b b', b ≠ b' → Disjoint (slS b) (slS b') := fun b b' h =>
  Ring.lead_disjoint (s := S3x2x8x8) 0 1 offS S1x2x8x8.size inbS (by decide) (by decide) b b' h
/-- The slots of the sums are the whole buffer. -/
theorem slA_cover : Finset.univ.biUnion slA = Finset.univ :=
  Ring.lead_cover (s := S3x8x8x128) 0 1 offA S1x8x8x128.size inbA (by decide) (by decide) (by decide) (by decide) (by decide)
/-- The slots of the statistics are the whole buffer. -/
theorem slS_cover : Finset.univ.biUnion slS = Finset.univ :=
  Ring.lead_cover (s := S3x2x8x8) 0 1 offS S1x2x8x8.size inbS (by decide) (by decide) (by decide) (by decide) (by decide)

/-- The elements of slot 0 of the sums, as the kernel names it. -/
theorem set_aS0 : aS0.view.set = slA 0 := (View.set_reshape _ _).trans (View.set_slice_whole _ _)
/-- The elements of slot 1 of the sums, as the kernel names it. -/
theorem set_aS1 : aS1.view.set = slA 1 := (View.set_reshape _ _).trans (View.set_slice_whole _ _)
/-- The elements of slot 2 of the sums, as the kernel names it. -/
theorem set_aS2 : aS2.view.set = slA 2 := (View.set_reshape _ _).trans (View.set_slice_whole _ _)
/-- The elements of slot 0 of the statistics, as the kernel names it. -/
theorem set_sS0 : sS0.view.set = slS 0 := (View.set_reshape _ _).trans (View.set_slice_whole _ _)
/-- The elements of slot 1 of the statistics, as the kernel names it. -/
theorem set_sS1 : sS1.view.set = slS 1 := (View.set_reshape _ _).trans (View.set_slice_whole _ _)
/-- The elements of slot 2 of the statistics, as the kernel names it. -/
theorem set_sS2 : sS2.view.set = slS 2 := (View.set_reshape _ _).trans (View.set_slice_whole _ _)

variable (c : Dev nD)

/-- The buffer of weighted sums is its three slots. -/
theorem splitA : iprop(∃ f, ((c : Thread nD τ).loc cc0_scratch3) ↦{fullShare} f) ⊢ (iprop(anyA aS0 c ∗ anyA aS1 c ∗ anyA aS2 c) : sProp 𝕄) :=
  Ring.slots3_split (ℓ := (c : Thread nD τ).loc cc0_scratch3) slA slA_disjoint slA_cover _ _ _
    (fun f => by rw [← set_aS0]) (fun f => by rw [← set_aS1]) (fun f => by rw [← set_aS2])
/-- The three slots are the buffer of weighted sums. -/
theorem joinA : iprop(anyA aS0 c ∗ anyA aS1 c ∗ anyA aS2 c) ⊢ (iprop(∃ f, ((c : Thread nD τ).loc cc0_scratch3) ↦{fullShare} f) : sProp 𝕄) :=
  Ring.slots3_join (ℓ := (c : Thread nD τ).loc cc0_scratch3) slA slA_disjoint slA_cover _ _ _
    (fun f => by rw [← set_aS0]) (fun f => by rw [← set_aS1]) (fun f => by rw [← set_aS2])
/-- The buffer of statistics is its three slots. -/
theorem splitS : iprop(∃ f, ((c : Thread nD τ).loc cc0_scratch4) ↦{fullShare} f) ⊢ (iprop(anyS sS0 c ∗ anyS sS1 c ∗ anyS sS2 c) : sProp 𝕄) :=
  Ring.slots3_split (ℓ := (c : Thread nD τ).loc cc0_scratch4) slS slS_disjoint slS_cover _ _ _
    (fun f => by rw [← set_sS0]) (fun f => by rw [← set_sS1]) (fun f => by rw [← set_sS2])
/-- The three slots are the buffer of statistics. -/
theorem joinS : iprop(anyS sS0 c ∗ anyS sS1 c ∗ anyS sS2 c) ⊢ (iprop(∃ f, ((c : Thread nD τ).loc cc0_scratch4) ↦{fullShare} f) : sProp 𝕄) :=
  Ring.slots3_join (ℓ := (c : Thread nD τ).loc cc0_scratch4) slS slS_disjoint slS_cover _ _ _
    (fun f => by rw [← set_sS0]) (fun f => by rw [← set_sS1]) (fun f => by rw [← set_sS2])

/-- Both buffers are their slots, -/
theorem splitSlots : iprop((∃ f, ((c : Thread nD τ).loc cc0_scratch3) ↦{fullShare} f) ∗ ∃ f, ((c : Thread nD τ).loc cc0_scratch4) ↦{fullShare} f)
    ⊢ (slotsAny c : sProp 𝕄) := by
  unfold slotsAny
  iintro ⟨HA, HS⟩
  isplitl [HA]
  · iapply (splitA c); iexact HA
  · iapply (splitS c); iexact HS
/-- and the slots are both buffers. -/
theorem joinSlots : (slotsAny c : sProp 𝕄)
    ⊢ iprop((∃ f, ((c : Thread nD τ).loc cc0_scratch3) ↦{fullShare} f) ∗ ∃ f, ((c : Thread nD τ).loc cc0_scratch4) ↦{fullShare} f) := by
  unfold slotsAny
  iintro ⟨HA, HS⟩
  isplitl [HA]
  · iapply (joinA c); iexact HA
  · iapply (joinS c); iexact HS

/-! ## The devices named -/

/-- The two coordinate words of device `c`. -/
abbrev x₀ (c : Dev nD) : BitVec 32 := BitVec.ofNat 32 (c.val / 2)
abbrev y₀ (c : Dev nD) : BitVec 32 := BitVec.ofNat 32 (c.val % 2)

/-- The first signal goes to the neighbour along the first axis. -/
theorem dev1 : k0_dev1 (x₀ c) (y₀ c) = (px c).val := by revert c; decide
/-- The second signal goes to the neighbour along the second axis. -/
theorem dev2 : k0_dev2 (x₀ c) (y₀ c) = (py c).val := by revert c; decide
/-- The first phase's sums go along the first axis. -/
theorem dev3 : k0_dev3 (x₀ c) (y₀ c) = (px c).val := by revert c; decide
/-- The first phase's statistics go along the first axis. -/
theorem dev4 : k0_dev4 (x₀ c) (y₀ c) = (px c).val := by revert c; decide
/-- The second phase's sums go along the second axis. -/
theorem dev5 : k0_dev5 (x₀ c) (y₀ c) = (py c).val := by revert c; decide
/-- The second phase's statistics go along the second axis. -/
theorem dev6 : k0_dev6 (x₀ c) (y₀ c) = (py c).val := by revert c; decide

/-- The body's check of the device numbers passes. -/
theorem chk (i : grid0.Coords) : k0_chk1 i (x₀ c) (y₀ c) := by
  refine ⟨fun _ => ?_, fun _ => ?_, fun _ => ?_, fun _ => ?_, fun _ => ?_, fun _ => ?_⟩
  · rw [dev1]; exact (px c).isLt
  · rw [dev2]; exact (py c).isLt
  · rw [dev3]; exact (px c).isLt
  · rw [dev4]; exact (px c).isLt
  · rw [dev5]; exact (py c).isLt
  · rw [dev6]; exact (py c).isLt

end Cert.KProof
-- ==== Proof.Point.lean ====
module

public import proofs.«01_k».proof.Proof.Slabs
public import Idealize.ShloMosaic.Lib.Pipeline.TableIdle
public import Idealize.ShloMosaic.Lib.Pipeline.FrameBody

/-!
# One grid point of the region

The body at a grid point, in three kinds: the first (which starts the fold), one in the middle, and the last (which folds its chunk and
then exchanges with the neighbours).
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A buffer of device `c` held whole at a value. -/
abbrev hld {sp : Space} {s : Shape} {e : EltTy} (M : Memref sig .tc sp s e) (c : Dev nD) (X : s.Idx → Elt F e) : sProp 𝕄 :=
  (M.view.loc (c : Thread nD τ) ↦[M.view.set]{fullShare} M.view.rep X)

/-- A whole buffer at contents `f` is its memref held at `f`. -/
theorem hld_whole (b : Ref sig .tc) (c : Dev nD) (f : b.ty.Contents (Elt F)) :
    ((((c : Thread nD τ).loc b) ↦{fullShare} f) : sProp 𝕄) = hld (Memref.whole b) c f := by
  rw [← owns_whole (c : Thread nD τ) b fullShare f, owns_eq_rep]

set_option maxHeartbeats 1000000 in
/-- The body at a grid point that is the first: one chunk folded in. -/
theorem pt_first (c : Dev nD) (i : grid0.Coords) (arg3 : Memref sig .tc .vmem S8x1x8x128 .bf16) (h3 : arg3.IsWhole) (arg4 : Memref sig .tc .vmem S64x16x8x128 .bf16) (h4 : arg4.IsWhole) (arg5 : Memref sig .tc .vmem S64x16x8x128 .bf16) (h5 : arg5.IsWhole) (arg6 : Memref sig .tc .vmem S8x512 .i32) (h6 : arg6.IsWhole) (arg7 : Memref sig .tc .vmem S8x1x8x128 .f32) (h7 : arg7.IsWhole)
    (hi0 : (Scalar.cmpi .ne (Scalar.extui (Scalar.cmpi .eq (BitVec.ofNat 32 (i 0).val) 0#32) : BitVec 32) 0#32 = 1#1)) (hi : ¬ k0_cond2 i = 1#1)
    (ln : S8.Idx → Elt F .i32) (q : S8x1x8x128.Idx → Elt F .bf16) (k v : S64x16x8x128.Idx → Elt F .bf16) (bt : S8x512.Idx → Elt F .i32) (acc : S8x8x128.Idx → Elt F .f32) (mm ll : S8x8.Idx → Elt F .f32) (Q : PUnit → sProp 𝕄) :
    iprop((hld (Memref.whole main_v11) c (xyTab c) ∗ hld (Memref.whole main_arg4) c ln ∗ hld arg3 c q ∗ hld arg4 c k ∗ hld arg5 c v ∗ hld arg6 c bt ∗ hld (Memref.whole cc0_scratch0) c (acc) ∗ hld (Memref.whole cc0_scratch1) c (mm) ∗ hld (Memref.whole cc0_scratch2) c (ll))
      ∗ ((hld (Memref.whole main_v11) c (xyTab c) ∗ hld (Memref.whole main_arg4) c ln ∗ hld arg3 c q ∗ hld arg4 c k ∗ hld arg5 c v ∗ hld arg6 c bt ∗ hld (Memref.whole cc0_scratch0) c (stepA q k v (cntVec i (xyTab c) ln bt) (k0_pay19 (F := F)) (k0_pay20 (F := F))) ∗ hld (Memref.whole cc0_scratch1) c (stepM q k (k0_pay20 (F := F))) ∗ hld (Memref.whole cc0_scratch2) c (stepL q k (cntVec i (xyTab c) ln bt) (k0_pay20 (F := F)) (k0_pay21 (F := F)))) -∗ Q ⟨⟩))
    ⊢ wp frame (wpE (defs₀ (F := F)) 𝒱₀ c none) Set.univ (cc0_body i (Memref.whole main_v11) (Memref.isWhole_whole _) (Memref.whole main_arg4) (Memref.isWhole_whole _) arg3 h3 arg4 h4 arg5 h5 arg6 h6 arg7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  refine BIBase.Entails.trans ?_ (step_zero c i (Memref.whole main_v11) (Memref.isWhole_whole _) (Memref.whole main_arg4) (Memref.isWhole_whole _) arg3 h3 arg4 h4 arg5 h5 arg6 h6 arg7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 hi0 (xyTab c) ln q k v bt acc mm ll (chk c i) Q)
  iintro ⟨H, HQ⟩
  isplitl [H]; · iexact H
  iintro H
  unfold tailProg
  rw [dif_neg hi]
  rw [show (Pure.pure PUnit.unit : Prog (TpuEff nD τ sig (Elt F) Λ₀ .tc) PUnit) = .ret PUnit.unit from rfl, wp_ret]
  imodintro
  iapply HQ
  iexact H

set_option maxHeartbeats 1000000 in
/-- The body at a grid point that is neither the first nor the last: one chunk folded in. -/
theorem pt_mid (c : Dev nD) (i : grid0.Coords) (arg3 : Memref sig .tc .vmem S8x1x8x128 .bf16) (h3 : arg3.IsWhole) (arg4 : Memref sig .tc .vmem S64x16x8x128 .bf16) (h4 : arg4.IsWhole) (arg5 : Memref sig .tc .vmem S64x16x8x128 .bf16) (h5 : arg5.IsWhole) (arg6 : Memref sig .tc .vmem S8x512 .i32) (h6 : arg6.IsWhole) (arg7 : Memref sig .tc .vmem S8x1x8x128 .f32) (h7 : arg7.IsWhole)
    (hi0 : ¬ (Scalar.cmpi .ne (Scalar.extui (Scalar.cmpi .eq (BitVec.ofNat 32 (i 0).val) 0#32) : BitVec 32) 0#32 = 1#1)) (hi : ¬ k0_cond2 i = 1#1)
    (ln : S8.Idx → Elt F .i32) (q : S8x1x8x128.Idx → Elt F .bf16) (k v : S64x16x8x128.Idx → Elt F .bf16) (bt : S8x512.Idx → Elt F .i32) (acc : S8x8x128.Idx → Elt F .f32) (mm ll : S8x8.Idx → Elt F .f32) (Q : PUnit → sProp 𝕄) :
    iprop((hld (Memref.whole main_v11) c (xyTab c) ∗ hld (Memref.whole main_arg4) c ln ∗ hld arg3 c q ∗ hld arg4 c k ∗ hld arg5 c v ∗ hld arg6 c bt ∗ hld (Memref.whole cc0_scratch0) c (acc) ∗ hld (Memref.whole cc0_scratch1) c (mm) ∗ hld (Memref.whole cc0_scratch2) c (ll))
      ∗ ((hld (Memref.whole main_v11) c (xyTab c) ∗ hld (Memref.whole main_arg4) c ln ∗ hld arg3 c q ∗ hld arg4 c k ∗ hld arg5 c v ∗ hld arg6 c bt ∗ hld (Memref.whole cc0_scratch0) c (stepA q k v (cntVec i (xyTab c) ln bt) acc mm) ∗ hld (Memref.whole cc0_scratch1) c (stepM q k mm) ∗ hld (Memref.whole cc0_scratch2) c (stepL q k (cntVec i (xyTab c) ln bt) mm ll)) -∗ Q ⟨⟩))
    ⊢ wp frame (wpE (defs₀ (F := F)) 𝒱₀ c none) Set.univ (cc0_body i (Memref.whole main_v11) (Memref.isWhole_whole _) (Memref.whole main_arg4) (Memref.isWhole_whole _) arg3 h3 arg4 h4 arg5 h5 arg6 h6 arg7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  refine BIBase.Entails.trans ?_ (step_pos c i (Memref.whole main_v11) (Memref.isWhole_whole _) (Memref.whole main_arg4) (Memref.isWhole_whole _) arg3 h3 arg4 h4 arg5 h5 arg6 h6 arg7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 hi0 (xyTab c) ln q k v bt acc mm ll (chk c i) Q)
  iintro ⟨H, HQ⟩
  isplitl [H]; · iexact H
  iintro H
  unfold tailProg
  rw [dif_neg hi]
  rw [show (Pure.pure PUnit.unit : Prog (TpuEff nD τ sig (Elt F) Λ₀ .tc) PUnit) = .ret PUnit.unit from rfl, wp_ret]
  imodintro
  iapply HQ
  iexact H

set_option maxHeartbeats 1000000 in
/-- The body at the last grid point: the last chunk folded in, then the exchange. -/
theorem pt_last (lA : Dev nD → S8x8x128.Idx → Elt F .f32) (lM lL : Dev nD → S8x8.Idx → Elt F .f32) (K : GSem nD τ sig → ℕ)
    (c : Dev nD) (i : grid0.Coords) (arg3 : Memref sig .tc .vmem S8x1x8x128 .bf16) (h3 : arg3.IsWhole) (arg4 : Memref sig .tc .vmem S64x16x8x128 .bf16) (h4 : arg4.IsWhole) (arg5 : Memref sig .tc .vmem S64x16x8x128 .bf16) (h5 : arg5.IsWhole) (arg6 : Memref sig .tc .vmem S8x512 .i32) (h6 : arg6.IsWhole) (arg7 : Memref sig .tc .vmem S8x1x8x128 .f32) (h7 : arg7.IsWhole)
    (hi0 : ¬ (Scalar.cmpi .ne (Scalar.extui (Scalar.cmpi .eq (BitVec.ofNat 32 (i 0).val) 0#32) : BitVec 32) 0#32 = 1#1)) (hi : k0_cond2 i = 1#1)
    (ln : S8.Idx → Elt F .i32) (q : S8x1x8x128.Idx → Elt F .bf16) (k v : S64x16x8x128.Idx → Elt F .bf16) (bt : S8x512.Idx → Elt F .i32) (acc : S8x8x128.Idx → Elt F .f32) (mm ll : S8x8.Idx → Elt F .f32) (eA : lA c = stepA q k v (cntVec i (xyTab c) ln bt) acc mm) (eM : lM c = stepM q k mm) (eL : lL c = stepL q k (cntVec i (xyTab c) ln bt) mm ll) (W : Waits sig Unit) (Q : PUnit → sProp 𝕄) :
    iprop((hld (Memref.whole main_v11) c (xyTab c) ∗ hld (Memref.whole main_arg4) c ln ∗ hld arg3 c q ∗ hld arg4 c k ∗ hld arg5 c v ∗ hld arg6 c bt ∗ hld (Memref.whole cc0_scratch0) c (acc) ∗ hld (Memref.whole cc0_scratch1) c (mm) ∗ hld (Memref.whole cc0_scratch2) c (ll))
      ∗ (opened lA lM lL K c ∗ creds c ∗ levAts L lv ∗ slotsAny c ∗ (∃ f7, arg7.view.loc (c : Thread nD τ) ↦[arg7.view.set]{fullShare} f7) ∗ owes (c : Thread nD τ) (O₀ c) W)
      ∗ ((((hld (Memref.whole main_v11) c (xyTab c) ∗ hld (Memref.whole main_arg4) c ln ∗ hld arg3 c q ∗ hld arg4 c k ∗ hld arg5 c v ∗ hld arg6 c bt)) ∗ swapPost lA lM lL c arg7) -∗ Q ⟨⟩))
    ⊢ wp frame (wpE (defs₀ (F := F)) 𝒱₀ c none) Set.univ (cc0_body i (Memref.whole main_v11) (Memref.isWhole_whole _) (Memref.whole main_arg4) (Memref.isWhole_whole _) arg3 h3 arg4 h4 arg5 h5 arg6 h6 arg7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Q := by
  refine BIBase.Entails.trans ?_ (step_pos c i (Memref.whole main_v11) (Memref.isWhole_whole _) (Memref.whole main_arg4) (Memref.isWhole_whole _) arg3 h3 arg4 h4 arg5 h5 arg6 h6 arg7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 hi0 (xyTab c) ln q k v bt acc mm ll (chk c i) Q)
  iintro ⟨H, ⟨Ho, Hc, Hl, Hs, H7, HO⟩, HQ⟩
  isplitl [H]; · iexact H
  iintro ⟨Ha, Hb, H3, H4, H5, H6, HA, HM, HL⟩
  have key := swapRun lA lM lL K c i hi (Memref.isWhole_whole _) (Memref.isWhole_whole _) arg3 h3 arg4 h4 arg5 h5 arg6 h6 arg7 h7 (Memref.isWhole_whole _) (Memref.isWhole_whole _) (Memref.isWhole_whole _) (Memref.isWhole_whole _) (Memref.isWhole_whole _)
    (wx (xyTab c)) (wy (xyTab c)) (chk c i) (Fin.ext (dev1 c)) (Fin.ext (dev2 c)) (Fin.ext (dev3 c)) (Fin.ext (dev4 c)) (Fin.ext (dev5 c)) (Fin.ext (dev6 c)) W Q
    (mayWait_bar c) (mayWait_one c 0 (by decide)) (mayWait_one c 1 (by decide)) (mayWait_one c 4 (by decide)) (mayWait_one c 5 (by decide))
  iapply key
  isplitr [HQ Ha Hb H3 H4 H5 H6]
  · isplitl [Ho]; · iexact Ho
    isplitl [Hc]; · iexact Hc
    isplitl [Hl]; · iexact Hl
    isplitl [HA]; · rw [eA]; iexact HA
    isplitl [HM]; · rw [eM]; iexact HM
    isplitl [HL]; · rw [eL]; iexact HL
    isplitl [Hs]; · iexact Hs
    isplitl [H7]; · iexact H7
    iexact HO
  iintro Hp
  iapply HQ
  isplitr [Hp]
  · isplitl [Ha]; · iexact Ha
    isplitl [Hb]; · iexact Hb
    isplitl [H3]; · iexact H3
    isplitl [H4]; · iexact H4
    isplitl [H5]; · iexact H5
    iexact H6
  iexact Hp

end Cert.KProof
-- ==== Proof.Region.lean ====
module

public import proofs.«01_k».proof.Proof.Point

/-!
# The region's proof data

What the region keeps from grid point to grid point: the tables, what has been folded so far, the exchange buffers, and — up to the last
point — everything the exchange needs. And that the body keeps it.
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
variable (m : (ℓ : Loc nD τ sig) → Buf (Elt F) ℓ)

local notation "𝕄" => MT nD τ sig Unit (Elt F) ℕ UU ℕ

/-! ## What is folded -/

/-- The region's pipeline at device `c`'s tables. -/
abbrev pc (c : Dev nD) : Cfg sig Λ₀ := Pipeline.pinD (pcfgs (F := F)) (adm m) c 0

/-- The block of window `w`'s array that grid point `t` reads. -/
def blk (c : Dev nD) (w : Fin 5) (t : Fin grid0.N) : (((pc m c).win w).xblock ((pc m c).grid.coords t)).Idx → Elt F ((pc m c).win w).elt :=
  (((pc m c).win w).blk t).view.read (Elt F) (V1 m c (Pipeline.arrRef spec0 w))

/-- The queries, the keys' block, the values' block and the page table that grid point `t` reads; and the lengths. -/
def qB (c : Dev nD) (t : Fin grid0.N) : S8x1x8x128.Idx → Elt F .bf16 := blk m c 0 t
/-- The keys' block. -/
def kB (c : Dev nD) (t : Fin grid0.N) : S64x16x8x128.Idx → Elt F .bf16 := blk m c 1 t
/-- The values' block. -/
def vB (c : Dev nD) (t : Fin grid0.N) : S64x16x8x128.Idx → Elt F .bf16 := blk m c 2 t
/-- The page table. -/
def btB (c : Dev nD) (t : Fin grid0.N) : S8x512.Idx → Elt F .i32 := blk m c 3 t
/-- The lengths. -/
def lnB (c : Dev nD) : S8.Idx → Elt F .i32 := V1 m c main_arg4
/-- The page counts at grid point `t`. -/
def cntB (c : Dev nD) (t : Fin grid0.N) := cntVec (grid0.coords t) (xyTab c) (lnB m c) (btB m c t)

/-- What the accumulators hold after the first `n` chunks: weighted sums, running maxima, normalisers. -/
def fold (c : Dev nD) : ℕ → (S8x8x128.Idx → Elt F .f32) × (S8x8.Idx → Elt F .f32) × (S8x8.Idx → Elt F .f32)
  | 0 => (k0_pay19 (F := F), k0_pay20 (F := F), k0_pay21 (F := F))
  | n + 1 =>
    if h : n < grid0.N then
      (stepA (qB m c ⟨n, h⟩) (kB m c ⟨n, h⟩) (vB m c ⟨n, h⟩) (cntB m c ⟨n, h⟩) (fold c n).1 (fold c n).2.1,
        stepM (qB m c ⟨n, h⟩) (kB m c ⟨n, h⟩) (fold c n).2.1,
        stepL (qB m c ⟨n, h⟩) (kB m c ⟨n, h⟩) (cntB m c ⟨n, h⟩) (fold c n).2.1 (fold c n).2.2)
    else fold c n

/-- One more chunk folded. -/
theorem fold_succ (c : Dev nD) (t : Fin grid0.N) : fold m c (t.val + 1) =
    (stepA (qB m c t) (kB m c t) (vB m c t) (cntB m c t) (fold m c t.val).1 (fold m c t.val).2.1,
      stepM (qB m c t) (kB m c t) (fold m c t.val).2.1,
      stepL (qB m c t) (kB m c t) (cntB m c t) (fold m c t.val).2.1 (fold m c t.val).2.2) := by
  rw [fold, dif_pos t.isLt]

/-- What device `c` has folded from all its chunks. -/
def lA (c : Dev nD) : S8x8x128.Idx → Elt F .f32 := (fold m c 4).1
/-- Its running maxima. -/
def lM (c : Dev nD) : S8x8.Idx → Elt F .f32 := (fold m c 4).2.1
/-- Its denominators. -/
def lL (c : Dev nD) : S8x8.Idx → Elt F .f32 := (fold m c 4).2.2

/-- What device `c` ends with. -/
def outV (c : Dev nD) : S8x1x8x128.Idx → Elt F .f32 := cOut (lA m) (lM m) (lL m) c

/-! ## The invariant -/

/-- The tables of device `c`. -/
def tbl (c : Dev nD) : sProp 𝕄 := iprop(hld (Memref.whole main_v11) c (xyTab c) ∗ hld (Memref.whole main_arg4) c (lnB m c))
/-- The accumulators after `n` chunks. -/
def scr (c : Dev nD) (n : ℕ) : sProp 𝕄 :=
  if n = 0 then iprop((∃ f, hld (Memref.whole cc0_scratch0) c f) ∗ (∃ f, hld (Memref.whole cc0_scratch1) c f) ∗ ∃ f, hld (Memref.whole cc0_scratch2) c f)
  else iprop(hld (Memref.whole cc0_scratch0) c (fold m c n).1 ∗ hld (Memref.whole cc0_scratch1) c (fold m c n).2.1 ∗ hld (Memref.whole cc0_scratch2) c (fold m c n).2.2)
/-- What the exchange needs, and what it leaves. -/
def Xk (c : Dev nD) : sProp 𝕄 := iprop((∃ K, opened (lA m) (lM m) (lL m) K c) ∗ creds c ∗ levAts L lv)
/-- The transfer cells of device `c`, at zero. -/
def own0 (c : Dev nD) : sProp 𝕄 :=
  iprop(semVal (s0C c) 0 ∗ semVal (s1C c) 0 ∗ semVal (s2C c) 0 ∗ semVal (s3C c) 0 ∗ semVal (r0C c) 0 ∗ semVal (r1C c) 0 ∗ semVal (r2C c) 0 ∗ semVal (r3C c) 0)
/-- What the exchange leaves: every cell at zero. -/
def Yk (c : Dev nD) : sProp 𝕄 := iprop(semVal (barCell c) 0 ∗ own0 c)
/-- Between grid points `n - 1` and `n`. -/
def Phi (c : Dev nD) (n : ℕ) : sProp 𝕄 :=
  iprop(tbl m c ∗ scr m c n ∗ slotsAny c ∗ (if n < 4 then Xk m c else Yk c))

/-- The region's proof data on device `c`. -/
def dat (c : Dev nD) : Dat τ (Elt F) Unit ℕ UU ℕ (pc m c) c where
  A w := V1 m c (Pipeline.arrRef spec0 w)
  after w t := match w with
    | 0 => blk m c 0 t
    | 1 => blk m c 1 t
    | 2 => blk m c 2 t
    | 3 => blk m c 3 t
    | 4 => outV m c
  Φ t := Phi m c t.val
  q _ := fullShare
  owed t := if t.val < 4 then O₀ c else 0

/-- The proof data of the program's only region. -/
def pdats : (p : Fin 1) → (c : Dev nD) → Dat τ (Elt F) Unit ℕ UU ℕ (Pipeline.pinD (pcfgs (F := F)) (adm m) c p) c
  | 0 => dat m

/-- Every input window holds its block at every grid point. -/
theorem bef0 (c : Dev nD) (t : Fin grid0.N) (d) : (dat m c).before 0 t d = blk m c 0 t :=
  (dat m c).before_in_eq_fetched 0 rfl (fun _ => rfl) (fun _ _ _ => rfl) (fun _ => rfl) t d
/-- Input window 1 holds its block. -/
theorem bef1 (c : Dev nD) (t : Fin grid0.N) (d) : (dat m c).before 1 t d = blk m c 1 t :=
  (dat m c).before_in_eq_fetched 1 rfl (fun _ => rfl) (fun _ _ _ => rfl) (fun _ => rfl) t d
/-- Input window 2 holds its block. -/
theorem bef2 (c : Dev nD) (t : Fin grid0.N) (d) : (dat m c).before 2 t d = blk m c 2 t :=
  (dat m c).before_in_eq_fetched 2 rfl (fun _ => rfl) (fun _ _ _ => rfl) (fun _ => rfl) t d
/-- Input window 3 holds its block. -/
theorem bef3 (c : Dev nD) (t : Fin grid0.N) (d) : (dat m c).before 3 t d = blk m c 3 t :=
  (dat m c).before_in_eq_fetched 3 rfl (fun _ => rfl) (fun _ _ _ => rfl) (fun _ => rfl) t d

/-- Nothing is written back before the last grid point. -/
theorem fl (c : Dev nD) (t : Fin grid0.N) (h : t.val < 3) : ((pc m c).win 4).flush t = false := by
  have hN : grid0.N = 4 := N_0
  have e : ∀ t t' : Fin grid0.N, ((pc m c).win 4).index t = ((pc m c).win 4).index t' := fun _ _ => rfl
  unfold Window.flush
  rw [Bool.and_eq_false_iff]
  right
  rw [Bool.or_eq_false_iff]
  refine ⟨decide_eq_false ?_, decide_eq_false ?_⟩
  · show ¬ (t.val + 1 = grid0.N); omega
  · rintro ⟨h', hne⟩; exact hne (e _ _)

/-- The coordinate of a grid point is its number. -/
theorem coord (t : Fin grid0.N) : (grid0.coords t 0).val = t.val := by
  have : ∀ t : Fin grid0.N, (grid0.coords t 0).val = t.val := by decide
  exact this t
/-- The accumulators are initialised at the first grid point only. -/
theorem cond0_iff : ∀ t : Fin grid0.N, (Scalar.cmpi .ne (Scalar.extui (Scalar.cmpi .eq (BitVec.ofNat 32 (grid0.coords t 0).val) 0#32) : BitVec 32) 0#32 = 1#1) ↔ t.val = 0 := by decide
/-- The exchange happens at the last grid point only. -/
theorem cond2_iff : ∀ t : Fin grid0.N, k0_cond2 (grid0.coords t) = 1#1 ↔ t.val = 3 := by decide
/-- The output is idle before the last grid point, -/
theorem idle_iff (c : Dev nD) (t : Fin grid0.N) (h : t.val < 3) : (pc m c).idle 4 ((pc m c).grid.coords t) = true := by
  have : ∀ t : Fin grid0.N, t.val < 3 → idle0 4 (grid0.coords t) = true := by decide
  exact this t h
/-- and not idle at it. -/
theorem idle_last (c : Dev nD) (t : Fin grid0.N) (h : t.val = 3) : (pc m c).idle 4 ((pc m c).grid.coords t) = false := by
  have : ∀ t : Fin grid0.N, t.val = 3 → idle0 4 (grid0.coords t) = false := by decide
  exact this t h

/-- What a device owes, as the region states it, -/
theorem owesAt_in (c : Dev nD) (t : Fin ((pc m c).N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr
  · ipureintro; exact fun _ _ => Or.inl trivial
  iexact HO
/-- and back. -/
theorem owesAt_out (c : Dev nD) (t : Fin ((pc m c).N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- The staging buffer of window `w` at grid point `t`. -/
abbrev stg (c : Dev nD) (w : Fin 5) (t : Fin grid0.N) := ((pc m c).win w).stage ((pc m c).slots t w)

/-- Input window 0 as the body takes it, -/
theorem in0 (c : Dev nD) (t : Fin grid0.N) :
    (iprop(∃ d, owns (c : Thread nD τ) (stg m c 0 t) fullShare ((dat m c).before 0 t d)) : sProp 𝕄) ⊢ hld (stg m c 0 t) c (qB m c t) := by
  iintro ⟨%d, H⟩
  ihave H' := (BIBase.Entails.trans (Entails.of_eq (congrArg (owns (c : Thread nD τ) (stg m c 0 t) fullShare) (bef0 m c t d))) (rep_of_owns (c : Thread nD τ) (stg m c 0 t) fullShare (blk m c 0 t))) $$ H
  iexact H'
/-- and as the body gives it back. -/
theorem out0 (c : Dev nD) (t : Fin grid0.N) :
    (hld (stg m c 0 t) c (qB m c t) : sProp 𝕄) ⊢ (dat m c).leavesExact 0 t :=
  Entails.of_eq (owns_eq_rep (c : Thread nD τ) (stg m c 0 t) fullShare (blk m c 0 t)).symm
/-- Input window 1 as the body takes it, -/
theorem in1 (c : Dev nD) (t : Fin grid0.N) :
    (iprop(∃ d, owns (c : Thread nD τ) (stg m c 1 t) fullShare ((dat m c).before 1 t d)) : sProp 𝕄) ⊢ hld (stg m c 1 t) c (kB m c t) := by
  iintro ⟨%d, H⟩
  ihave H' := (BIBase.Entails.trans (Entails.of_eq (congrArg (owns (c : Thread nD τ) (stg m c 1 t) fullShare) (bef1 m c t d))) (rep_of_owns (c : Thread nD τ) (stg m c 1 t) fullShare (blk m c 1 t))) $$ H
  iexact H'
/-- and as the body gives it back. -/
theorem out1 (c : Dev nD) (t : Fin grid0.N) :
    (hld (stg m c 1 t) c (kB m c t) : sProp 𝕄) ⊢ (dat m c).leavesExact 1 t :=
  Entails.of_eq (owns_eq_rep (c : Thread nD τ) (stg m c 1 t) fullShare (blk m c 1 t)).symm
/-- Input window 2 as the body takes it, -/
theorem in2 (c : Dev nD) (t : Fin grid0.N) :
    (iprop(∃ d, owns (c : Thread nD τ) (stg m c 2 t) fullShare ((dat m c).before 2 t d)) : sProp 𝕄) ⊢ hld (stg m c 2 t) c (vB m c t) := by
  iintro ⟨%d, H⟩
  ihave H' := (BIBase.Entails.trans (Entails.of_eq (congrArg (owns (c : Thread nD τ) (stg m c 2 t) fullShare) (bef2 m c t d))) (rep_of_owns (c : Thread nD τ) (stg m c 2 t) fullShare (blk m c 2 t))) $$ H
  iexact H'
/-- and as the body gives it back. -/
theorem out2 (c : Dev nD) (t : Fin grid0.N) :
    (hld (stg m c 2 t) c (vB m c t) : sProp 𝕄) ⊢ (dat m c).leavesExact 2 t :=
  Entails.of_eq (owns_eq_rep (c : Thread nD τ) (stg m c 2 t) fullShare (blk m c 2 t)).symm
/-- Input window 3 as the body takes it, -/
theorem in3 (c : Dev nD) (t : Fin grid0.N) :
    (iprop(∃ d, owns (c : Thread nD τ) (stg m c 3 t) fullShare ((dat m c).before 3 t d)) : sProp 𝕄) ⊢ hld (stg m c 3 t) c (btB m c t) := by
  iintro ⟨%d, H⟩
  ihave H' := (BIBase.Entails.trans (Entails.of_eq (congrArg (owns (c : Thread nD τ) (stg m c 3 t) fullShare) (bef3 m c t d))) (rep_of_owns (c : Thread nD τ) (stg m c 3 t) fullShare (blk m c 3 t))) $$ H
  iexact H'
/-- and as the body gives it back. -/
theorem out3 (c : Dev nD) (t : Fin grid0.N) :
    (hld (stg m c 3 t) c (btB m c t) : sProp 𝕄) ⊢ (dat m c).leavesExact 3 t :=
  Entails.of_eq (owns_eq_rep (c : Thread nD τ) (stg m c 3 t) fullShare (blk m c 3 t)).symm
/-- The output's buffer at anything, and back while it is idle; and at the result at the last point. -/
theorem in4 (c : Dev nD) (t : Fin grid0.N) :
    (iprop(∃ d, owns (c : Thread nD τ) (stg m c 4 t) fullShare ((dat m c).before 4 t d)) : sProp 𝕄) ⊢ iprop(∃ f, (stg m c 4 t).view.loc (c : Thread nD τ) ↦[(stg m c 4 t).view.set]{fullShare} f) := by
  iintro ⟨%d, H⟩
  ihave H' := (rep_of_owns (c : Thread nD τ) (stg m c 4 t) fullShare ((dat m c).before 4 t d)) $$ H
  iexists _
  iexact H'
/-- The output's buffer with the result is what the last grid point leaves. -/
theorem out4_last (c : Dev nD) (t : Fin grid0.N) (h : t.val = 3) :
    (hld (stg m c 4 t) c (outV m c) : sProp 𝕄) ⊢ (dat m c).leavesExact 4 t := by
  unfold Dat.leavesExact
  rw [idle_last m c t h]
  exact Entails.of_eq (owns_eq_rep (c : Thread nD τ) (stg m c 4 t) fullShare (outV m c)).symm

/-- Before the exchange a device owes everything, -/
theorem owed_lt (c : Dev nD) (t : Fin ((pc m c).N + 1)) (h : t.val < 4) : (dat m c).owed t = O₀ c := if_pos h
/-- and afterwards nothing. -/
theorem owed_ge (c : Dev nD) (t : Fin ((pc m c).N + 1)) (h : ¬ t.val < 4) : (dat m c).owed t = 0 := if_neg h
/-- The invariant between two grid points. -/
theorem Phi_at (c : Dev nD) (t : Fin ((pc m c).N + 1)) (n : ℕ) (h : t.val = n) : (dat m c).Φ t = Phi m c n := by subst h; rfl
/-- The invariant before the exchange, -/
theorem Phi_lt (c : Dev nD) (n : ℕ) (h : n < 4) : Phi m c n = iprop(tbl m c ∗ scr m c n ∗ slotsAny c ∗ Xk m c) := by unfold Phi; rw [if_pos h]
/-- and after it. -/
theorem Phi_ge (c : Dev nD) (n : ℕ) (h : ¬ n < 4) : Phi m c n = iprop(tbl m c ∗ scr m c n ∗ slotsAny c ∗ Yk c) := by unfold Phi; rw [if_neg h]
/-- The accumulators after the first chunk. -/
theorem scr_pos (c : Dev nD) (n : ℕ) (h : n ≠ 0) : scr m c n =
    (iprop(hld (Memref.whole cc0_scratch0) c (fold m c n).1 ∗ hld (Memref.whole cc0_scratch1) c (fold m c n).2.1 ∗ hld (Memref.whole cc0_scratch2) c (fold m c n).2.2) : sProp 𝕄) := if_neg h

/-- Before the last grid point the output's buffer may hold anything. -/
theorem out4_early (c : Dev nD) (t : Fin grid0.N) (h : t.val < 3) :
    (iprop(∃ d, owns (c : Thread nD τ) (stg m c 4 t) fullShare ((dat m c).before 4 t d)) : sProp 𝕄) ⊢ (dat m c).leavesExact 4 t := by
  exact Entails.of_eq ((dat m c).leavesExact_idle 4 t (idle_iff m c t h) (fl m c t h)).symm

set_option maxHeartbeats 2000000 in
/-- The body at a grid point, its windows one by one. -/
theorem body_at (c : Dev nD) (t : Fin grid0.N) :
    iprop((dat m c).Φ t.castSucc ∗ (dat m c).owesAt () t.castSucc ∗ (hld (stg m c 0 t) c (qB m c t) ∗ hld (stg m c 1 t) c (kB m c t) ∗ hld (stg m c 2 t) c (vB m c t) ∗ hld (stg m c 3 t) c (btB m c t) ∗ ∃ d, owns (c : Thread nD τ) (stg m c 4 t) fullShare ((dat m c).before 4 t d)))
    ⊢ wp frame (wpE (defs₀ (F := F)) 𝒱₀ c none) Set.univ (defs₀ (F := F) .tc (pc m c).body ((pc m c).bodyArgs t ((pc m c).slots t))) fun _ =>
      iprop((dat m c).Φ t.succ ∗ (dat m c).owesAt () t.succ ∗ (hld (stg m c 0 t) c (qB m c t) ∗ hld (stg m c 1 t) c (kB m c t) ∗ hld (stg m c 2 t) c (vB m c t) ∗ hld (stg m c 3 t) c (btB m c t) ∗ (dat m c).leavesExact 4 t)) := by
  have hN : grid0.N = 4 := N_0
  have htl : t.val < 4 := by have := t.isLt; show t.val < 4; rw [← hN]; exact this
  rw [Phi_at m c t.castSucc t.val rfl, Phi_at m c t.succ (t.val + 1) rfl, Phi_lt m c t.val htl]
  unfold tbl
  by_cases h3 : t.val = 3
  · rw [scr_pos m c t.val (by omega)]
    unfold Xk
    iintro ⟨⟨⟨Ht0, Ht1⟩, ⟨HA, HM, HL⟩, Hsl, HX⟩, HO, H0', H1', H2', H3', H4⟩
    ihave HO' := (owesAt_out m c t.castSucc (O₀ c) (owed_lt m c _ htl)) $$ HO
    icases HO' with ⟨%W, HO⟩
    icases HX with ⟨⟨%K, Hop⟩, Hcr, Hlev⟩
    ihave H4' := (in4 m c t) $$ H4
    have e := fold_succ m c t
    rw [h3] at e
    iapply (pt_last (lA m) (lM m) (lL m) K c (grid0.coords t) (stg m c 0 t) _ (stg m c 1 t) _ (stg m c 2 t) _ (stg m c 3 t) _ (stg m c 4 t) _ (fun h => absurd ((cond0_iff t).mp h) (by omega)) ((cond2_iff t).mpr h3) (lnB m c) (qB m c t) (kB m c t) (vB m c t) (btB m c t)
      (fold m c t.val).1 (fold m c t.val).2.1 (fold m c t.val).2.2 (by rw [h3]; exact congrArg Prod.fst e) (by rw [h3]; exact congrArg (fun x => x.2.1) e) (by rw [h3]; exact congrArg (fun x => x.2.2) e) W _)
    isplitl [Ht0 Ht1 H0' H1' H2' H3' HA HM HL]
    · isplitl [Ht0]; · iexact Ht0
      isplitl [Ht1]; · iexact Ht1
      isplitl [H0']; · iexact H0'
      isplitl [H1']; · iexact H1'
      isplitl [H2']; · iexact H2'
      isplitl [H3']; · iexact H3'
      isplitl [HA]; · iexact HA
      isplitl [HM]; · iexact HM
      iexact HL
    isplitl [Hop Hcr Hlev Hsl H4' HO]
    · isplitl [Hop]; · iexact Hop
      isplitl [Hcr]; · iexact Hcr
      isplitl [Hlev]; · iexact Hlev
      isplitl [Hsl]; · iexact Hsl
      isplitl [H4']; · iexact H4'
      iexact HO
    unfold swapPost
    iintro ⟨⟨Ht0, Ht1, H0, H1, H2, H3⟩, Hb, Hown, HA, HM, HL, Hsl, H4, %W', HO⟩
    isplitl [Ht0 Ht1 HA HM HL Hsl Hb Hown]
    · rw [h3, Phi_ge m c (3 + 1) (by omega), scr_pos m c (3 + 1) (by omega)]
      isplitl [Ht0 Ht1]; · unfold tbl; isplitl [Ht0] <;> iassumption
      isplitl [HA HM HL]
      · isplitl [HA]; · iexact HA
        isplitl [HM]; · iexact HM
        iexact HL
      isplitl [Hsl]; · iexact Hsl
      unfold Yk own0
      isplitl [Hb]; · iexact Hb
      iexact Hown
    isplitl [HO]
    · iapply (owesAt_in m c t.succ 0 (owed_ge m c _ (by rw [Fin.val_succ]; omega)) W'); iexact HO
    · isplitl [H0]; · iexact H0
      isplitl [H1]; · iexact H1
      isplitl [H2]; · iexact H2
      isplitl [H3]; · iexact H3
      iapply (out4_last m c t h3); iexact H4
  by_cases h0 : t.val = 0
  · rw [h0]
    unfold scr
    rw [if_pos rfl]
    iintro ⟨⟨⟨Ht0, Ht1⟩, ⟨⟨%fA, HA⟩, ⟨%fM, HM⟩, ⟨%fL, HL⟩⟩, Hsl, HX⟩, HO, H0', H1', H2', H3', H4⟩
    ihave HO' := (owesAt_out m c t.castSucc (O₀ c) (owed_lt m c _ htl)) $$ HO
    icases HO' with ⟨%W, HO⟩
    have e := fold_succ m c t
    rw [h0] at e
    iapply (pt_first c (grid0.coords t) (stg m c 0 t) _ (stg m c 1 t) _ (stg m c 2 t) _ (stg m c 3 t) _ (stg m c 4 t) _ ((cond0_iff t).mpr h0) (fun h => absurd ((cond2_iff t).mp h) h3) (lnB m c) (qB m c t) (kB m c t) (vB m c t) (btB m c t) fA fM fL _)
    isplitl [Ht0 Ht1 H0' H1' H2' H3' HA HM HL]
    · isplitl [Ht0]; · iexact Ht0
      isplitl [Ht1]; · iexact Ht1
      isplitl [H0']; · iexact H0'
      isplitl [H1']; · iexact H1'
      isplitl [H2']; · iexact H2'
      isplitl [H3']; · iexact H3'
      isplitl [HA]; · iexact HA
      isplitl [HM]; · iexact HM
      iexact HL
    iintro ⟨Ht0, Ht1, H0, H1, H2, H3, HA, HM, HL⟩
    isplitl [Ht0 Ht1 HA HM HL Hsl HX]
    · rw [Phi_lt m c (0 + 1) (by omega), scr_pos m c (0 + 1) (by omega), e]
      isplitl [Ht0 Ht1]; · unfold tbl; isplitl [Ht0] <;> iassumption
      isplitl [HA HM HL]
      · isplitl [HA]; · iexact HA
        isplitl [HM]; · iexact HM
        iexact HL
      isplitl [Hsl]; · iexact Hsl
      iexact HX
    isplitl [HO]
    · iapply (owesAt_in m c t.succ (O₀ c) (owed_lt m c _ (by rw [Fin.val_succ]; omega)) W); iexact HO
    · isplitl [H0]; · iexact H0
      isplitl [H1]; · iexact H1
      isplitl [H2]; · iexact H2
      isplitl [H3]; · iexact H3
      iapply (out4_early m c t (by omega)); iexact H4
  · rw [scr_pos m c t.val h0]
    iintro ⟨⟨⟨Ht0, Ht1⟩, ⟨HA, HM, HL⟩, Hsl, HX⟩, HO, H0', H1', H2', H3', H4⟩
    ihave HO' := (owesAt_out m c t.castSucc (O₀ c) (owed_lt m c _ htl)) $$ HO
    icases HO' with ⟨%W, HO⟩
    iapply (pt_mid c (grid0.coords t) (stg m c 0 t) _ (stg m c 1 t) _ (stg m c 2 t) _ (stg m c 3 t) _ (stg m c 4 t) _ (fun h => absurd ((cond0_iff t).mp h) h0) (fun h => absurd ((cond2_iff t).mp h) h3) (lnB m c) (qB m c t) (kB m c t) (vB m c t) (btB m c t)
      (fold m c t.val).1 (fold m c t.val).2.1 (fold m c t.val).2.2 _)
    isplitl [Ht0 Ht1 H0' H1' H2' H3' HA HM HL]
    · isplitl [Ht0]; · iexact Ht0
      isplitl [Ht1]; · iexact Ht1
      isplitl [H0']; · iexact H0'
      isplitl [H1']; · iexact H1'
      isplitl [H2']; · iexact H2'
      isplitl [H3']; · iexact H3'
      isplitl [HA]; · iexact HA
      isplitl [HM]; · iexact HM
      iexact HL
    iintro ⟨Ht0, Ht1, H0, H1, H2, H3, HA, HM, HL⟩
    isplitl [Ht0 Ht1 HA HM HL Hsl HX]
    · rw [Phi_lt m c (t.val + 1) (by omega), scr_pos m c (t.val + 1) (by omega), fold_succ]
      isplitl [Ht0 Ht1]; · unfold tbl; isplitl [Ht0] <;> iassumption
      isplitl [HA HM HL]
      · isplitl [HA]; · iexact HA
        isplitl [HM]; · iexact HM
        iexact HL
      isplitl [Hsl]; · iexact Hsl
      iexact HX
    isplitl [HO]
    · iapply (owesAt_in m c t.succ (O₀ c) (owed_lt m c _ (by rw [Fin.val_succ]; omega)) W); iexact HO
    · isplitl [H0]; · iexact H0
      isplitl [H1]; · iexact H1
      isplitl [H2]; · iexact H2
      isplitl [H3]; · iexact H3
      iapply (out4_early m c t (by omega)); iexact H4

/-- What the windows give back, one by one and as the obligation asks for them. -/
theorem outs (c : Dev nD) (t : Fin grid0.N) :
    iprop(hld (stg m c 0 t) c (qB m c t) ∗ hld (stg m c 1 t) c (kB m c t) ∗ hld (stg m c 2 t) c (vB m c t) ∗ hld (stg m c 3 t) c (btB m c t) ∗ (dat m c).leavesExact 4 t)
    ⊢ bigSep Finset.univ (fun w : Fin (pc m c).W => (dat m c).leavesExact w t) :=
  BIBase.Entails.trans (BIClass.sep_mono (out0 m c t) (BIClass.sep_mono (out1 m c t) (BIClass.sep_mono (out2 m c t) (BIClass.sep_mono (out3 m c t) .rfl))))
    (Entails.of_eq (bigSep_W0 (fun w => (dat m c).leavesExact w t)).symm)

/-- The body keeps the invariant. -/
theorem body (c : Dev nD) : BodyObligation (dat m c) defs₀ 𝒱₀ () Set.univ := fun t =>
  BIBase.Entails.trans (BIClass.sep_mono .rfl (BIClass.sep_mono .rfl (BIBase.Entails.trans (Entails.of_eq (bigSep_W0 _)) (BIClass.sep_mono (in0 m c t) (BIClass.sep_mono (in1 m c t) (BIClass.sep_mono (in2 m c t) (BIClass.sep_mono (in3 m c t) .rfl)))))))
    (BIBase.Entails.trans (body_at m c t) ((wp frame (wpE (defs₀ (F := F)) 𝒱₀ c none) Set.univ (defs₀ (F := F) .tc (pc m c).body ((pc m c).bodyArgs t ((pc m c).slots t)))).mono fun _ => BIClass.sep_mono .rfl (BIClass.sep_mono .rfl (outs m c t))))

end Cert.KProof
-- ==== Proof.Entry.lean ====
module

public import proofs.«01_k».proof.Proof.Region
public import Idealize.ShloMosaic.Lib.Pipeline.Regions
public import Idealize.ShloMosaic.Lib.Rounds

/-!
# Into and out of the region

What a device holds before the region, how the region's invariant is made of it (the call's own semaphores are opened as cells of the
exchange here), what the region leaves, and why the pipeline's waits are allowed while copies are still owed.
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable (m : (ℓ : Loc nD τ sig) → Buf (Elt F) ℓ)

local notation "𝕄" => MT nD τ sig Unit (Elt F) ℕ UU ℕ

/-! ## The call's own semaphores -/

/-- A resource of every transfer cell of a device, cell by cell. -/
theorem bigSep_own (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The call's own semaphores at zero, one by one. -/
theorem ownSems_eq (c : Dev nD) : (Pipeline.ownSems0 osem c : sProp 𝕄) = own0 c := by
  unfold Pipeline.ownSems0 own0
  rw [bigSep_own]

/-! ## Before the region -/

/-- The rights to open the call's own semaphores of device `c`. -/
def rights (c : Dev nD) : sProp 𝕄 :=
  iprop(openTok ER (s0C c) ∗ openTok ER (s1C c) ∗ openTok ER (s2C c) ∗ openTok ER (s3C c) ∗ openTok ER (r0C c) ∗ openTok ER (r1C c) ∗ openTok ER (r2C c) ∗ openTok ER (r3C c))

/-- What device `c` holds of the protocol before the call's own semaphores are open. -/
def ghost (K : GSem nD τ sig → ℕ) (c : Dev nD) : sProp 𝕄 :=
  iprop(invs (lA m) (lM m) (lL m) K c ∗ (reached ER (barCell (px c)) 0 ∗ reached ER (barCell (py c)) 0) ∗ atPos ER (barCell c) 0 ∅ 0 ∗ rights c ∗ toks c)

/-- The rest of the state that the host operations leave alone. -/
def E (c : Dev nD) : sProp 𝕄 :=
  iprop((∃ K, ghost m K c) ∗ creds c ∗ ∃ W, owes (c : Thread nD τ) (O₀ c) W)

/-- The own semaphores, open. -/
theorem opens (c : Dev nD) : iprop((∃ K, ghost m K c) ∗ creds c ∗ Pipeline.ownSems0 osem c ∗ levAts L lv) ⊢ (|={Set.univ}=> Xk m c : sProp 𝕄) := by
  rw [ownSems_eq]
  unfold ghost invs rights own0 Xk
  iintro ⟨⟨%K, ⟨#Ib, #I0, #I1, #I2, #I3, #I4, #I5, #I6, #I7, #Ix⟩, ⟨#Rx, #Ry⟩, Ha, ⟨o0, o1, o2, o3, o4, o5, o6, o7⟩, Ht⟩, Hc, ⟨v0, v1, v2, v3, v4, v5, v6, v7⟩, #Hl⟩
  imod (Rounds.cell_open ER (talkRd (lA m) (lM m) (lL m)) (g := s0C c) (Set.mem_univ (K (s0C c)))) $$ [o0 v0] with ⟨a0, #R0⟩
  · isplitr; · iexact I0
    isplitl [o0] <;> iassumption
  imod (Rounds.cell_open ER (talkRd (lA m) (lM m) (lL m)) (g := s1C c) (Set.mem_univ (K (s1C c)))) $$ [o1 v1] with ⟨a1, #R1⟩
  · isplitr; · iexact I1
    isplitl [o1] <;> iassumption
  imod (Rounds.cell_open ER (talkRd (lA m) (lM m) (lL m)) (g := s2C c) (Set.mem_univ (K (s2C c)))) $$ [o2 v2] with ⟨a2, #R2⟩
  · isplitr; · iexact I2
    isplitl [o2] <;> iassumption
  imod (Rounds.cell_open ER (talkRd (lA m) (lM m) (lL m)) (g := s3C c) (Set.mem_univ (K (s3C c)))) $$ [o3 v3] with ⟨a3, #R3⟩
  · isplitr; · iexact I3
    isplitl [o3] <;> iassumption
  imod (Rounds.cell_open ER (talkRd (lA m) (lM m) (lL m)) (g := r0C c) (Set.mem_univ (K (r0C c)))) $$ [o4 v4] with ⟨a4, #R4⟩
  · isplitr; · iexact I4
    isplitl [o4] <;> iassumption
  imod (Rounds.cell_open ER (talkRd (lA m) (lM m) (lL m)) (g := r1C c) (Set.mem_univ (K (r1C c)))) $$ [o5 v5] with ⟨a5, #R5⟩
  · isplitr; · iexact I5
    isplitl [o5] <;> iassumption
  imod (Rounds.cell_open ER (talkRd (lA m) (lM m) (lL m)) (g := r2C c) (Set.mem_univ (K (r2C c)))) $$ [o6 v6] with ⟨a6, #R6⟩
  · isplitr; · iexact I6
    isplitl [o6] <;> iassumption
  imod (Rounds.cell_open ER (talkRd (lA m) (lM m) (lL m)) (g := r3C c) (Set.mem_univ (K (r3C c)))) $$ [o7 v7] with ⟨a7, #R7⟩
  · isplitr; · iexact I7
    isplitl [o7] <;> iassumption
  imodintro
  isplitl [Ha Ht a0 a1 a2 a3 a4 a5 a6 a7]
  · iexists K
    unfold opened invs
    isplitr
    · isplitr; · iexact Ib
      isplitr; · iexact I0
      isplitr; · iexact I1
      isplitr; · iexact I2
      isplitr; · iexact I3
      isplitr; · iexact I4
      isplitr; · iexact I5
      isplitr; · iexact I6
      isplitr; · iexact I7
      iexact Ix
    isplitr; · iexact Rx
    isplitr; · iexact Ry
    isplitr
    · isplitr; · iexact R0
      isplitr; · iexact R1
      isplitr; · iexact R2
      isplitr; · iexact R3
      isplitr; · iexact R4
      isplitr; · iexact R5
      isplitr; · iexact R6
      iexact R7
    isplitl [Ha]; · iexact Ha
    isplitr [Ht]
    · isplitl [a0]; · iexact a0
      isplitl [a1]; · iexact a1
      isplitl [a2]; · iexact a2
      isplitl [a3]; · iexact a3
      isplitl [a4]; · iexact a4
      isplitl [a5]; · iexact a5
      isplitl [a6]; · iexact a6
      iexact a7
    iexact Ht
  isplitl [Hc]; · iexact Hc
  iexact Hl

/-! ## The waits of the pipeline -/

/-- Every staging semaphore is at the lowest level. -/
theorem stage_low : ∀ (w : Fin 5) (s : Fin (spec0 w).nbuf),
    (if (SemLoc.dma ((spec0 w).sem s) : SemLoc sig) = .reg barS then 1 else if 6 ≤ (oIdx (.dma ((spec0 w).sem s))).val then 3 else if 4 ≤ (oIdx (.dma ((spec0 w).sem s))).val then 2 else 0) = 0 := by
  decide

/-- Every wait of the pipeline is allowed. -/
theorem waits (c : Dev nD) :
    (levAts L lv : sProp 𝕄) ⊢ Pipeline.PerCore.cellsWaits (Pipeline.pinD (pcfgs (F := F)) (adm m)) (fun p c => pdats m p c) () 0 c :=
  Pipeline.PerCore.cellsWaits_intro _ _ () 0 c fun w s t => by
    by_cases h : t.val < 4
    · rw [show (pdats m 0 c).owed t = O₀ c from owed_lt m c t h]
      exact mayWait_zero_level c _ (stage_low w s)
    · rw [show (pdats m 0 c).owed t = 0 from owed_ge m c t h, MayWait_zero]
      iintro -; iempintro

/-! ## The region -/

/-- The prefetched tables of the region are the table of coordinates and the lengths. -/
theorem tables (c : Dev nD) : (Pipeline.prefHeld pre0 c (fun _ => fullShare) (adm m c 0).1 : sProp 𝕄) = tbl m c := by
  unfold Pipeline.prefHeld tbl
  rw [BI.bigSep_fin_two]
  rw [← hld_whole, ← hld_whole]
  rw [show (adm m c 0).1 0 = V1 m c main_v11 from rfl, V1_xy]
  rfl

/-- What the region is entered with gives the invariant before the first grid point. -/
theorem enter (c : Dev nD) : iprop(Xk m c ∗ Pipeline.prefHeld pre0 c (fun _ => fullShare) (adm m c 0).1 ∗ Pipeline.scopedRest spec0 c) ⊢ (dat m c).Φ 0 := by
  rw [Phi_at m c 0 0 rfl, Phi_lt m c 0 (by omega), tables, scopedRest0_eq]
  unfold scr
  rw [if_pos rfl]
  iintro ⟨HX, Ht, ⟨%f0, H0⟩, ⟨%f1, H1⟩, ⟨%f2, H2⟩, H3, H4⟩
  isplitl [Ht]; · iexact Ht
  isplitl [H0 H1 H2]
  · isplitl [H0]; · iexists _; iapply (Entails.of_eq (hld_whole cc0_scratch0 c _)); iexact H0
    isplitl [H1]; · iexists _; iapply (Entails.of_eq (hld_whole cc0_scratch1 c _)); iexact H1
    iexists _; iapply (Entails.of_eq (hld_whole cc0_scratch2 c _)); iexact H2
  isplitl [H3 H4]
  · iapply (splitSlots c)
    isplitl [H3]; · iexact H3
    iexact H4
  iexact HX

/-- The invariant after the last grid point gives back what the region took. -/
theorem leave (c : Dev nD) : (dat m c).Φ (Fin.last _) ⊢ iprop((semVal (barCell c) 0 ∗ tbl m c) ∗ Pipeline.ownSems0 osem c ∗ Pipeline.scopedRest spec0 c) := by
  rw [Phi_at m c (Fin.last _) 4 N_0, Phi_ge m c 4 (by omega), scr_pos m c 4 (by omega), scopedRest0_eq, ownSems_eq]
  unfold Yk
  iintro ⟨Ht, ⟨H0, H1, H2⟩, Hs, Hb, Ho⟩
  isplitl [Hb Ht]
  · isplitl [Hb]; · iexact Hb
    iexact Ht
  isplitl [Ho]; · iexact Ho
  isplitl [H0]; · iexists _; iapply (Entails.of_eq (hld_whole cc0_scratch0 c _).symm); iexact H0
  isplitl [H1]; · iexists _; iapply (Entails.of_eq (hld_whole cc0_scratch1 c _).symm); iexact H1
  isplitl [H2]; · iexists _; iapply (Entails.of_eq (hld_whole cc0_scratch2 c _).symm); iexact H2
  iapply (joinSlots c); iexact Hs

/-- Every window's array is held whole. -/
theorem share_full (c : Dev nD) (w : Fin 5) : (dat m c).share w = fullShare := by
  unfold Dat.share
  split <;> rfl

/-- Before the region: the buffers as the host operations leave them, and the rest. -/
def Tpre (c : Dev nD) : sProp 𝕄 := iprop(StableHlo.held (c.tc : Thread nD τ) (Pipeline.ucRefs τ sig) (V1 m c) ∗ E m c)
/-- After it: the windows' arrays, the barrier at rest, the tables. -/
def Tend (c : Dev nD) : sProp 𝕄 := iprop((dat m c).arrays ((dat m c).arrAt · (pc m c).N) ∗ semVal (barCell c) 0 ∗ tbl m c)

/-- From the state before the region to what it is entered with. -/
theorem entry (c : Dev nD) : iprop(Tpre m c ∗ Pipeline.ownSems0 osem c ∗ levAts L lv)
    ⊢ |={Set.univ}=> iprop((dat m c).arrays ((dat m c).arrAt · 0) ∗ Pipeline.prefHeld pre0 c (fun _ => fullShare) (adm m c 0).1
        ∗ (dat m c).owesAt () 0 ∗ Xk m c ∗ emp) := by
  have split : (StableHlo.held (c.tc : Thread nD τ) (Pipeline.ucRefs τ sig) (V1 m c) : sProp 𝕄)
      ⊢ iprop((dat m c).arrays ((dat m c).arrAt · 0) ∗ Pipeline.prefHeld pre0 c (fun _ => fullShare) (adm m c 0).1 ∗ Pipeline.unscopedRestP pre0 spec0 c (fun b => V1 m c b)) :=
    BIBase.Entails.trans (Entails.of_eq (Pipeline.unscopedBufs_held c (V1 m c)).symm)
      (BIBase.Entails.trans (Pipeline.PerCore.arrays_of_unscopedBufs (pcfgs (F := F)) (adm m) (fun p c => pdats m p c) (p := 0) winFacts0 arr_whole0 c (share_full m c) (fun b => V1 m c b) (fun w => rfl))
        (BIClass.sep_mono .rfl (Entails.of_eq (Pipeline.unscopedRest_split preFacts0 c (fun b => V1 m c b)))))
  unfold Tpre E
  iintro ⟨⟨Hh, HK, Hc, ⟨%W, HO⟩⟩, Ho, Hl⟩
  ihave Hs := split $$ Hh
  icases Hs with ⟨Ha, Ht, -⟩
  imod (opens m c) $$ [HK Hc Ho Hl] with HX
  · isplitl [HK]; · iexact HK
    isplitl [Hc]; · iexact Hc
    isplitl [Ho]; · iexact Ho
    iexact Hl
  imodintro
  isplitl [Ha]; · iexact Ha
  isplitl [Ht]; · iexact Ht
  isplitl [HO]
  · iapply (owesAt_in m c 0 (O₀ c) (owed_lt m c _ (by show (0 : ℕ) < 4; omega)) W); iexact HO
  isplitl [HX]; · iexact HX
  iempintro

/-- From what the region leaves to the state after it. -/
theorem exit_ (c : Dev nD) : iprop((dat m c).arrays ((dat m c).arrAt · (pc m c).N) ∗ (dat m c).owesAt () (Fin.last _) ∗ (semVal (barCell c) 0 ∗ tbl m c) ∗ emp)
    ⊢ (|={Set.univ}=> iprop(Tend m c ∗ ∃ W, owes (c.tc : Thread nD τ) (0 : CellTallies nD τ sig Unit) W) : sProp 𝕄) := by
  unfold Tend
  iintro ⟨Ha, HO, ⟨Hb, Ht⟩, -⟩
  imodintro
  isplitr [HO]
  · isplitl [Ha]; · iexact Ha
    isplitl [Hb]; · iexact Hb
    iexact Ht
  iapply (owesAt_out m c (Fin.last _) 0 (owed_ge m c _ (by rw [show (Fin.last ((pc m c).N)).val = 4 from N_0]; omega))); iexact HO

set_option backward.isDefEq.respectTransparency.types false in
/-- The region as the launch takes it. -/
def reg : Pipeline.PerCore.RegionSeg (pcfgs (F := F)) (adm m) (fun p c => pdats m p c) () defs₀ 𝒱₀ L lv 0 where
  win := winFacts0.to₀
  block_pos := block_pos0
  stage_whole := stage_whole0
  K := Fin 8
  osem := osem
  ho := (by decide : Pipeline.OwnSemFacts spec0 osem)
  hbody c := (body m c).loose
  hwaits c := waits m c
  pre := Tpre m
  post c := iprop(Tend m c ∗ ∃ W, owes (c.tc : Thread nD τ) (0 : CellTallies nD τ sig Unit) W)
  X := Xk m
  Y c := iprop(semVal (barCell c) 0 ∗ tbl m c)
  Z _ := iprop(emp)
  hentry c := entry m c
  hin c := enter m c
  hout c := leave m c
  hexit c := exit_ m c

end Cert.KProof
-- ==== Proof.Deal.lean ====
module

public import proofs.«01_k».proof.Proof.Entry

/-!
# The launch

What the launch deals: the cells' invariants, the first barrier round, the rights to open the call's own semaphores, every duty to the
device that discharges it, and the credit every device waits with.
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable (m : (ℓ : Loc nD τ sig) → Buf (Elt F) ℓ) (ρ : Dev nD → PrngReg)

local notation "𝕄" => MT nD τ sig Unit (Elt F) ℕ UU ℕ

/-! ## Cells and duties -/

/-- The barrier cells, one for each device. -/
def barEmb : Dev nD ↪ GSem nD τ sig := ⟨fun c => barCell c, fun _ _ h => congrArg (fun g : GSem nD τ sig => g.1.1) h⟩
/-- The transfer cells, eight for each device. -/
def ownEmb : Dev nD × Fin 8 ↪ GSem nD τ sig :=
  ⟨fun q => oCell q.1 q.2, fun _ _ h => Prod.ext (congrArg (fun g : GSem nD τ sig => g.1.1) h) (osem_inj (congrArg Prod.snd h))⟩

/-- All barrier cells. -/
abbrev barCells : Finset (GSem nD τ sig) := Finset.univ.map barEmb
/-- All transfer cells. -/
abbrev ownCells : Finset (GSem nD τ sig) := Finset.univ.map ownEmb

/-- No transfer cell is a barrier cell. -/
theorem cells_disjoint : Disjoint (barCells : Finset (GSem nD τ sig)) ownCells := by
  refine Finset.disjoint_left.mpr fun g hg hg' => ?_
  obtain ⟨c, -, rfl⟩ := Finset.mem_map.mp hg
  obtain ⟨q, -, h⟩ := Finset.mem_map.mp hg'
  exact osem_ne_bar q.2 (congrArg Prod.snd h)

/-- A barrier cell is one of the cells. -/
theorem bar_in (c : Dev nD) : barCell c ∈ (barCells ∪ ownCells : Finset (GSem nD τ sig)) :=
  Finset.mem_union_left _ (Finset.mem_map_of_mem barEmb (Finset.mem_univ c))
/-- A transfer cell is one of the cells. -/
theorem own_in (c : Dev nD) (k : Fin 8) : oCell c k ∈ (barCells ∪ ownCells : Finset (GSem nD τ sig)) :=
  Finset.mem_union_right _ (Finset.mem_map_of_mem ownEmb (Finset.mem_univ (c, k)))

/-- A device's duties: the two of its barrier, one on every own semaphore. -/
abbrev dutyOf : Fin 10 → SemLoc sig × Fin 2 := fun
  | 0 => (.reg barS, 0) | 1 => (.reg barS, 1)
  | 2 => (osem 0, 0) | 3 => (osem 1, 0) | 4 => (osem 2, 0) | 5 => (osem 3, 0)
  | 6 => (osem 4, 0) | 7 => (osem 5, 0) | 8 => (osem 6, 0) | 9 => (osem 7, 0)
/-- Different duties of a device differ in cell or in number. -/
theorem dutyOf_inj : Function.Injective dutyOf := by decide

/-- The duties of all devices, without repetition. -/
def dutyEmb : Dev nD × Fin 10 ↪ GSem nD τ sig × ℕ × Fin 2 :=
  ⟨fun q => (((q.1 : Thread nD τ), (dutyOf q.2).1), 0, (dutyOf q.2).2), fun _ _ h =>
    Prod.ext (congrArg (fun t : GSem nD τ sig × ℕ × Fin 2 => t.1.1.1) h)
      (dutyOf_inj (Prod.ext (congrArg (fun t : GSem nD τ sig × ℕ × Fin 2 => t.1.2) h) (congrArg (fun t : GSem nD τ sig × ℕ × Fin 2 => t.2.2) h)))⟩
/-- All duties. -/
def allDuties : Finset (GSem nD τ sig × ℕ × Fin 2) := Finset.univ.map dutyEmb

/-- The staging cells of the pipeline are different from each other. -/
theorem phinj : Function.Injective (Pipeline.PerCore.cellOf (nD := nD) (τ := τ) (Pipeline.pinD (pcfgs (F := F)) (adm m))) :=
  Pipeline.PerCore.cellOf_injective _ (fun _ p => by fin_cases p; exact (by decide : Pipeline.SpecSemsDistinct spec0))
    (fun _ p p' h => absurd (Subsingleton.elim p p') h)

/-- The launch element. -/
def u₀ : UU :=
  (initOf (Pipeline.PerCore.cells (Pipeline.pinD (pcfgs (F := F)) (adm m)) (phinj m)) (Pipeline.PerCore.launchToks (Pipeline.pinD (pcfgs (F := F)) (adm m)) (phinj m)),
    launchOf barCells ownCells allDuties)

/-- The exchange's share of the launch element, as something device 0 holds. -/
def G (c : Dev nD) : sProp 𝕄 := if c = 0 then BI.own (ER (launchOf barCells ownCells allDuties)) else iprop(emp)

/-- A resource of every device, device by device. -/
theorem bigSep_dev (Φ : Dev nD → sProp 𝕄) : bigSep Finset.univ Φ = iprop(Φ 0 ∗ Φ 1 ∗ Φ 2 ∗ Φ 3) :=
  bigSep_univ_eq_bigSepL [(0 : Fin 4), 1, 2, 3] (by decide) (by decide) Φ

/-- The devices' parts give the exchange's share of the launch element. -/
theorem G_all : (bigSep Finset.univ (G (F := F)) : sProp 𝕄) ⊢ BI.own (ER (launchOf barCells ownCells allDuties)) := by
  rw [bigSep_dev]
  unfold G
  rw [if_pos rfl]
  iintro ⟨H, -⟩
  iexact H
/-- The exchange's share of the launch element gives the devices' parts. -/
theorem G_of : (BI.own (ER (launchOf barCells ownCells allDuties)) : sProp 𝕄) ⊢ bigSep Finset.univ (G (F := F)) := by
  rw [bigSep_dev]
  unfold G
  rw [if_pos rfl, if_neg (by decide), if_neg (by decide), if_neg (by decide)]
  iintro H
  isplitl [H]; · iexact H
  isplitr; · iempintro
  isplitr; · iempintro
  iempintro

/-! ## What every device may consult, and what it alone holds -/

/-- What every device may consult: the cells' invariants, and that no barrier has moved yet. -/
def records (κ : GSem nD τ sig → ℕ) : sProp 𝕄 :=
  iprop((bigSep (barCells ∪ ownCells) fun g => cellInv ER (talkRd (lA m) (lM m) (lL m)) (κ g) g) ∗ bigSep barCells fun g => reached ER g 0)
instance records_persistent (κ : GSem nD τ sig → ℕ) : BI.Persistent (records m κ) := by unfold records; infer_instance

/-- The invariant of one cell. -/
theorem inv_at (κ : GSem nD τ sig → ℕ) {g : GSem nD τ sig} (hg : g ∈ (barCells ∪ ownCells : Finset (GSem nD τ sig))) :
    (bigSep (barCells ∪ ownCells) fun g => (cellInv ER (talkRd (lA m) (lM m) (lL m)) (κ g) g : sProp 𝕄)) ⊢ cellInv ER (talkRd (lA m) (lM m) (lL m)) (κ g) g :=
  bigSep_elim hg
/-- The starting record of one barrier. -/
theorem reached_at (c : Dev nD) : (bigSep barCells fun g => (reached ER g 0 : sProp 𝕄)) ⊢ reached ER (barCell c) 0 :=
  bigSep_elim (Finset.mem_map_of_mem barEmb (Finset.mem_univ c))

/-- What device `c` alone holds of the protocol. -/
def linear (c : Dev nD) : sProp 𝕄 := iprop(atPos ER (barCell c) 0 ∅ 0 ∗ rights c ∗ toks c)

/-- Both together are the protocol's state at a device. -/
theorem ghost_intro (κ : GSem nD τ sig → ℕ) (c : Dev nD) : iprop(records m κ ∗ linear c) ⊢ iprop(∃ K, ghost m K c) := by
  unfold records linear ghost invs
  iintro ⟨⟨#HI, #HR⟩, Ha, Ho, Ht⟩
  iexists κ
  isplitr
  · isplitr; · iapply (inv_at m κ (bar_in c)); iexact HI
    isplitr; · iapply (inv_at m κ (own_in c 0)); iexact HI
    isplitr; · iapply (inv_at m κ (own_in c 1)); iexact HI
    isplitr; · iapply (inv_at m κ (own_in c 2)); iexact HI
    isplitr; · iapply (inv_at m κ (own_in c 3)); iexact HI
    isplitr; · iapply (inv_at m κ (own_in c 4)); iexact HI
    isplitr; · iapply (inv_at m κ (own_in c 5)); iexact HI
    isplitr; · iapply (inv_at m κ (own_in c 6)); iexact HI
    isplitr; · iapply (inv_at m κ (own_in c 7)); iexact HI
    isplitr; · iapply (inv_at m κ (bar_in (px c))); iexact HI
    isplitr; · iapply (inv_at m κ (bar_in (py c))); iexact HI
    isplitr; · iapply (inv_at m κ (own_in (px c) 4)); iexact HI
    isplitr; · iapply (inv_at m κ (own_in (px c) 5)); iexact HI
    isplitr; · iapply (inv_at m κ (own_in (py c) 6)); iexact HI
    iapply (inv_at m κ (own_in (py c) 7)); iexact HI
  isplitr
  · isplitr; · iapply (reached_at (F := F) (px c)); iexact HR
    iapply (reached_at (F := F) (py c)); iexact HR
  isplitl [Ha]; · iexact Ha
  isplitl [Ho]; · iexact Ho
  iexact Ht

/-- The duties on device `c`'s own cells. -/
def held0 (c : Dev nD) : sProp 𝕄 :=
  iprop(dutyTok ER (barCell c) 0 (0 : Fin 2) ∗ dutyTok ER (barCell c) 0 (1 : Fin 2)
    ∗ dutyTok ER (s0C c) 0 (0 : Fin 2) ∗ dutyTok ER (s1C c) 0 (0 : Fin 2) ∗ dutyTok ER (s2C c) 0 (0 : Fin 2) ∗ dutyTok ER (s3C c) 0 (0 : Fin 2)
    ∗ dutyTok ER (r0C c) 0 (0 : Fin 2) ∗ dutyTok ER (r1C c) 0 (0 : Fin 2) ∗ dutyTok ER (r2C c) 0 (0 : Fin 2) ∗ dutyTok ER (r3C c) 0 (0 : Fin 2))

/-- A resource of every duty of a device, duty by duty. -/
theorem bigSep_duty (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

/-- All duties, sorted by the device on whose cells they are. -/
theorem duties_eq : bigSep allDuties (fun x => (dutyTok ER x.1 x.2.1 x.2.2 : sProp 𝕄)) = bigSep Finset.univ fun c : Dev nD => held0 c := by
  unfold allDuties
  rw [bigSep_map, bigSep_univ_prod]
  exact bigSep_congr fun c _ => by unfold held0; rw [bigSep_duty]; rfl

/-- Every duty, handed to the device that discharges it. -/
theorem duties_around : (bigSep Finset.univ fun c : Dev nD => (held0 c : sProp 𝕄)) ⊢ bigSep Finset.univ fun c : Dev nD => toks c := by
  unfold held0 toks
  simp only [bigSep_sep']
  rw [bigSep_univ_equiv swapX (fun c : Dev nD => (dutyTok ER (barCell c) 0 (0 : Fin 2) : sProp 𝕄)),
    bigSep_univ_equiv swapY (fun c : Dev nD => (dutyTok ER (barCell c) 0 (1 : Fin 2) : sProp 𝕄)),
    bigSep_univ_equiv swapX (fun c : Dev nD => (dutyTok ER (r0C c) 0 (0 : Fin 2) : sProp 𝕄)),
    bigSep_univ_equiv swapX (fun c : Dev nD => (dutyTok ER (r1C c) 0 (0 : Fin 2) : sProp 𝕄)),
    bigSep_univ_equiv swapY (fun c : Dev nD => (dutyTok ER (r2C c) 0 (0 : Fin 2) : sProp 𝕄)),
    bigSep_univ_equiv swapY (fun c : Dev nD => (dutyTok ER (r3C c) 0 (0 : Fin 2) : sProp 𝕄))]
  exact BI.Entails.refl _

/-! ## The credit -/

/-- The credit at the launch, cell by cell. -/
theorem credit (c : Dev nD) : (Pipeline.launchCred O₀ c : sProp 𝕄) ⊢ creds c := by
  have e1 := Pipeline.launchCred_add (Val := Elt F) (Name := ℕ) (U := UU) (Lvl := ℕ) (fun d => O₄ d + tallyAt (barCell (py d)) () 1) (fun d => tallyAt (barCell (px d)) () 1) c
  have e2 := Pipeline.launchCred_add (Val := Elt F) (Name := ℕ) (U := UU) (Lvl := ℕ) O₄ (fun d => tallyAt (barCell (py d)) () 1) c
  have e3 := Pipeline.launchCred_add (Val := Elt F) (Name := ℕ) (U := UU) (Lvl := ℕ) (fun d => O₆ d + tallyAt (oCell (px d) 5) () NS) (fun d => tallyAt (oCell (px d) 4) () NA) c
  have e4 := Pipeline.launchCred_add (Val := Elt F) (Name := ℕ) (U := UU) (Lvl := ℕ) O₆ (fun d => tallyAt (oCell (px d) 5) () NS) c
  have e5 := Pipeline.launchCred_add (Val := Elt F) (Name := ℕ) (U := UU) (Lvl := ℕ) (fun d => tallyAt (oCell (py d) 7) () NS) (fun d => tallyAt (oCell (py d) 6) () NA) c
  have hx (sm : SemLoc sig) (n : ℕ) := Pipeline.launchCred_tallyAt (τ := τ) (Val := Elt F) (Name := ℕ) (U := UU) (Lvl := ℕ) sm px px px_px px_px () n c
  have hy (sm : SemLoc sig) (n : ℕ) := Pipeline.launchCred_tallyAt (τ := τ) (Val := Elt F) (Name := ℕ) (U := UU) (Lvl := ℕ) sm py py py_py py_py () n c
  have htwo : iprop(cred (tallyAt (barCell c) () 1) ∗ cred (tallyAt (barCell c) () 1)) ⊢ (cred (tallyAt (barCell c) () 2) : sProp 𝕄) := by
    refine BIBase.Entails.trans (cred_add _ _).2 (Entails.of_eq (congrArg cred ?_))
    exact tallyAt_add (barCell c) () 1 1
  refine BIBase.Entails.trans (Entails.of_eq (e1.trans (congrArg (fun X => iprop(X ∗ _)) (e2.trans (congrArg (fun X => iprop(X ∗ _)) (e3.trans (congrArg (fun X => iprop(X ∗ _)) (e4.trans (congrArg (fun X => iprop(X ∗ _)) e5)))))))) ) ?_
  unfold creds
  iintro ⟨⟨⟨⟨⟨H7, H6⟩, H5⟩, H4⟩, Hy⟩, Hx⟩
  isplitl [Hx Hy]
  · iapply htwo
    isplitl [Hx]; · iapply (hx (.reg barS) 1); iexact Hx
    iapply (hy (.reg barS) 1); iexact Hy
  isplitl [H4]; · iapply (hx (osem 4) NA); iexact H4
  isplitl [H5]; · iapply (hx (osem 5) NS); iexact H5
  isplitl [H6]; · iapply (hy (osem 6) NA); iexact H6
  iapply (hy (osem 7) NS); iexact H7

end Cert.KProof
-- ==== Proof.Run.lean ====
module

public import proofs.«01_k».proof.Proof.Deal
public import Idealize.ShloMosaic.Lib.Pipeline.ValueKit.Geometry

/-!
# The run

From any memory with the counters at zero, every run of the program on the four devices ends, with the arguments as they were, the
result on device `c` equal to `outV m c`, and every semaphore at zero.
-/

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable (m : (ℓ : Loc nD τ sig) → Buf (Elt F) ℓ) (ρ : Dev nD → PrngReg)

local notation "𝕄" => MT nD τ sig Unit (Elt F) ℕ UU ℕ

/-- The only semaphore outside the region is the barrier, -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]
/-- and nothing else. -/
theorem unscoped_bar : ∀ sm : SemLoc sig, sm.isScoped .tc = false → sm = .reg barS := by decide

/-! ## From the launch to the first thread state -/

/-- The state in which a device starts. -/
def Tstart (c : Dev nD) : sProp 𝕄 := iprop(StableHlo.held (c.tc : Thread nD τ) (Pipeline.ucRefs τ sig) (V0 m c) ∗ E m c)

/-- What a device is dealt besides the protocol's state. -/
def bundle (c : Dev nD) : sProp 𝕄 :=
  iprop(StableHlo.held (c.tc : Thread nD τ) (Pipeline.ucRefs τ sig) (V0 m c) ∗ creds c ∗ owes (c : Thread nD τ) (O₀ c) ∅)

/-- What a device is dealt gives the state in which it starts. -/
theorem start_intro (κ : GSem nD τ sig → ℕ) (c : Dev nD) : iprop(records m κ ∗ (linear c ∗ bundle m c)) ⊢ Tstart m c := by
  unfold Tstart bundle E
  iintro ⟨#HR, Hl, Hh, Hc, HO⟩
  isplitl [Hh]; · iexact Hh
  isplitl [Hl]
  · iapply (ghost_intro m κ c)
    isplitr; · iexact HR
    iexact Hl
  isplitl [Hc]; · iexact Hc
  iexists ∅; iexact HO

/-- From the launch to every device's starting state. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (Tstart m) : sProp 𝕄) := by
  have one (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b)) = StableHlo.held (c.tc : Thread nD τ) (Pipeline.ucRefs τ sig) (V0 m c) from Pipeline.unscopedBufs_held c (V0 m c),
      unscopedSems_eq]
    unfold bundle
    iintro ⟨Hh, Hs, HO, Hcr, -, HG⟩
    ihave Hc := (credit (F := F) c) $$ Hcr
    isplitl [Hh Hc HO]
    · isplitl [Hh]; · iexact Hh
      isplitl [Hc]; · iexact Hc
      iexact HO
    isplitl [Hs] <;> iassumption
  have vals : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have poss : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have rgts : bigSep ownCells (fun g => (openTok ER g : sProp 𝕄)) ⊢ bigSep Finset.univ (fun c : Dev nD => rights c) :=
    Entails.of_eq (by
      rw [bigSep_map, bigSep_univ_prod]
      exact bigSep_congr fun c _ => by unfold rights; rw [bigSep_own]; rfl)
  iintro ⟨H, -⟩
  ihave H1 := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => one c) $$ H
  ihave H2 := (Entails.of_eq (bigSep_sep' _ _ _)) $$ H1; icases H2 with ⟨HB, H3⟩
  ihave H4 := (Entails.of_eq (bigSep_sep' _ _ _)) $$ H3; icases H4 with ⟨Hv, HG⟩
  ihave Hu := (G_all (F := F)) $$ HG
  imod (Rounds.fund_launch ER (talkRd (lA m) (lM m) (lL m)) cells_disjoint (fun g _ h => h) allDuties) $$ [Hv Hu] with ⟨%κ, -, #Hinv, #Hr, Hat, Hopen, Htok⟩
  · isplitl [Hv]
    · iapply vals $$ Hv
    · iexact Hu
  imodintro
  iapply (bigSep_with_persistent (R := records m κ) (Φ := fun c => iprop(linear c ∗ bundle m c)) fun c _ => start_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply poss $$ Hat
    iapply (Entails.of_eq (bigSep_sep' _ _ _).symm); isplitl [Hopen]; · iapply rgts $$ Hopen
    iapply (duties_around (F := F))
    iapply (Entails.of_eq (duties_eq (F := F))) $$ Htok
  · iexact HB

/-! ## What the arrays hold at the end -/

/-- An input array ends as it began. -/
theorem arr_in (c : Dev nD) (w : Fin 5) (h : (spec0 w).isOut = false) (b : Ref sig .tc) (hb : Pipeline.arrRef spec0 w = b) (hW : b ∉ hostOps0_W) :
    HEq ((dat m c).arrAt w (pc m c).N) (m ((c.tc : Thread nD τ).loc b)) := by
  subst hb
  rw [(dat m c).arrAt_in w h]
  exact heq_of_eq ((V1_of m c _ hW).trans rfl)

/-- The last grid point writes the result back. -/
theorem fl_last (c : Dev nD) : ((pc m c).win 4).flush t0_3 = true := by
  have hN : grid0.N = 4 := N_0
  unfold Window.flush
  rw [Bool.and_eq_true_iff]
  refine ⟨rfl, ?_⟩
  rw [Bool.or_eq_true_iff]
  left
  exact decide_eq_true ((show t0_3.val + 1 = 4 from rfl).trans hN.symm)

/-- The result is written back once, at the last grid point, whole. -/
theorem whole_last (c : Dev nD) : ((pc m c).win 4).WholeAt t0_3 := by
  have hN : grid0.N = 4 := N_0
  refine ⟨fl_last m c, fun t h => ?_, fun a => ⟨?_, ?_⟩⟩
  · by_contra hne
    have hlt : t.val < 3 := by
      have := t.isLt
      have h3 : (t0_3 : Fin grid0.N).val = 3 := rfl
      have hne' : t.val ≠ 3 := fun e => hne (Fin.ext (e.trans h3.symm))
      have : t.val < 4 := hN ▸ t.isLt
      omega
    rw [fl m c t hlt] at h
    exact absurd h (by decide)
  · have : ∀ a : Fin 4, cc0_transform_4 (grid0.coords t0_3) a = 0 := by decide
    exact this a
  · have : ∀ a : Fin 4, ((pc m c).win 4).xsize (grid0.coords t0_3) a = ((pc m c).win 4).shape.size a := fun a => by
      match a with | 0 => rfl | 1 => rfl | 2 => rfl | 3 => rfl
    exact this a

/-- The output array ends with the result. -/
theorem arr_out (c : Dev nD) : (dat m c).arrAt 4 (pc m c).N = outV m c :=
  (dat m c).arrAt_eq_of_after_last 4 t0_3 (whole_last m c) (outV m c) (fun j => rfl) (arr_whole0 4)

/-! ## The run -/

/-- The program on device `c`: the host's table of coordinates, then the kernel. -/
def segs (c : Dev nD) : List (Pipeline.PerCore.Seg (pcfgs (F := F)) (adm m) (fun p c => pdats m p c) () defs₀ 𝒱₀ L lv) :=
  [.host (Gen.seg0 m 𝒱₀ L lv (fun _ => E m) c), .region (reg m)]

/-- What is read off a final state at device `c`. -/
def Seen (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v12) = outV m c)
  ∧ s.sem (barCell c) = 0

/-- What a final state holds at a device. -/
theorem seen (c : Dev nD) (s' : Phys nD τ sig (Elt F)) : iprop(Tend m c ∗ SI s') ⊢ (|={Set.univ}=> iprop(⌜Seen m c s'.mem⌝ ∗ SI s') : sProp 𝕄) := by
  have rd := Pipeline.PerCore.arrays_read (pcfgs (F := F)) (adm m) (fun p c => pdats m p c) (p := 0) arr_whole0 c (share_full m c) (fun w => (dat m c).arrAt w (pc m c).N) s'
  have h4 : (hld (Memref.whole main_arg4) c (lnB m c) : sProp 𝕄) ⊢ (((c : Thread nD τ).loc main_arg4) ↦{fullShare} lnB m c) := Entails.of_eq (hld_whole main_arg4 c (lnB m c)).symm
  unfold Tend tbl
  iintro ⟨⟨Ha, Hb, -, Ht⟩, HSI⟩
  ihave Ht' := h4 $$ Ht
  icombine HSI Ht' gives %ht
  icombine HSI Hb gives %hb
  ihave Hr := rd $$ [Ha HSI]
  · isplitl [Ha]; · iexact Ha
    iexact HSI
  icases Hr with ⟨%ha, HSI⟩
  imodintro
  isplitr
  · ipureintro
    refine ⟨⟨?_, ?_, ?_, ?_, ?_, ?_⟩, by simpa using hb⟩
    · exact (ha 0).trans (((dat m c).arrAt_in 0 rfl _).trans (V1_of m c main_arg0 (by decide)))
    · exact (ha 1).trans (((dat m c).arrAt_in 1 rfl _).trans (V1_of m c main_arg1 (by decide)))
    · exact (ha 2).trans (((dat m c).arrAt_in 2 rfl _).trans (V1_of m c main_arg2 (by decide)))
    · exact (ha 3).trans (((dat m c).arrAt_in 3 rfl _).trans (V1_of m c main_arg3 (by decide)))
    · exact (Buf.eq_of_forall_mem_univ ht).trans (V1_of m c main_arg4 (by decide))
    · exact (ha 4).trans (arr_out m c)
  iexact HSI

set_option backward.isDefEq.respectTransparency.types false in
/-- Every run ends with the arguments as they were, `outV m c` as the result on device `c`, and every semaphore at zero. -/
theorem run_main : θ_run defs (onTc (τ := τ) (main (F := F))) ⟨m, fun _ => 0, ρ⟩ (fun r => (∀ c : Dev nD, Seen m c r.2) ∧ r.2.sem = fun _ => 0) :=
  Pipeline.PerCore.θ_run_regions_kit_sems (pcfgs (F := F)) (adm m) (fun p c => pdats m p c) () (phinj m) EP defs₀ 𝒱₀ L lv m ρ main (segs m)
    (fun c Q => by
      rewrite [main_chain c, Pipeline.PerCore.Seg.run_eq_chain,
        show (segs m c).map Pipeline.PerCore.Seg.prog = [StableHlo.seq (hostOps0 c), Prog.lift (.customCall (Pipeline.entry 0) ())] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := O₀) (hL := L_of_ne) (G := G) (u₀ := u₀ m)
    (hu₀ := by
      unfold u₀
      iintro Hu
      ihave H := (ownU_pair _ _) $$ Hu
      icases H with ⟨HP, HX⟩
      imodintro
      isplitl [HP]; · iexact HP
      iapply (G_of (F := F)) $$ HX)
    (T₀ := Tstart m) (Tₙ := Tend m)
    (hch := fun c => by
      refine ⟨.rfl, .rfl, .rfl⟩)
    (hinit := init m ρ)
    (QY := Seen m)
    (hfin := seen m)
    (hQ := fun s h hs => ⟨h, sem_eq_zero hs fun c sm hsm => by
        obtain rfl := unscoped_bar sm hsm
        exact (h c).2⟩)

end Cert.KProof
-- ==== Proof.Same.lean ====
module

public import Idealize.ShloMosaic.PureOps.Ideal
public import Idealize.ShloMosaic.PureOps.BitExact
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton

/-!
# The two printings of the kernel at machine floats

The kernel is printed twice, once with its scale as a literal and once with the scale named. Where a named constant is read
as the literal's bits the two programs are the same, window of the body by window of the body.
-/

@[expose] public section

noncomputable section

namespace Cert.KProof
open Idealize.ShloMosaic Idealize.ShloMosaic.TcCoe Idealize.SL.Sem
/-- At machine floats a named constant is read as the bits it was printed with. -/
@[instance_reducible] def bitsNamed : Named Bits := ⟨fun _ _ φ b => FloatOps.ofBits φ b⟩
attribute [local instance] bitsNamed Cert.Kernel.Gen.facts Cert.KernelIdeal.Gen.facts
set_option maxHeartbeats 1000000 in
/-- Window 1 of the body is the same in both printings. -/
theorem part1_eq : Cert.Kernel.k0_part1 (F := Bits) = Cert.KernelIdeal.k0_part1 (F := Bits) := rfl
set_option maxHeartbeats 1000000 in
/-- Window 2 of the body is the same in both printings. -/
theorem part2_eq : Cert.Kernel.k0_part2 (F := Bits) = Cert.KernelIdeal.k0_part2 (F := Bits) := rfl
set_option maxHeartbeats 1000000 in
/-- Window 3 of the body is the same in both printings. -/
theorem part3_eq : Cert.Kernel.k0_part3 (F := Bits) = Cert.KernelIdeal.k0_part3 (F := Bits) := rfl
set_option maxHeartbeats 1000000 in
/-- Window 4 of the body is the same in both printings. -/
theorem part4_eq : Cert.Kernel.k0_part4 (F := Bits) = Cert.KernelIdeal.k0_part4 (F := Bits) := rfl
set_option maxHeartbeats 1000000 in
/-- Window 5 of the body is the same in both printings. -/
theorem part5_eq : Cert.Kernel.k0_part5 (F := Bits) = Cert.KernelIdeal.k0_part5 (F := Bits) := rfl
set_option maxHeartbeats 1000000 in
/-- Window 6 of the body is the same in both printings. -/
theorem part6_eq : Cert.Kernel.k0_part6 (F := Bits) = Cert.KernelIdeal.k0_part6 (F := Bits) := rfl
set_option maxHeartbeats 1000000 in
/-- Window 7 of the body is the same in both printings. -/
theorem part7_eq : Cert.Kernel.k0_part7 (F := Bits) = Cert.KernelIdeal.k0_part7 (F := Bits) := rfl
set_option maxHeartbeats 1000000 in
/-- Window 8 of the body is the same in both printings. -/
theorem part8_eq : Cert.Kernel.k0_part8 (F := Bits) = Cert.KernelIdeal.k0_part8 (F := Bits) := rfl
set_option maxHeartbeats 1000000 in
/-- Window 9 of the body is the same in both printings. -/
theorem part9_eq : Cert.Kernel.k0_part9 (F := Bits) = Cert.KernelIdeal.k0_part9 (F := Bits) := rfl
set_option maxHeartbeats 1000000 in
/-- Window 10 of the body is the same in both printings. -/
theorem part10_eq : Cert.Kernel.k0_part10 (F := Bits) = Cert.KernelIdeal.k0_part10 (F := Bits) := rfl
set_option maxHeartbeats 1000000 in
/-- Window 11 of the body is the same in both printings. -/
theorem part11_eq : Cert.Kernel.k0_part11 (F := Bits) = Cert.KernelIdeal.k0_part11 (F := Bits) := rfl
set_option maxHeartbeats 1000000 in
/-- Window 12 of the body is the same in both printings. -/
theorem part12_eq : Cert.Kernel.k0_part12 (F := Bits) = Cert.KernelIdeal.k0_part12 (F := Bits) := rfl
set_option maxHeartbeats 1000000 in
/-- Window 13 of the body is the same in both printings. -/
theorem part13_eq : Cert.Kernel.k0_part13 (F := Bits) = Cert.KernelIdeal.k0_part13 (F := Bits) := rfl
set_option maxHeartbeats 1000000 in
/-- Window 14 of the body is the same in both printings. -/
theorem part14_eq : Cert.Kernel.k0_part14 (F := Bits) = Cert.KernelIdeal.k0_part14 (F := Bits) := rfl
set_option maxHeartbeats 1000000 in
/-- So is the body, -/
theorem body_eq : Cert.Kernel.cc0_body (F := Bits) = Cert.KernelIdeal.cc0_body (F := Bits) := by
  rfl
set_option maxHeartbeats 1000000 in
/-- the table of bodies, -/
theorem defs0_eq : Cert.Kernel.defs₀ (F := Bits) = Cert.KernelIdeal.defs₀ (F := Bits) := by
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | 0, (t, s) => rfl
/-- and the table with the launch. -/
theorem defs_eq : Cert.Kernel.defs (F := Bits) = Cert.KernelIdeal.defs (F := Bits) :=
  (congrArg (Pipeline.defs (Cert.KernelIdeal.pcfgs (F := Bits))) defs0_eq :)
set_option maxHeartbeats 4000000 in
/-- The host programs are the same too. -/
theorem main_eq : Cert.Kernel.main (F := Bits) = Cert.KernelIdeal.main (F := Bits) := rfl

end Cert.KProof
-- ==== Proof.Frames.lean ====
module

public import proofs.«01_k».proof.Defs
public import proofs.«01_k».proof.Proof.Run
public import proofs.«01_k».proof.Proof.Same
public import proofs.«01_k».proof.Proof.Gen.Kernel
public import proofs.«01_k».proof.Proof.Gen.ReferenceIdeal
public import proofs.«01_k».proof.Proof.Gen.ReferenceIdeal.Run
public import Idealize.ShloMosaic.Lib.Quiescent

/-!
# The frames

Each of the three programs runs to the end with its arguments as they were and every semaphore at zero.
-/

@[expose] public section

noncomputable section

namespace Cert.KProof

open Idealize.ShloMosaic Idealize.ShloMosaic.TcCoe Idealize.SL.Sem

/-- The kernel with its constant named runs to the end, keeps its arguments and leaves every semaphore at zero. -/
theorem frame_ideal : Cert.quiescent_KernelIdeal (hKernelIdeal := Cert.KernelIdeal.Gen.facts) :=
  fun m ρ _ => (θ_run Cert.KernelIdeal.defs _ _).mono
    (fun _ h => ⟨fun c => ⟨(h.1 c).1.1, (h.1 c).1.2.1, (h.1 c).1.2.2.1, (h.1 c).1.2.2.2.1, (h.1 c).1.2.2.2.2.1⟩, h.2⟩) (run_main (F := Ideal) m ρ)

attribute [local instance] bitsNamed

/-- The kernel as printed runs to the end, keeps its arguments and leaves every semaphore at zero. -/
theorem frame_kernel : Cert.quiescent_Kernel (hKernel := Cert.Kernel.Gen.facts) := by
  intro m ρ _
  have key : ∀ D, D = Cert.KernelIdeal.defs (F := Bits) → ∀ M, M = Cert.KernelIdeal.main (F := Bits) →
      θ_run D (onTc (τ := Cert.KernelIdeal.τ) M) ⟨m, fun _ => 0, ρ⟩ (fun r => (∀ c : Dev Cert.KernelIdeal.nD, Seen m c r.2) ∧ r.2.sem = fun _ => 0) := by
    rintro _ rfl _ rfl
    exact run_main (F := Bits) m ρ
  exact (θ_run Cert.Kernel.defs _ _).mono
    (fun _ h => ⟨fun c => ⟨(h.1 c).1.1, (h.1 c).1.2.1, (h.1 c).1.2.2.1, (h.1 c).1.2.2.2.1, (h.1 c).1.2.2.2.2.1⟩, h.2⟩) (key _ defs_eq _ main_eq)

/-- The reference runs to the end, keeps its arguments and leaves every semaphore at zero. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

end Cert.KProof
-- ==== Proof.Chunk.lean ====
module

public import proofs.«01_k».proof.Proof.Step
public import Idealize.ShloMosaic.Lib.Pointwise
public import Idealize.ShloMosaic.Lib.IdealHost

@[expose] public section

set_option maxRecDepth 16384

noncomputable section

namespace Cert.KProof

open Cert.KernelIdeal Cert.KernelIdeal.Gen
open Idealize.ShloMosaic

/-- The scale of the scores, one over the square root of the head size. -/
def rs : ℝ := (Real.sqrt 128)⁻¹

/-- The score of key slot `r` of a chunk against the query of head `h` and batch row `b`. -/
def sco (q : FVec Ideal S8x1x8x128 .bf16) (k : FVec Ideal S64x16x8x128 .bf16) (h b : Fin 8) (r : Fin 1024) : EReal :=
  (∑ x : Fin 128, q (ix4 b 0 h x) * k (ix4 ⟨r.val / 16, by omega⟩ ⟨r.val % 16, by omega⟩ h x)) * (rs : EReal)

/-- The scores as the body computes them, one matrix product per head, are the scores. -/
theorem pay44_at (q : FVec Ideal S8x1x8x128 .bf16) (k : FVec Ideal S64x16x8x128 .bf16) (h b : Fin 8) (r : Fin 1024) :
    k0_pay44 (F := Ideal) (k0_pay34 q) (k0_pay35 k) (k0_pay37 (k0_pay34 q) k) (k0_pay38 (k0_pay34 q) k) (k0_pay39 (k0_pay34 q) k)
    (k0_pay40 (k0_pay34 q) k) (k0_pay41 (k0_pay34 q) k) (k0_pay42 (k0_pay34 q) k) (k0_pay43 (k0_pay34 q) k) (ix3 h b r) = sco q k h b r := by
  have hn : Named.named (F := Ideal) κ "inv_sqrt_d" (φ := .f32) 1035273459#32 = (rs : EReal) := rfl
  pointwise [k0_pay44, k0_pay37, k0_pay38, k0_pay39, k0_pay40, k0_pay41, k0_pay42, k0_pay43, k0_pay35, k0_pay34]
  rw [hn]
  unfold sco
  congr 1
  fin_vals h with hh
  all_goals simp only [hh, Nat.reduceSub, Nat.reduceLT, ↓reduceDIte]
  all_goals
    obtain ⟨n, hn⟩ := h
    subst hh
    rfl

/-- The running maximum after a chunk: the larger of the one before and the chunk's largest score. -/
theorem pay45_at (q : FVec Ideal S8x1x8x128 .bf16) (k : FVec Ideal S64x16x8x128 .bf16) (mm : FVec Ideal S8x8 .f32) (h b : Fin 8) :
    k0_pay45 (F := Ideal) (k0_pay34 q) (k0_pay35 k) (k0_pay37 (k0_pay34 q) k) (k0_pay38 (k0_pay34 q) k) (k0_pay39 (k0_pay34 q) k)
    (k0_pay40 (k0_pay34 q) k) (k0_pay41 (k0_pay34 q) k) (k0_pay42 (k0_pay34 q) k) (k0_pay43 (k0_pay34 q) k) mm (ix2 h b)
      = max (mm (ix2 h b)) (Finset.univ.fold max ⊥ fun r => sco q k h b r) := by
  have hb : Ideal.ofBits .f32 4286578688#32 = ⊥ := by simp [Ideal.ofBits, Ideal.ieee]
  pointwise [k0_pay45]
  simp only [pay44_at, hb]
  try rfl

/-- The running maximum after a chunk, at an entry: the larger of the old one and the chunk's scores. -/
theorem stepM_at (q : FVec Ideal S8x1x8x128 .bf16) (k : FVec Ideal S64x16x8x128 .bf16) (mm : FVec Ideal S8x8 .f32) (h b : Fin 8) :
    stepM (F := Ideal) q k mm (ix2 h b) = max (mm (ix2 h b)) (Finset.univ.fold max ⊥ fun r => sco q k h b r) := by
  pointwise [stepM, k0_pay53]
  exact pay45_at q k mm h b

/-- The running sum of weights after a chunk. -/
theorem stepL_at (q : FVec Ideal S8x1x8x128 .bf16) (k : FVec Ideal S64x16x8x128 .bf16) (cv : FVec Ideal S8x1024 .f32) (mm ll : FVec Ideal S8x8 .f32) (h b : Fin 8) :
    stepL (F := Ideal) q k cv mm ll (ix2 h b)
      = ll (ix2 h b) * Ideal.exp (mm (ix2 h b) - stepM (F := Ideal) q k mm (ix2 h b))
        + ∑ r : Fin 1024, Ideal.exp (sco q k h b r - stepM (F := Ideal) q k mm (ix2 h b)) * cv (ix2 b r) := by
  rw [stepM_at]
  pointwise [stepL, k0_pay48, k0_pay46, k0_pay47]
  simp only [pay44_at, pay45_at]

/-- The running weighted sum of value rows after a chunk. -/
theorem stepA_at (q : FVec Ideal S8x1x8x128 .bf16) (k v : FVec Ideal S64x16x8x128 .bf16) (cv : FVec Ideal S8x1024 .f32) (acc : FVec Ideal S8x8x128 .f32) (mm : FVec Ideal S8x8 .f32) (h b : Fin 8) (d : Fin 128) :
    stepA (F := Ideal) q k v cv acc mm (ix3 h b d)
      = acc (ix3 h b d) * Ideal.exp (mm (ix2 h b) - stepM (F := Ideal) q k mm (ix2 h b))
        + ∑ r : Fin 1024, Ideal.exp (sco q k h b r - stepM (F := Ideal) q k mm (ix2 h b)) * cv (ix2 b r)
            * v (ix4 ⟨r.val / 16, by omega⟩ ⟨r.val % 16, by omega⟩ h d) := by
  rw [stepM_at]
  pointwise [stepA, k0_pay52, k0_pay36, k0_pay46, k0_pay49, k0_pay50, k0_pay51, k0_pay47]
  simp only [pay44_at, pay45_at]
  congr 1
  fin_vals h with hh
  all_goals simp only [hh, Nat.reduceSub, Nat.reduceLT, ↓reduceDIte]
  all_goals
    obtain ⟨n, hn⟩ := h
    subst hh
    rfl

end Cert.KProof
end
-- ==== Proof.Counts.lean ====
module

public import proofs.«01_k».proof.Proof.Step
public import Idealize.ShloMosaic.Lib.Pointwise
public import Idealize.ShloMosaic.Lib.IdealHost

@[expose] public section

set_option maxRecDepth 16384

noncomputable section

namespace Cert.KProof

open Cert.KernelIdeal Cert.KernelIdeal.Gen
open Idealize.ShloMosaic

/-- How many of the first `l` entries of a row of the page table name the page `w`. -/
def hits (row : Fin 512 → BitVec 32) (l w : BitVec 32) : EReal :=
  ∑ x : Fin 512, if row x = w ∧ (x.val : ℤ) < l.toInt then 1 else 0

/-- A comparison for equality joined with one for order, as a number, is one or zero. -/
theorem hit_word (a b l : BitVec 32) (x : Fin 512) :
    (FloatOps.sitofp (F := Ideal) FTy.f32 (BitVec.setWidth 32 (IntOp.andi (IntOp.cmpi .eq a b) (IntOp.cmpi .slt (BitVec.ofNat 32 x.val) l))) : EReal)
      = if a = b ∧ (x.val : ℤ) < l.toInt then 1 else 0 := by
  have hx : (BitVec.ofNat 32 x.val).toInt = (x.val : ℤ) := by
    have := x.isLt
    rw [BitVec.toInt_eq_toNat_cond]; simp; omega
  have h1 : IntOp.cmpi .slt (BitVec.ofNat 32 x.val) l = if (x.val : ℤ) < l.toInt then 1#1 else 0#1 := by
    simp only [IntOp.cmpi, BitVec.slt, hx]
    by_cases h : (x.val : ℤ) < l.toInt <;> simp [h]
  have h2 : IntOp.cmpi .eq a b = if a = b then 1#1 else 0#1 := by
    show BitVec.ofBool (a == b) = _
    by_cases h : a = b
    · simp [h]
    · rw [beq_eq_false_iff_ne.2 h]; simp [h]
  rw [h1, h2]
  show ((((BitVec.setWidth 32 (IntOp.andi _ _)).toInt : ℤ) : ℝ) : EReal) = _
  by_cases h : a = b <;> by_cases h' : (x.val : ℤ) < l.toInt <;> simp [h, h', IntOp.andi]

/-- The addition of words is their sum. -/
theorem add_word (p : ℕ) (w : BitVec 32) : IntOp.addi (BitVec.ofNat 32 p) w = BitVec.ofNat 32 p + w := rfl

section Rows
variable (i : grid0.Coords) (v0 v1 : BitVec 32) (r : S1x512.Idx → BitVec 32) (l : BitVec 32) (p : Fin 64)

/-- The counts of one batch row, as one value. -/
abbrev rowAt : EReal := hits (fun x => r (ix2 (0 : Fin 1) x)) l (BitVec.ofNat 32 p.val + baseWord i v0 v1)

/-- Row 0 of the page counts, at a page. -/
theorem pay22_at : k0_pay22 (F := Ideal) i v0 v1 r l (ix2 (0 : Fin 1) p) = rowAt i v0 v1 r l p := by
  pointwise [k0_pay22]
  simp only [hit_word]
  rfl

/-- Row 1 of the page counts, at a page. -/
theorem pay24_at : k0_pay24 (F := Ideal) (k0_pay23 (F := Ideal) i v0 v1 r l) (ix2 (0 : Fin 1) p) = rowAt i v0 v1 r l p := by
  pointwise [k0_pay24, k0_pay23]
  simp only [hit_word]
  rfl

/-- Row 2 of the page counts, at a page. -/
theorem pay25_at : k0_pay25 (F := Ideal) (baseWord i v0 v1) r l (ix2 (0 : Fin 1) p) = rowAt i v0 v1 r l p := by
  pointwise [k0_pay25]
  simp only [hit_word]
  rfl
/-- Row 3 of the page counts, at a page. -/
theorem pay26_at : k0_pay26 (F := Ideal) (baseWord i v0 v1) r l (ix2 (0 : Fin 1) p) = rowAt i v0 v1 r l p := by
  pointwise [k0_pay26]
  simp only [hit_word]
  rfl
/-- Row 4 of the page counts, at a page. -/
theorem pay28_at : k0_pay28 (F := Ideal) (iota .tc S64x512 32 [1] iota_S64x512_d1_w32) l (k0_pay27 (F := Ideal) (baseWord i v0 v1) r) (ix2 (0 : Fin 1) p) = rowAt i v0 v1 r l p := by
  pointwise [k0_pay28, k0_pay27]
  simp only [hit_word]
  rfl
/-- Row 5 of the page counts, at a page. -/
theorem pay29_at : k0_pay29 (F := Ideal) (baseWord i v0 v1) r l (ix2 (0 : Fin 1) p) = rowAt i v0 v1 r l p := by
  pointwise [k0_pay29]
  simp only [hit_word]
  rfl
/-- Row 6 of the page counts, at a page. -/
theorem pay30_at : k0_pay30 (F := Ideal) (baseWord i v0 v1) r l (ix2 (0 : Fin 1) p) = rowAt i v0 v1 r l p := by
  pointwise [k0_pay30]
  simp only [hit_word]
  rfl
end Rows

/-- Dividing a column number by the page's size, as the body writes a division rounded down. -/
theorem page_of (c : Fin 1024) :
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 c.val) 16#32) 0#32))
      (IntOp.subi (IntOp.divsi ArithUnit.vector (BitVec.ofNat 32 c.val) 16#32) 1#32)
      (IntOp.divsi ArithUnit.vector (BitVec.ofNat 32 c.val) 16#32)
    = BitVec.ofNat 32 (c.val / 16) := by
  revert c; decide +kernel

/-- Whether a column belongs to a page, as a number. -/
theorem page_word (m : ℕ) (hm : m < 64) (x : Fin 64) :
    (FloatOps.sitofp (F := Ideal) FTy.f32 (BitVec.setWidth 32 (IntOp.cmpi .eq (BitVec.ofNat 32 m) (BitVec.ofNat 32 x.val))) : EReal)
      = if x = ⟨m, hm⟩ then 1 else 0 := by
  have h2 : IntOp.cmpi .eq (BitVec.ofNat 32 m) (BitVec.ofNat 32 x.val) = if x = ⟨m, hm⟩ then 1#1 else 0#1 := by
    show BitVec.ofBool (BitVec.ofNat 32 m == BitVec.ofNat 32 x.val) = _
    by_cases h : x = ⟨m, hm⟩
    · subst h; simp
    · rw [beq_eq_false_iff_ne.2 fun e => h (Fin.ext (by have := congrArg BitVec.toNat e; simp at this; show x.val = m; omega))]; simp [h]
  rw [h2]
  show ((((BitVec.setWidth 32 _).toInt : ℤ) : ℝ) : EReal) = _
  by_cases h : x = ⟨m, hm⟩ <;> simp [h]

/-- A sum against an indicator picks one term. -/
theorem sum_pick (f : Fin 64 → EReal) (m : Fin 64) : ∑ x, f x * (if x = m then 1 else 0) = f m := by
  rw [Finset.sum_eq_single m (fun x _ h => by rw [if_neg h, mul_zero]) (fun h => absurd (Finset.mem_univ m) h), if_pos rfl, mul_one]

/-- The eight rows of counts, one above the other, at an entry. -/
theorem cntRows_at (i : grid0.Coords) (v0 v1 : BitVec 32) (r : Fin 8 → S1x512.Idx → BitVec 32) (l : Fin 8 → BitVec 32) (b : Fin 8) (c : Fin 1024) :
    cntRows (F := Ideal) i v0 v1 (r 0) (r 1) (r 2) (r 3) (r 4) (r 5) (r 6) (r 7) (l 0) (l 1) (l 2) (l 3) (l 4) (l 5) (l 6) (l 7) (ix2 b c)
      = rowAt i v0 v1 (r b) (l b) ⟨c.val / 16, by omega⟩ := by
  pointwise [cntRows, k0_pay33, k0_pay31, k0_pay32]
  simp only [hit_word, page_of, page_word _ (show c.val / 16 < 64 by omega), sum_pick]
  obtain ⟨n, hn⟩ := b
  interval_cases n
  all_goals simp only [Nat.reduceSub, Nat.reduceLT, ↓reduceDIte]
  all_goals
    first
    | exact pay22_at _ _ _ _ _ _
    | exact pay24_at _ _ _ _ _ _
    | exact pay25_at _ _ _ _ _ _
    | exact pay26_at _ _ _ _ _ _
    | exact pay28_at _ _ _ _ _ _
    | exact pay29_at _ _ _ _ _ _
    | exact pay30_at _ _ _ _ _ _
    | rfl

/-- The counts of a chunk: how many live entries of batch row `b` name the page of column `c`. -/
theorem cntVec_at (i : grid0.Coords) (W : S2.Idx → BitVec 32) (ln : S8.Idx → BitVec 32) (bt : S8x512.Idx → BitVec 32) (b : Fin 8) (c : Fin 1024) :
    cntVec (F := Ideal) i W ln bt (ix2 b c)
      = hits (fun x => bt (ix2 b x)) (ln (ix1 b)) (BitVec.ofNat 32 (c.val / 16) + baseWord i (wx (F := Ideal) W) (wy (F := Ideal) W)) := by
  have hr : ∀ b : Fin 8, ∀ a, (![b.val, 0] : Fin S8x512.rank → ℕ) a + S1x512.size a ≤ S8x512.size a := by decide
  have hl : ∀ b : Fin 8, ∀ a, (![b.val] : Fin S8.rank → ℕ) a + S1.size a ≤ S8.size a := by decide
  have h := cntRows_at i (wx (F := Ideal) W) (wy (F := Ideal) W) (fun b => btRow (F := Ideal) bt ![b.val, 0] (hr b)) (fun b => lenWord (F := Ideal) ln ![b.val] (hl b)) b c
  have e1 : ∀ x : Fin 512, btRow (F := Ideal) bt ![b.val, 0] (hr b) (ix2 (0 : Fin 1) x) = bt (ix2 b x) := fun x => by
    refine congrArg bt (funext fun a => ?_)
    match a with
    | ⟨0, _⟩ => exact Fin.ext (Nat.add_zero _)
    | ⟨1, _⟩ => exact Fin.ext (show 0 + 1 * x.val = x.val by omega)
  have e2 : lenWord (F := Ideal) ln ![b.val] (hl b) = ln (ix1 b) := by
    refine congrArg ln (funext fun a => ?_)
    match a with
    | ⟨0, _⟩ => exact Fin.ext (Nat.add_zero _)
  refine Eq.trans (b := cntRows (F := Ideal) i (wx (F := Ideal) W) (wy (F := Ideal) W) _ _ _ _ _ _ _ _ _ _ _ _ _ _ _ _ (ix2 b c)) ?_ (h.trans ?_)
  · rfl
  · show hits _ _ _ = hits _ _ _
    simp only [e1, e2]

end Cert.KProof
end
-- ==== Proof.Merge.lean ====
module

public import proofs.«01_k».proof.Proof.Talk
public import Idealize.ShloMosaic.Lib.Pointwise
public import Idealize.ShloMosaic.Lib.IdealHost

@[expose] public section

set_option maxRecDepth 16384

noncomputable section

namespace Cert.KProof

open Cert.KernelIdeal Cert.KernelIdeal.Gen
open Idealize.ShloMosaic

section
variable (M L M' L' : FVec Ideal S8x8 .f32) (A A' : FVec Ideal S8x8x128 .f32) (h b : Fin 8) (d : Fin 128)

/-- The maximum of two partial results. -/
theorem cmbM_at : cmbM (F := Ideal) M M' (ix2 h b) = max (M (ix2 h b)) (M' (ix2 h b)) := by
  pointwise [cmbM, exS, k0_pay7, k0_pay5, k0_pay6]

/-- The sum of weights of two partial results, both brought to the common maximum. -/
theorem cmbL_at : cmbL (F := Ideal) M L M' L' (ix2 h b)
    = L (ix2 h b) * Ideal.exp (M (ix2 h b) - max (M (ix2 h b)) (M' (ix2 h b)))
      + L' (ix2 h b) * Ideal.exp (M' (ix2 h b) - max (M (ix2 h b)) (M' (ix2 h b))) := by
  pointwise [cmbL, exS, k0_pay10, k0_pay8, k0_pay9, k0_pay7, k0_pay5, k0_pay6]

/-- The weighted sum of two partial results, both brought to the common maximum. -/
theorem cmbA_at : cmbA (F := Ideal) M A M' A' (ix3 h b d)
    = A (ix3 h b d) * Ideal.exp (M (ix2 h b) - max (M (ix2 h b)) (M' (ix2 h b)))
      + A' (ix3 h b d) * Ideal.exp (M' (ix2 h b) - max (M (ix2 h b)) (M' (ix2 h b))) := by
  pointwise [cmbA, cmbA1, exS, exA, k0_pay7, k0_pay14, k0_pay11, k0_pay12, k0_pay13, k0_pay8, k0_pay9, k0_pay5, k0_pay6]

/-- The result from two partial results: the merged weighted sum over the merged sum of weights. -/
theorem outOf_at : outOf (F := Ideal) M L A M' L' A' (ix4 b (0 : Fin 1) h d)
    = Ideal.div (cmbA (F := Ideal) M A M' A' (ix3 h b d)) (cmbL (F := Ideal) M L M' L' (ix2 h b)) := by
  rw [cmbA_at, cmbL_at]
  pointwise [outOf, exS, exA, k0_pay7, k0_pay1, k0_pay17, k0_pay18]
end

end Cert.KProof
end
-- ==== Proof.Blocks.lean ====
module

public import proofs.«01_k».proof.Proof.Region
public import proofs.«01_k».proof.Proof.Chunk
public import proofs.«01_k».proof.Proof.Counts
public import proofs.«01_k».proof.Proof.Merge

/-!
# What the blocks hold

Each block that a grid point reads, at an entry, by the whole array that the device keeps.
-/

@[expose] public section

set_option maxRecDepth 16384

noncomputable section

namespace Cert.KProof

open Cert.KernelIdeal Cert.KernelIdeal.Gen
open Idealize.ShloMosaic
open Idealize.ShloMosaic.TcCoe

variable {F : FTy → Type} [FloatOps F] [Named F]
variable (m : (ℓ : Loc nD τ sig) → Buf (Elt F) ℓ)

/-- The row of the device's own cache that a chunk's page `p` is. -/
def localRow (c : Dev nD) (t : Fin grid0.N) (p : Fin 64) : Fin 512 :=
  ⟨64 * (4 * (c.val / 2) + t.val) + p.val, by have := t.isLt; have : grid0.N = 4 := N_0; have := c.isLt; have : nD = 4 := rfl; omega⟩

/-- Every grid point reads the whole query array. -/
theorem qB_eq (c : Dev nD) (t : Fin grid0.N) : qB m c t = V1 m c main_arg0 := by
  funext i
  refine congrArg (V1 m c main_arg0) (funext fun a => Fin.ext ?_)
  have h : ∀ a : Fin 4, cc0_transform_0 (grid0.coords t) a = 0 := fun a => by match a with | 0 => rfl | 1 => rfl | 2 => rfl | 3 => rfl
  match a with
  | ⟨0, _⟩ => exact (show 0 + 1 * (i 0).val = (i 0).val by omega)
  | ⟨1, _⟩ => exact (show 0 + 1 * (i 1).val = (i 1).val by omega)
  | ⟨2, _⟩ => exact (show 0 + 1 * (i 2).val = (i 2).val by omega)
  | ⟨3, _⟩ => exact (show 0 + 1 * (i 3).val = (i 3).val by omega)

/-- Every grid point reads the whole page table. -/
theorem btB_eq (c : Dev nD) (t : Fin grid0.N) : btB m c t = V1 m c main_arg3 := by
  funext i
  refine congrArg (V1 m c main_arg3) (funext fun a => Fin.ext ?_)
  match a with
  | ⟨0, _⟩ => exact (show 0 + 1 * (i 0).val = (i 0).val by omega)
  | ⟨1, _⟩ => exact (show 0 + 1 * (i 1).val = (i 1).val by omega)

/-- The keys' block at an entry: a page of the device's own run of pages. -/
theorem kB_at (c : Dev nD) (t : Fin grid0.N) (p : Fin 64) (s : Fin 16) (h : Fin 8) (d : Fin 128) :
    kB m c t (ix4 p s h d) = V1 m c main_arg1 (ix4 (localRow c t p) s h d) := by
  refine congrArg (V1 m c main_arg1) (funext fun a => Fin.ext ?_)
  have e := map1_eq (tab m c) c (V1_xy m c) (grid0.coords t)
  match a with
  | ⟨0, _⟩ =>
    have e0 := congrFun e 0
    refine (show cc0_transform_1 inb_S2_S1_0 numel1_S1 (tab m c) (grid0.coords t) 0 * 64 + 1 * p.val = _ from ?_)
    rw [e0]
    show (4 * (c.val / 2) + (grid0.coords t 0).val) * 64 + 1 * p.val = 64 * (4 * (c.val / 2) + t.val) + p.val
    rw [coord]; omega
  | ⟨1, _⟩ => exact (show 0 + 1 * s.val = s.val by omega)
  | ⟨2, _⟩ => exact (show 0 + 1 * h.val = h.val by omega)
  | ⟨3, _⟩ => exact (show 0 + 1 * d.val = d.val by omega)

/-- The values' block at an entry: a page of the device's own run of pages. -/
theorem vB_at (c : Dev nD) (t : Fin grid0.N) (p : Fin 64) (s : Fin 16) (h : Fin 8) (d : Fin 128) :
    vB m c t (ix4 p s h d) = V1 m c main_arg2 (ix4 (localRow c t p) s h d) := by
  refine congrArg (V1 m c main_arg2) (funext fun a => Fin.ext ?_)
  have e := map2_eq (tab m c) c (V1_xy m c) (grid0.coords t)
  match a with
  | ⟨0, _⟩ =>
    have e0 := congrFun e 0
    refine (show cc0_transform_2 inb_S2_S1_0 numel1_S1 (tab m c) (grid0.coords t) 0 * 64 + 1 * p.val = _ from ?_)
    rw [e0]
    show (4 * (c.val / 2) + (grid0.coords t 0).val) * 64 + 1 * p.val = 64 * (4 * (c.val / 2) + t.val) + p.val
    rw [coord]; omega
  | ⟨1, _⟩ => exact (show 0 + 1 * s.val = s.val by omega)
  | ⟨2, _⟩ => exact (show 0 + 1 * h.val = h.val by omega)
  | ⟨3, _⟩ => exact (show 0 + 1 * d.val = d.val by omega)

/-- The first page of a chunk, of all 1024. -/
def firstPage (c : Dev nD) (t : ℕ) : ℕ := 512 * (c.val % 2) + 256 * (c.val / 2) + 64 * t

/-- The word for the first page of a chunk is that page's number. -/
theorem base_at (c : Dev nD) (t : Fin grid0.N) :
    baseWord (grid0.coords t) (wx (F := F) (xyTab c)) (wy (F := F) (xyTab c)) = BitVec.ofNat 32 (firstPage c t.val) := by
  rw [wx_xy, wy_xy]
  revert c t; decide

section Ideal
variable (m : (ℓ : Loc nD τ sig) → Buf (Elt Ideal) ℓ)

/-- The counts of a chunk by the number of the page. -/
theorem cntB_at (c : Dev nD) (t : Fin grid0.N) (b : Fin 8) (r : Fin 1024) :
    cntB m c t (ix2 b r) = hits (fun x => V1 m c main_arg3 (ix2 b x)) (V1 m c main_arg4 (ix1 b)) (BitVec.ofNat 32 (r.val / 16 + firstPage c t.val)) := by
  unfold cntB
  rw [cntVec_at, base_at, btB_eq, ← BitVec.ofNat_add]
  rfl

/-- What the accumulators start from. -/
theorem init_acc (i : S8x8x128.Idx) : k0_pay19 (F := Ideal) i = 0 := by
  pointwise [k0_pay19]

/-- The denominators start at zero. -/
theorem init_l (i : S8x8.Idx) : k0_pay21 (F := Ideal) i = 0 := by
  pointwise [k0_pay21]

/-- The running maximum starts from an ordinary number. -/
theorem init_m : ∃ M : ℝ, ∀ i : S8x8.Idx, k0_pay20 (F := Ideal) i = (M : EReal) := by
  have h : ∀ i : S8x8.Idx, k0_pay20 (F := Ideal) i = Ideal.ofBits .f32 0xF149F2CA#32 := fun i => by
    pointwise [k0_pay20]
  have h2 : ∃ M : ℝ, Ideal.ofBits .f32 0xF149F2CA#32 = (M : EReal) := by
    simp [Ideal.ofBits, Ideal.ieee]
    exact ⟨-(13234890 * 2 ^ 76), by rw [EReal.coe_neg, EReal.coe_mul, EReal.coe_pow]⟩
  exact h2.imp fun M hM i => (h i).trans hM

end Ideal
end Cert.KProof
end
-- ==== Proof.Soft.lean ====
module

public import Idealize.ShloMosaic.Lib.Pointwise
public import Idealize.ShloMosaic.Lib.IdealHost

/-!
# The softmax, abstractly

Tokens `k` with a real score `σ k`, a count `n k` and an extended-real value `v k`. A running softmax over a set of tokens keeps a reference
point, the sum of weights and the weighted sum relative to it. The values need not be finite: the weights are real and not negative, and such
a factor goes into any sum.
-/

@[expose] public section

noncomputable section

namespace Cert.KProof

open Idealize.ShloMosaic

section Soft
variable {κ : Type} [DecidableEq κ] (σ : κ → ℝ) (n : κ → ℕ) (v : κ → EReal)

/-- A real factor that is not negative goes into a sum of extended reals. -/
theorem coe_mul_sum {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (EReal.coe_nonneg.2 hr) (EReal.coe_ne_top _)]

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a difference of reals. -/
theorem exp_sub_coe (a b : ℝ) : Ideal.exp ((a : EReal) - (b : EReal)) = ((Real.exp (a - b) : ℝ) : EReal) := by
  rw [← EReal.coe_sub, Ideal.exp_coe]

/-- A running softmax over the tokens of `T`: the three parts relative to some real `M`. -/
def Rep (T : Finset κ) (m l a : EReal) : Prop :=
  ∃ M : ℝ, m = M ∧ l = ((∑ k ∈ T, Real.exp (σ k - M) * n k : ℝ) : EReal)
    ∧ a = ∑ k ∈ T, ((Real.exp (σ k - M) * n k : ℝ) : EReal) * v k

/-- The start: no tokens. -/
theorem rep_empty (M : ℝ) : Rep σ n v ∅ (M : EReal) 0 0 := ⟨M, rfl, by simp, by simp⟩

/-- Changing the reference point multiplies a weight by one factor. -/
theorem weight_shift (k : κ) (M R : ℝ) :
    Real.exp (σ k - M) * n k * Real.exp (M - R) = Real.exp (σ k - R) * n k := by
  rw [mul_right_comm, ← Real.exp_add]; congr 2; ring

/-- The sum of weights after the change. -/
theorem l_shift (T : Finset κ) (M R : ℝ) :
    ((∑ k ∈ T, Real.exp (σ k - M) * n k : ℝ) : EReal) * Ideal.exp ((M : EReal) - (R : EReal))
      = ((∑ k ∈ T, Real.exp (σ k - R) * n k : ℝ) : EReal) := by
  rw [exp_sub_coe, ← EReal.coe_mul, Finset.sum_mul]
  exact congrArg _ (Finset.sum_congr rfl fun k _ => weight_shift σ n k M R)

/-- The weighted sum after the change. -/
theorem a_shift (T : Finset κ) (M R : ℝ) :
    (∑ k ∈ T, ((Real.exp (σ k - M) * n k : ℝ) : EReal) * v k) * Ideal.exp ((M : EReal) - (R : EReal))
      = ∑ k ∈ T, ((Real.exp (σ k - R) * n k : ℝ) : EReal) * v k := by
  rw [exp_sub_coe, coe_mul_sum _ _ _ (Real.exp_nonneg _)]
  refine Finset.sum_congr rfl fun k _ => ?_
  rw [mul_right_comm, ← EReal.coe_mul, weight_shift]

/-- Two running softmaxes over disjoint sets, merged. -/
theorem Rep.merge {T U : Finset κ} (hd : Disjoint T U) {m l a m' l' a' : EReal}
    (h : Rep σ n v T m l a) (h' : Rep σ n v U m' l' a') :
    Rep σ n v (T ∪ U) (max m m') (l * Ideal.exp (m - max m m') + l' * Ideal.exp (m' - max m m'))
      (a * Ideal.exp (m - max m m') + a' * Ideal.exp (m' - max m m')) := by
  obtain ⟨M, rfl, rfl, rfl⟩ := h
  obtain ⟨M', rfl, rfl, rfl⟩ := h'
  refine ⟨max M M', (EReal.coe_strictMono.monotone.map_max).symm, ?_, ?_⟩
  · rw [← EReal.coe_strictMono.monotone.map_max, l_shift, l_shift, ← EReal.coe_add, Finset.sum_union hd]
  · rw [← EReal.coe_strictMono.monotone.map_max, a_shift, a_shift, Finset.sum_union hd]

/-- The largest of a real and finitely many reals is a real. -/
theorem max_fold_real {ι : Type} (s : Finset ι) (x : ι → ℝ) (M : ℝ) :
    ∃ R : ℝ, max (M : EReal) (s.fold max ⊥ fun i => (x i : EReal)) = R := by
  classical
  induction s using Finset.induction_on with
  | empty => exact ⟨M, by simp⟩
  | insert a s ha ih =>
    obtain ⟨R, hR⟩ := ih
    refine ⟨max (x a) R, ?_⟩
    rw [Finset.fold_insert ha, max_left_comm, hR]
    exact (EReal.coe_strictMono.monotone.map_max).symm

/-- One more chunk of tokens, in the kernel's form. -/
theorem Rep.chunk {ι : Type} [Fintype ι] (e : ι ↪ κ) {T : Finset κ} (hd : Disjoint T (Finset.univ.map e))
    {m l a : EReal} (h : Rep σ n v T m l a) (s c w : ι → EReal) (hs : ∀ r, s r = (σ (e r) : EReal))
    (hc : ∀ r, c r = ((n (e r) : ℝ) : EReal)) (hw : ∀ r, w r = v (e r)) (m' : EReal)
    (hm : m' = max m (Finset.univ.fold max ⊥ s)) :
    Rep σ n v (T ∪ Finset.univ.map e) m' (l * Ideal.exp (m - m') + ∑ r, Ideal.exp (s r - m') * c r)
      (a * Ideal.exp (m - m') + ∑ r, Ideal.exp (s r - m') * c r * w r) := by
  obtain ⟨M, rfl, rfl, rfl⟩ := h
  obtain rfl : s = fun r => (σ (e r) : EReal) := funext hs
  obtain ⟨R, hR⟩ := max_fold_real Finset.univ (fun r => σ (e r)) M
  obtain rfl := hm.trans hR
  refine ⟨R, rfl, ?_, ?_⟩
  · rw [l_shift, Finset.sum_union hd, EReal.coe_add, Finset.sum_map, coe_sum Finset.univ]
    refine congrArg _ (Finset.sum_congr rfl fun r _ => ?_)
    rw [exp_sub_coe, hc, EReal.coe_mul]
  · rw [a_shift, Finset.sum_union hd, Finset.sum_map]
    refine congrArg _ (Finset.sum_congr rfl fun r _ => ?_)
    rw [exp_sub_coe, hc, hw, EReal.coe_mul]

/-- A token's share of the softmax, counted `n` times. -/
def share [Fintype κ] (k : κ) : ℝ := Real.exp (σ k) * n k / ∑ k, Real.exp (σ k) * n k

/-- The shares do not depend on the reference point. -/
theorem share_shift [Fintype κ] (M : ℝ) (k : κ) :
    Real.exp (σ k - M) * n k / ∑ k, Real.exp (σ k - M) * n k = share σ n k := by
  have h : ∀ k, Real.exp (σ k - M) * n k = Real.exp (σ k) * n k * Real.exp (-M) := fun k => by
    rw [sub_eq_add_neg, Real.exp_add]; ring
  simp only [h, ← Finset.sum_mul, share]
  exact mul_div_mul_right _ _ (Real.exp_ne_zero _)

/-- The total weight is positive once some token is counted. -/
theorem total_pos [Fintype κ] (M : ℝ) (k₀ : κ) (hk : 0 < n k₀) : 0 < ∑ k, Real.exp (σ k - M) * n k :=
  Finset.sum_pos' (fun k _ => mul_nonneg (Real.exp_nonneg _) (Nat.cast_nonneg _))
    ⟨k₀, Finset.mem_univ _, mul_pos (Real.exp_pos _) (Nat.cast_pos.2 hk)⟩

/-- The quotient at the end: each value times its share. -/
theorem Rep.out [Fintype κ] {m l a : EReal} (h : Rep σ n v Finset.univ m l a) (k₀ : κ) (hk : 0 < n k₀) :
    Ideal.div a l = ∑ k, (share σ n k : EReal) * v k := by
  obtain ⟨M, rfl, rfl, rfl⟩ := h
  have hp := total_pos σ n M k₀ hk
  rw [Ideal.div_coe hp.ne', coe_mul_sum _ _ _ (one_div_nonneg.2 hp.le)]
  refine Finset.sum_congr rfl fun k _ => ?_
  rw [mul_right_comm, ← EReal.coe_mul, mul_one_div, share_shift]

end Soft

section Plain
variable {κ ι : Type} [DecidableEq κ] [Fintype κ] [Fintype ι] (σ : κ → ℝ) (v : κ → EReal)
  (live : ι → Prop) [DecidablePred live] (e : ι → κ)

/-- How many live entries name a token. -/
def times (k : κ) : ℕ := (Finset.univ.filter fun i => e i = k ∧ live i).card

/-- A sum over live entries, grouped by the token that they name. -/
theorem sum_times {M : Type} [AddCommMonoid M] (g : κ → M) :
    (∑ i, if live i then g (e i) else 0) = ∑ k, times live e k • g k := by
  have h : ∀ k, times live e k • g k = ∑ i, if e i = k ∧ live i then g k else 0 := fun k => by
    rw [times, ← Finset.sum_filter, Finset.sum_const]
  simp only [h]
  rw [Finset.sum_comm]
  refine Finset.sum_congr rfl fun i _ => ?_
  by_cases hl : live i
  · simp [hl]
  · simp [hl]

/-- The scores, those that are not live at the least value. -/
def masked (i : ι) : EReal := if live i then (σ (e i) : EReal) else ⊥

/-- The plain softmax over entries, its values weighted and summed, is the sum over tokens by share. -/
theorem plain_out (i₀ : ι) (h₀ : live i₀) (w : ι → EReal) (hw : ∀ i, w i = v (e i)) (m : EReal)
    (hm : m = Finset.univ.fold max ⊥ (masked σ live e)) :
    (∑ i, w i * Ideal.div (Ideal.exp (masked σ live e i - m)) (∑ i, Ideal.exp (masked σ live e i - m)))
      = ∑ k, (share σ (times live e) k : EReal) * v k := by
  obtain rfl : w = fun i => v (e i) := funext hw
  obtain ⟨M, rfl⟩ : ∃ M : ℝ, m = M := by
    have hlo : (σ (e i₀) : EReal) ≤ m := by
      rw [hm]
      exact (Finset.le_fold_max _).2 (Or.inr ⟨i₀, Finset.mem_univ _, by rw [masked, if_pos h₀]⟩)
    have hhi : m < ⊤ := by
      rw [hm]
      refine (Finset.fold_max_lt _).2 ⟨bot_lt_top, fun i _ => ?_⟩
      unfold masked; split
      · exact EReal.coe_lt_top _
      · exact bot_lt_top
    exact ⟨m.toReal, (EReal.coe_toReal hhi.ne (ne_of_gt (lt_of_lt_of_le (EReal.bot_lt_coe _) hlo))).symm⟩
  have hE : ∀ i, Ideal.exp (masked σ live e i - (M : EReal)) = ((if live i then Real.exp (σ (e i) - M) else 0 : ℝ) : EReal) := fun i => by
    unfold masked; split
    · exact exp_sub_coe _ _
    · rw [EReal.bot_sub]; rfl
  have hZ : (∑ i, if live i then Real.exp (σ (e i) - M) else 0) = ∑ k, Real.exp (σ k - M) * times live e k := by
    rw [sum_times live e fun k => Real.exp (σ k - M)]
    exact Finset.sum_congr rfl fun k _ => by rw [nsmul_eq_mul, mul_comm]
  have hpos : 0 < times live e (e i₀) := Finset.card_pos.2 ⟨i₀, by simp [h₀]⟩
  have hp := total_pos σ (times live e) M (e i₀) hpos
  simp only [hE, ← coe_sum, hZ, Ideal.div_coe hp.ne', ← EReal.coe_mul, mul_one_div]
  have hT : ∀ i, v (e i) * (((if live i then Real.exp (σ (e i) - M) else 0) / ∑ k, Real.exp (σ k - M) * times live e k : ℝ) : EReal)
      = if live i then v (e i) * ((Real.exp (σ (e i) - M) / ∑ k, Real.exp (σ k - M) * times live e k : ℝ) : EReal) else 0 := fun i => by
    split
    · rfl
    · simp
  simp only [hT]
  rw [sum_times live e fun k => v k * ((Real.exp (σ k - M) / ∑ k, Real.exp (σ k - M) * times live e k : ℝ) : EReal)]
  refine Finset.sum_congr rfl fun k _ => ?_
  rw [EReal.nsmul_eq_mul, ← share_shift σ (times live e) M k, mul_comm (v k), ← mul_assoc, mul_comm (Real.exp _), mul_div_assoc, EReal.coe_mul]
  rfl

end Plain
end Cert.KProof
end
-- ==== Proof.Fold.lean ====
module

public import proofs.«01_k».proof.Proof.Blocks
public import proofs.«01_k».proof.Proof.Soft

/-!
# What the kernel ends with

The chunks of one device fold the softmax over the device's own pages; the exchange along the first axis joins two devices' pages, the one
along the second joins all.
-/

@[expose] public section

set_option maxRecDepth 16384

noncomputable section

namespace Cert.KProof

open Cert.KernelIdeal Cert.KernelIdeal.Gen
open Idealize.ShloMosaic
open Idealize.ShloMosaic.TcCoe

/-- A key's place in the whole cache: its page and its slot. -/
abbrev Tok := Fin 1024 × Fin 16

/-- The keys of `n` pages from page `lo` on. -/
def pages (lo n : ℕ) : Finset Tok := Finset.univ.filter fun k => lo ≤ k.1.val ∧ k.1.val < lo + n

/-- When a token lies in a run of pages. -/
theorem mem_pages (lo n : ℕ) (k : Tok) : k ∈ pages lo n ↔ lo ≤ k.1.val ∧ k.1.val < lo + n := by
  simp [pages]

/-- The key that column `r` of a chunk is. -/
def keyOf (lo : ℕ) (hlo : lo + 64 ≤ 1024) : Fin 1024 ↪ Tok where
  toFun r := (⟨r.val / 16 + lo, by omega⟩, ⟨r.val % 16, by omega⟩)
  inj' r r' h := by
    have h1 := congrArg (fun k : Tok => k.1.val) h
    have h2 := congrArg (fun k : Tok => k.2.val) h
    simp only at h1 h2
    exact Fin.ext (by omega)

/-- A chunk's columns are the keys of its 64 pages. -/
theorem keys_chunk (lo : ℕ) (hlo : lo + 64 ≤ 1024) : Finset.univ.map (keyOf lo hlo) = pages lo 64 := by
  ext k
  rw [mem_pages, Finset.mem_map]
  constructor
  · rintro ⟨r, -, rfl⟩
    show lo ≤ r.val / 16 + lo ∧ r.val / 16 + lo < lo + 64
    omega
  · rintro ⟨h1, h2⟩
    have := k.2.isLt
    refine ⟨⟨16 * (k.1.val - lo) + k.2.val, by omega⟩, Finset.mem_univ _, Prod.ext (Fin.ext ?_) (Fin.ext ?_)⟩
    · show (16 * (k.1.val - lo) + k.2.val) / 16 + lo = k.1.val
      omega
    · show (16 * (k.1.val - lo) + k.2.val) % 16 = k.2.val
      omega

section
variable (m : (ℓ : Loc nD τ sig) → Buf (Elt Ideal) ℓ)

/-- Device `c`'s arrays are their parts of whole arrays: the caches its half of the pages, the others copies. -/
structure Placed (qG : S8x1x8x128.Idx → EReal) (KG VG : Fin 1024 → Fin 16 → Fin 8 → Fin 128 → EReal)
    (btG : S8x512.Idx → BitVec 32) (lnG : S8.Idx → BitVec 32) : Prop where
  q : ∀ c : Dev nD, (V1 m c main_arg0 : S8x1x8x128.Idx → EReal) = qG
  k : ∀ (c : Dev nD) (r : Fin 512) (s : Fin 16) (h : Fin 8) (d : Fin 128),
    (V1 m c main_arg1 : S512x16x8x128.Idx → EReal) (ix4 r s h d) = KG ⟨512 * (c.val % 2) + r.val, by omega⟩ s h d
  v : ∀ (c : Dev nD) (r : Fin 512) (s : Fin 16) (h : Fin 8) (d : Fin 128),
    (V1 m c main_arg2 : S512x16x8x128.Idx → EReal) (ix4 r s h d) = VG ⟨512 * (c.val % 2) + r.val, by omega⟩ s h d
  bt : ∀ c : Dev nD, (V1 m c main_arg3 : S8x512.Idx → BitVec 32) = btG
  ln : ∀ c : Dev nD, (V1 m c main_arg4 : S8.Idx → BitVec 32) = lnG

variable {qG : S8x1x8x128.Idx → EReal} {KG VG : Fin 1024 → Fin 16 → Fin 8 → Fin 128 → EReal}
  {btG : S8x512.Idx → BitVec 32} {lnG : S8.Idx → BitVec 32}
variable (P : Placed m qG KG VG btG lnG) (b h : Fin 8) (d : Fin 128) (σ : Tok → ℝ) (n : Tok → ℕ)
  (hσ : ∀ k : Tok, (∑ x, qG (ix4 b 0 h x) * KG k.1 k.2 h x) * (rs : EReal) = (σ k : EReal))
  (hn : ∀ k : Tok, hits (fun x => btG (ix2 b x)) (lnG (ix1 b)) (BitVec.ofNat 32 k.1.val) = ((n k : ℝ) : EReal))

include P hσ hn

/-- After `t` chunks a device's accumulators hold the softmax over the pages of those chunks. -/
theorem fold_rep (c : Dev nD) (t : ℕ) (ht : t ≤ 4) :
    Rep σ n (fun k => VG k.1 k.2 h d) (pages (firstPage c 0) (64 * t)) ((fold m c t).2.1 (ix2 h b)) ((fold m c t).2.2 (ix2 h b)) ((fold m c t).1 (ix3 h b d)) := by
  induction t with
  | zero =>
    obtain ⟨M, hM⟩ := init_m
    have e : pages (firstPage c 0) (64 * 0) = ∅ := by
      ext k; rw [mem_pages]; simp
    rw [e]
    show Rep σ n _ ∅ (k0_pay20 (F := Ideal) (ix2 h b)) (k0_pay21 (F := Ideal) (ix2 h b)) (k0_pay19 (F := Ideal) (ix3 h b d))
    rw [hM, init_l, init_acc]
    exact rep_empty _ _ _ M
  | succ t ih =>
    have hN : grid0.N = 4 := N_0
    have hc : c.val < 4 := c.isLt
    have hlt : t < grid0.N := by omega
    have hlo : firstPage c t + 64 ≤ 1024 := by unfold firstPage; omega
    have e : pages (firstPage c 0) (64 * (t + 1)) = pages (firstPage c 0) (64 * t) ∪ Finset.univ.map (keyOf (firstPage c t) hlo) := by
      rw [keys_chunk]
      ext k; rw [Finset.mem_union, mem_pages, mem_pages, mem_pages]; unfold firstPage; omega
    have hd : Disjoint (pages (firstPage c 0) (64 * t)) (Finset.univ.map (keyOf (firstPage c t) hlo)) := by
      rw [keys_chunk, Finset.disjoint_left]
      intro k; rw [mem_pages, mem_pages]; unfold firstPage; omega
    have hrow : ∀ p : Fin 64, (⟨512 * (c.val % 2) + (localRow c ⟨t, hlt⟩ p).val, by omega⟩ : Fin 1024) = ⟨p.val + firstPage c t, by omega⟩ := fun p => by
      refine Fin.ext ?_
      show 512 * (c.val % 2) + (64 * (4 * (c.val / 2) + t) + p.val) = p.val + (512 * (c.val % 2) + 256 * (c.val / 2) + 64 * t)
      omega
    rw [e, show fold m c (t + 1) = _ from fold_succ m c ⟨t, hlt⟩]
    show Rep σ n _ _ (stepM (F := Ideal) _ _ _ _) (stepL (F := Ideal) _ _ _ _ _ _) (stepA (F := Ideal) _ _ _ _ _ _ _)
    rw [stepL_at, stepA_at]
    refine Rep.chunk σ n _ (keyOf (firstPage c t) hlo) hd (ih (by omega)) (fun r => sco (qB m c ⟨t, hlt⟩) (kB m c ⟨t, hlt⟩) h b r)
      (fun r => cntB m c ⟨t, hlt⟩ (ix2 b r)) (fun r => vB m c ⟨t, hlt⟩ (ix4 ⟨r.val / 16, by omega⟩ ⟨r.val % 16, by omega⟩ h d)) ?_ ?_ ?_ _ ?_
    · intro r
      rw [← hσ]
      unfold sco
      refine congrArg (· * (rs : EReal)) (Finset.sum_congr rfl fun x _ => ?_)
      rw [qB_eq, kB_at, P.q, P.k, hrow]
      rfl
    · intro r
      show cntB m c ⟨t, hlt⟩ (ix2 b r) = _
      rw [cntB_at, ← hn, P.bt, P.ln]
      rfl
    · intro r
      show vB m c ⟨t, hlt⟩ (ix4 _ _ h d) = _
      rw [vB_at, P.v, hrow]
      rfl
    · exact stepM_at _ _ _ _ _

/-- After the exchange along the first axis a device holds the softmax over its half of the pages. -/
theorem half_rep (c : Dev nD) :
    Rep σ n (fun k => VG k.1 k.2 h d) (pages (512 * (c.val % 2)) 512) (cM (lM m) c (ix2 h b)) (cL (lM m) (lL m) c (ix2 h b)) (cA (lA m) (lM m) c (ix3 h b d)) := by
  have hc : c.val < 4 := c.isLt
  have hp2 : (px c).val % 2 = c.val % 2 := by show (c.val + 2) % 4 % 2 = _; omega
  have hp3 : (px c).val / 2 = 1 - c.val / 2 := by show (c.val + 2) % 4 / 2 = _; omega
  have hx : c.val / 2 < 2 := by omega
  have h1 := fold_rep m P b h d σ n hσ hn c 4 le_rfl
  have h2 := fold_rep m P b h d σ n hσ hn (px c) 4 le_rfl
  have e : pages (512 * (c.val % 2)) 512 = pages (firstPage c 0) (64 * 4) ∪ pages (firstPage (px c) 0) (64 * 4) := by
    ext k; rw [Finset.mem_union, mem_pages, mem_pages, mem_pages]; simp only [firstPage, hp2, hp3]; omega
  have hd : Disjoint (pages (firstPage c 0) (64 * 4)) (pages (firstPage (px c) 0) (64 * 4)) := by
    rw [Finset.disjoint_left]
    intro k; rw [mem_pages, mem_pages]; simp only [firstPage, hp2, hp3]; omega
  unfold cM cL cA
  rw [e, cmbM_at, cmbL_at, cmbA_at]
  exact h1.merge σ n _ hd h2

/-- After the exchange along the second axis: the values of the whole cache, each times its share. -/
theorem out_at (c : Dev nD) (k₀ : Tok) (hk : 0 < n k₀) :
    (outV m c : S8x1x8x128.Idx → EReal) (ix4 b (0 : Fin 1) h d) = ∑ k : Tok, (share σ n k : EReal) * VG k.1 k.2 h d := by
  have hc : c.val < 4 := c.isLt
  have hp : (py c).val = 2 * (c.val / 2) + (c.val + 1) % 2 := rfl
  have h1 := half_rep m P b h d σ n hσ hn c
  have h2 := half_rep m P b h d σ n hσ hn (py c)
  have e : Finset.univ = pages (512 * (c.val % 2)) 512 ∪ pages (512 * ((py c).val % 2)) 512 := by
    ext k; rw [Finset.mem_union, mem_pages, mem_pages, hp]
    have := k.1.isLt
    simp only [Finset.mem_univ, true_iff]
    omega
  have hd : Disjoint (pages (512 * (c.val % 2)) 512) (pages (512 * ((py c).val % 2)) 512) := by
    rw [Finset.disjoint_left]
    intro k; rw [mem_pages, mem_pages, hp]; omega
  have h3 := h1.merge σ n _ hd h2
  rw [← e] at h3
  unfold outV cOut
  rw [outOf_at, cmbA_at, cmbL_at]
  exact h3.out σ n _ k₀ hk

end
end Cert.KProof
end
-- ==== Proof.Pre.lean ====
module

public import proofs.«01_k».proof.Pre_inputs_tame_KernelIdeal
public import proofs.«01_k».proof.Pre_inputs_tame_ReferenceIdeal
public import Idealize.ShloMosaic.Lib.Pointwise
public import Idealize.ShloMosaic.Lib.IdealHost
public import Idealize.ShloMosaic.Lib.ReduceAll

/-!
# What the precondition says

Queries and keys are real numbers, live entries of the page table name pages, and every length is at least one.
-/

@[expose] public section

set_option maxRecDepth 16384

noncomputable section

namespace Cert.KProof

open Idealize.ShloMosaic

/-- The side conditions of the precondition at a device's arrays. -/
theorem preFactsK : Cert.Pre_inputs_tame_KernelIdeal.Facts where
  bcast_S8_S8x1_0 := by decide
  bcast_S8x1_S8x512_0_1 := by decide
  bcast_S_S8x1x8x128 := by decide
  reducesTo_S8x1x8x128_S_d0_1_2_3 := by decide
  h_S_ := by decide
  bcast_S_S512x16x8x128 := by decide
  reducesTo_S512x16x8x128_S_d0_1_2_3 := by decide
  bcast_S_S8x512 := by decide
  reducesTo_S8x512_S_d0_1 := by decide
  bcast_S_S8 := by decide
  reducesTo_S8_S_d0 := by decide

/-- The side conditions of the precondition at the whole arrays. -/
theorem preFactsR : Cert.Pre_inputs_tame_ReferenceIdeal.Facts where
  bcast_S8_S8x1_0 := by decide
  bcast_S8x1_S8x512_0_1 := by decide
  bcast_S_S8x1x8x128 := by decide
  reducesTo_S8x1x8x128_S_d0_1_2_3 := by decide
  h_S_ := by decide
  bcast_S_S1024x16x8x128 := by decide
  reducesTo_S1024x16x8x128_S_d0_1_2_3 := by decide
  bcast_S_S8x512 := by decide
  reducesTo_S8x512_S_d0_1 := by decide
  bcast_S_S8 := by decide
  reducesTo_S8_S_d0 := by decide

/-- The word of an entry's place, compared with a length. -/
theorem place_word (j : Fin 512) (w : BitVec 32) :
    IntOp.cmpi .slt (BitVec.ofNat 32 j.val) w = if (j.val : ℤ) < w.toInt then 1#1 else 0#1 := by
  have hj : (BitVec.ofNat 32 j.val).toInt = j.val := by
    have hn : (BitVec.ofNat 32 j.val).toNat = j.val := by rw [BitVec.toNat_ofNat]; exact Nat.mod_eq_of_lt (by omega)
    rw [BitVec.toInt_eq_toNat_of_lt (by omega), hn]
  show BitVec.ofBool ((BitVec.ofNat 32 j.val).slt w) = _
  rw [BitVec.slt_eq_decide, hj]
  by_cases h : (j.val : ℤ) < w.toInt <;> simp [h]

/-- A comparison that answers one, as the order of the integers. -/
theorem sge_word {a b : BitVec 32} (h : IntOp.cmpi .sge a b = 1#1) : b.toInt ≤ a.toInt := by
  by_contra hn
  have h' : BitVec.ofBool (b.sle a) = 1#1 := h
  rw [BitVec.sle_eq_decide, decide_eq_false hn] at h'
  exact absurd h' (by decide)

/-- A signed comparison of words that holds, as one of integers. -/
theorem slt_word {a b : BitVec 32} (h : IntOp.cmpi .slt a b = 1#1) : a.toInt < b.toInt := by
  by_contra hn
  have h' : BitVec.ofBool (a.slt b) = 1#1 := h
  rw [BitVec.slt_eq_decide, decide_eq_false hn] at h'
  exact absurd h' (by decide)

/-- The second part of a disjunction whose first part fails. -/
theorem or_zero (x : BitVec 1) (h : IntOp.ori (~~~1#1) x = 1#1) : x = 1#1 := by
  revert h; revert x; decide

/-- An extended real whose absolute value is below the infinity is a real. -/
theorem real_of_abs (a : EReal) (h : FloatOps.cmpf (F := Ideal) (φ := .bf16) .olt (FloatOps.absf a) (Ideal.ofBits .bf16 0x7F80#16) = 1#1) :
    ∃ r : ℝ, a = r := by
  have ht : Ideal.ofBits .bf16 0x7F80#16 = ⊤ := by simp [Ideal.ofBits, Ideal.ieee]
  rw [ht, Ideal.cmpf_def] at h
  have hlt : max a (-a) < ⊤ := by
    by_contra hn
    have : Ideal.cmp .olt (max a (-a)) ⊤ = 0#1 := by simp only [Ideal.cmp, decide_eq_false hn]; rfl
    rw [show Ideal.cmp .olt (max a (-a)) ⊤ = 1#1 from h] at this
    exact absurd this (by decide)
  induction a using EReal.rec with
  | bot => simp at hlt
  | top => simp at hlt
  | coe r => exact ⟨r, rfl⟩

section
attribute [local instance] preFactsK
open Cert.Pre_inputs_tame_KernelIdeal

/-- The precondition, read at the entries. -/
theorem pre_read (a0 : FVec Ideal S8x1x8x128 .bf16) (a1 a2 : FVec Ideal S512x16x8x128 .bf16) (a3 : IVec S8x512 32) (a4 : IVec S8 32)
    (hp : Cert.Pre_inputs_tame_KernelIdeal.fn (F := Ideal) a0 a1 a2 a3 a4 = fun _ => 1#1) :
    (∀ i, ∃ r : ℝ, a0 i = (r : EReal)) ∧ (∀ i, ∃ r : ℝ, a1 i = (r : EReal))
      ∧ (∀ (b : Fin 8) (j : Fin 512), (j.val : ℤ) < (a4 (ix1 b)).toInt → 0 ≤ (a3 (ix2 b j)).toInt ∧ (a3 (ix2 b j)).toInt < 1024)
      ∧ ∀ b : Fin 8, 1 ≤ (a4 (ix1 b)).toInt := by
  have hs : Subsingleton S_.Idx := ⟨fun i j => funext fun a => a.elim0⟩
  have e := congrFun hp ix0
  obtain ⟨e, e4⟩ := IntOp.andi_eq_one.1 (show IntOp.andi _ _ = 1#1 from e)
  obtain ⟨e, e3⟩ := IntOp.andi_eq_one.1 (show IntOp.andi _ _ = 1#1 from e)
  obtain ⟨e1, e2⟩ := IntOp.andi_eq_one.1 (show IntOp.andi _ _ = 1#1 from e)
  refine ⟨fun i => ?_, fun i => ?_, fun b j hj => ?_, fun b => ?_⟩
  · exact real_of_abs _ (Host.reduce_andi_all _ _ _ _ _ e1 i)
  · exact real_of_abs _ (Host.reduce_andi_all _ _ _ _ _ e2 i)
  · have h := Host.reduce_andi_all _ _ _ _ _ e3 (ix2 b j)
    revert h
    pointwise []
    rw [place_word, if_pos hj]
    intro h
    obtain ⟨h1, h2⟩ := IntOp.andi_eq_one.1 (or_zero _ h)
    exact ⟨sge_word h1, slt_word h2⟩
  · have h := Host.reduce_andi_all _ _ _ _ _ e4 (ix1 b)
    revert h
    pointwise []
    intro h
    exact sge_word h
end

end Cert.KProof
end
-- ==== Proof.RefValue.lean ====
module

public import proofs.«01_k».proof.Proof.Gen.ReferenceIdeal.Run
public import proofs.«01_k».proof.Proof.Pre
public import Idealize.ShloMosaic.Lib.Pointwise
public import Idealize.ShloMosaic.Lib.IdealHost

/-!
# What the reference ends with

The reference's result in layers, and each layer at an entry.
-/

@[expose] public section

set_option maxRecDepth 16384

noncomputable section

namespace Cert.KProof

open Cert.ReferenceIdeal Cert.ReferenceIdeal.Gen
open Idealize.ShloMosaic
open Idealize.ShloMosaic.TcCoe

section Layers
variable (q : FVec Ideal S8x1x8x128 .bf16) (K V : FVec Ideal S1024x16x8x128 .bf16) (bt : IVec S8x512 32) (ln : IVec S8 32)

/-- The page table's entries as the gather reads them: a negative one counts from the end. -/
def rIdx : IVec S8x512x1 32 :=
  broadcastInDim S8x512x1 ![0, 1] bcast_S8x512_S8x512x1_0_1 (select (cmpi .slt bt (broadcastInDim S8x512 ![] bcast_S_S8x512 (constantI S_ 32 0#32))) (addi bt (broadcastInDim S8x512 ![] bcast_S_S8x512 (constantI S_ 32 1024#32))) bt)

/-- The pages that the table names. -/
def rGat (X : FVec Ideal S1024x16x8x128 .bf16) : FVec Ideal S8x512x16x8x128 .f32 :=
  Host.gather gather_S1024x16x8x128_S8x512x1_S8x512x16x8x128_234_0_n_n_0_2_1168128 (extf .f32 X bitsLt_bf16_f32) (rIdx bt)

/-- The scores, those of entries past the length replaced by the least value. -/
def rS : FVec Ideal S8x8x1x512x16 .f32 :=
  select (cmpi .slt (iotaInDim S8x8x1x512x16 32 3) (broadcastInDim S8x8x1x512x16 ![0, 1, 2, 3, 4] bcast_S8x1x1x1x1_S8x8x1x512x16_0_1_2_3_4 (broadcastInDim S8x1x1x1x1 ![0] bcast_S8_S8x1x1x1x1_0 ln))) (Host.divf (Host.dotGeneral dot_S8x1x8x128_S8x512x16x8x128_S8x8x1x512x16_3_4_1_12_02_03 none (extf .f32 q bitsLt_bf16_f32) (rGat bt K)) (broadcastInDim S8x8x1x512x16 ![] bcast_S_S8x8x1x512x16 (Host.sqrt (constant S_ .f32 0x43000000#32)))) (broadcastInDim S8x8x1x512x16 ![] bcast_S_S8x8x1x512x16 (id (constant S_ .f32 0xFF800000#32)))

/-- The largest score of a row. -/
def rM : FVec Ideal S8x8x1 .f32 :=
  Host.reduce FloatOps.maximumf (rS q K bt ln) (constant S_ .f32 0xFF800000#32) reducesTo_S8x8x1x512x16_S8x8x1_d3_4 h_S_

/-- A value per row, over the whole row. -/
def rBc (x : FVec Ideal S8x8x1 .f32) : FVec Ideal S8x8x1x512x16 .f32 :=
  broadcastInDim S8x8x1x512x16 ![0, 1, 2, 3, 4] bcast_S8x8x1x1x1_S8x8x1x512x16_0_1_2_3_4 (broadcastInDim S8x8x1x1x1 ![0, 1, 2] bcast_S8x8x1_S8x8x1x1x1_0_1_2 x)

/-- The exponentials of the scores less the largest. -/
def rE : FVec Ideal S8x8x1x512x16 .f32 := Host.exp (subf (rS q K bt ln) (rBc (rM q K bt ln)))

/-- The weights. -/
def rW : FVec Ideal S8x8x1x512x16 .f32 :=
  Host.divf (rE q K bt ln) (rBc (Host.reduceAdd (rE q K bt ln) (constant S_ .f32 0x00000000#32) reducesTo_S8x8x1x512x16_S8x8x1_d3_4 h_S_))

/-- The reference's result. -/
def rOut : FVec Ideal S8x1x8x128 .f32 :=
  transpose S8x1x8x128 [0, 3, 1, 2] (Host.dotGeneral dot_S8x512x16x8x128_S8x8x1x512x16_S8x8x128x1_12_34_4_2_03_01 none (rGat bt V) (rW q K bt ln)) transposes_S8x8x128x1_S8x1x8x128_0_3_1_2

/-- The row of the cache that an entry names. -/
def rowOf (w : BitVec 32) : Fin 1024 := ⟨min (Scalar.select (IntOp.cmpi .slt w 0#32) (IntOp.addi w 1024#32) w).toInt.toNat 1023, by omega⟩

/-- The reference's index word at a table entry. -/
theorem rIdx_at (b : Fin 8) (j : Fin 512) :
    rIdx bt (ix3 b j (0 : Fin 1)) = Scalar.select (IntOp.cmpi .slt (bt (ix2 b j)) 0#32) (IntOp.addi (bt (ix2 b j)) 1024#32) (bt (ix2 b j)) := by
  pointwise [rIdx]

/-- The gathered array at an entry: the row of the page that the table names. -/
theorem rGat_at (X : FVec Ideal S1024x16x8x128 .bf16) (b : Fin 8) (j : Fin 512) (s : Fin 16) (h : Fin 8) (d : Fin 128) :
    rGat bt X (ix5 b j s h d) = X (ix4 (rowOf (bt (ix2 b j))) s h d) := by
  unfold rGat Host.gather
  refine congrArg X (funext fun a => Fin.ext ?_)
  set D := gather_S1024x16x8x128_S8x512x1_S8x512x16x8x128_234_0_n_n_0_2_1168128
  set y : S8x512x16x8x128.Idx := ix5 b j s h d
  show D.start y (rIdx bt) a + D.batchCoord y a + D.offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S1024x16x8x128.rank) ∈ D.startIndexMap from List.mem_singleton.mpr rfl)]
    have hsi : D.siIdx y ⟨List.idxOf (⟨0, by decide⟩ : Fin S1024x16x8x128.rank) D.startIndexMap, List.idxOf_lt_length_iff.2 (List.mem_singleton.mpr rfl)⟩ = ix3 b j (0 : Fin 1) := by
      funext b; refine Fin.ext ?_
      match b with
      | ⟨0, _⟩ => rfl
      | ⟨1, _⟩ => rfl
      | ⟨2, _⟩ => rfl
    rw [hsi, rIdx_at]
    rfl
  | ⟨1, _⟩ =>
    unfold GatherDims.start GatherDims.offCoord
    rw [dif_neg (by decide +revert), dif_pos (by decide +revert)]
    exact Nat.zero_add _
  | ⟨2, _⟩ =>
    unfold GatherDims.start GatherDims.offCoord
    rw [dif_neg (by decide +revert), dif_pos (by decide +revert)]
    exact Nat.zero_add _
  | ⟨3, _⟩ =>
    unfold GatherDims.start GatherDims.offCoord
    rw [dif_neg (by decide +revert), dif_pos (by decide +revert)]
    exact Nat.zero_add _

/-- An entry in range names its own row. -/
theorem rowOf_val (w : BitVec 32) (h0 : 0 ≤ w.toInt) (h1 : w.toInt < 1024) : (rowOf w).val = w.toNat := by
  have hn : w.toInt.toNat = w.toNat := by
    have := BitVec.toInt_eq_toNat_cond (x := w)
    split at this <;> omega
  have hs : IntOp.cmpi .slt w 0#32 = 0#1 := by
    show BitVec.ofBool (w.slt 0#32) = _
    rw [BitVec.slt_eq_decide, decide_eq_false (by simpa using h0)]
    rfl
  show min (Scalar.select (IntOp.cmpi .slt w 0#32) (IntOp.addi w 1024#32) w).toInt.toNat 1023 = _
  rw [hs]
  show min w.toInt.toNat 1023 = _
  omega

/-- The word of minus infinity. -/
theorem ofBits_ninf : Ideal.ofBits .f32 4286578688#32 = ⊥ := by simp [Ideal.ofBits, Ideal.ieee]

/-- The word of 128. -/
theorem ofBits_128 : Ideal.ofBits .f32 1124073472#32 = ((128 : ℝ) : EReal) := by
  simp [Ideal.ofBits, Ideal.ieee]
  rw [← EReal.coe_mul]
  norm_num

/-- The score of one token of the row, over `√128`. -/
def rSco (b h : Fin 8) (i : Fin 512 × Fin 16) : EReal :=
  if (i.1.val : ℤ) < (ln (ix1 b)).toInt then (∑ x, q (ix4 b 0 h x) * K (ix4 (rowOf (bt (ix2 b i.1))) i.2 h x)) * (((Real.sqrt 128)⁻¹ : ℝ) : EReal) else ⊥

/-- The reference's masked score at an entry. -/
theorem rS_at (b h : Fin 8) (i : Fin 512 × Fin 16) :
    rS q K bt ln (ix5 b h (0 : Fin 1) i.1 i.2) = rSco q K bt ln b h i := by
  pointwise [rS]
  simp only [rGat_at]
  have hs : (Real.sqrt 128) ≠ 0 := (Real.sqrt_pos.2 (by norm_num)).ne'
  rw [place_word, ofBits_128, Ideal.sqrt_coe, if_neg (show ¬ (128 : ℝ) < 0 by norm_num), Ideal.div_coe hs, one_div, rSco]
  by_cases h : (i.1.val : ℤ) < (ln (ix1 b)).toInt
  · rw [if_pos h, if_pos h]; rfl
  · rw [if_neg h, if_neg h]
    show Ideal.ofBits .f32 4286578688#32 = ⊥
    exact ofBits_ninf

/-- The entries that a row's reduction takes together. -/
theorem row_filter (b h : Fin 8) :
    (Finset.univ.filter fun i : S8x8x1x512x16.Idx => reducesTo_S8x8x1x512x16_S8x8x1_d3_4.drop i = ix3 b h (0 : Fin 1))
      = Finset.univ.map ⟨fun p : Fin 512 × Fin 16 => (ix5 b h (0 : Fin 1) p.1 p.2 : S8x8x1x512x16.Idx), fun p q hpq => by
          have h3 := congrFun hpq (3 : Fin 5); have h4 := congrFun hpq (4 : Fin 5)
          exact Prod.ext h3 h4⟩ := by
  ext i
  simp only [Finset.mem_filter, Finset.mem_univ, true_and, Finset.mem_map, Function.Embedding.coeFn_mk]
  constructor
  · intro hi
    have h0 := (Shape.ReducesTo.drop_apply_val reducesTo_S8x8x1x512x16_S8x8x1_d3_4 i (0 : Fin 3)).symm.trans (congrArg Fin.val (congrFun hi (0 : Fin 3)))
    have h1 := (Shape.ReducesTo.drop_apply_val reducesTo_S8x8x1x512x16_S8x8x1_d3_4 i (1 : Fin 3)).symm.trans (congrArg Fin.val (congrFun hi (1 : Fin 3)))
    refine ⟨(i (3 : Fin 5), i (4 : Fin 5)), funext fun a => Fin.ext ?_⟩
    match a with
    | ⟨0, _⟩ => exact h0.symm
    | ⟨1, _⟩ => exact h1.symm
    | ⟨2, _⟩ => exact (Nat.lt_one_iff.1 (i (2 : Fin 5)).isLt).symm
    | ⟨3, _⟩ => rfl
    | ⟨4, _⟩ => rfl
  · rintro ⟨p, rfl⟩
    funext a
    refine Fin.ext ((Shape.ReducesTo.drop_apply_val reducesTo_S8x8x1x512x16_S8x8x1_d3_4 _ a).trans ?_)
    match a with
    | ⟨0, _⟩ => rfl
    | ⟨1, _⟩ => rfl
    | ⟨2, _⟩ => rfl

/-- The largest score of a row. -/
def rMx (b h : Fin 8) : EReal := Finset.univ.fold max ⊥ (rSco q K bt ln b h)

/-- The reference's maximum at an entry. -/
theorem rM_at (b h : Fin 8) :
    rM q K bt ln (ix3 b h (0 : Fin 1)) = rMx q K bt ln b h := by
  pointwise [rM]
  rw [row_filter, Finset.fold_map, ofBits_ninf]
  exact Finset.fold_congr fun i _ => rS_at q K bt ln b h i

/-- The reference's exponential at an entry. -/
theorem rE_at (b h : Fin 8) (i : Fin 512 × Fin 16) :
    rE q K bt ln (ix5 b h (0 : Fin 1) i.1 i.2) = Ideal.exp (rSco q K bt ln b h i - rMx q K bt ln b h) := by
  pointwise [rE, rBc]
  rw [rS_at, rM_at]

/-- The reference's weight at an entry. -/
theorem rW_at (b h : Fin 8) (i : Fin 512 × Fin 16) :
    rW q K bt ln (ix5 b h (0 : Fin 1) i.1 i.2)
      = Ideal.div (Ideal.exp (rSco q K bt ln b h i - rMx q K bt ln b h)) (∑ i, Ideal.exp (rSco q K bt ln b h i - rMx q K bt ln b h)) := by
  pointwise [rW, rBc]
  rw [rE_at]
  refine congrArg _ ?_
  show (0 : EReal) + _ = _
  rw [zero_add, row_filter, Finset.sum_map]
  exact Finset.sum_congr rfl fun i _ => rE_at q K bt ln b h i

/-- The reference's result at one place. -/
theorem rOut_at (b h : Fin 8) (d : Fin 128) :
    rOut q K V bt ln (ix4 b (0 : Fin 1) h d)
      = ∑ i : Fin 512 × Fin 16, V (ix4 (rowOf (bt (ix2 b i.1))) i.2 h d)
          * Ideal.div (Ideal.exp (rSco q K bt ln b h i - rMx q K bt ln b h)) (∑ i, Ideal.exp (rSco q K bt ln b h i - rMx q K bt ln b h)) := by
  pointwise [rOut]
  rw [Fintype.sum_prod_type]
  refine Finset.sum_congr rfl fun j _ => Finset.sum_congr rfl fun s _ => ?_
  rw [rGat_at, ← rW_at q K bt ln b h (j, s)]

end Layers

/-- The printed result is the layers. -/
theorem res_layers (m : (ℓ : Loc nD τ sig) → Buf (Elt Ideal) ℓ) (c : Dev nD) :
    Cert.ReferenceIdeal.Value.res_main_v36 (F := Ideal) m c
      = rOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rfl

end Cert.KProof
end
-- ==== Proof.Equation.lean ====
module

public import proofs.«01_k».proof.Proof.Fold
public import proofs.«01_k».proof.Proof.RefValue

/-!
# The two results are one

The kernel's result is the values of the cache by their shares, counted as often as the page table names their page; so is the reference's,
whose sum over the entries of the page table is grouped by the page.
-/

@[expose] public section

set_option maxRecDepth 16384

noncomputable section

namespace Cert.KProof

open Cert.KernelIdeal Cert.KernelIdeal.Gen
open Idealize.ShloMosaic
open Idealize.ShloMosaic.TcCoe

/-- A device's part of a cache, at an entry: the half of the pages that its second coordinate names. -/
theorem block_at (X : Cert.ReferenceIdeal.S1024x16x8x128.Idx → EReal) (c : Dev nD) (r : Fin 512) (s : Fin 16) (h : Fin 8) (d : Fin 128) :
    (Layout.blockN ⟨4, ![512, 16, 8, 128]⟩ ⟨4, ![1024, 16, 8, 128]⟩ (Layout.meshBlock [2, 2] ![[1], [], [], []] c) X) (ix4 r s h d)
      = X (ix4 ⟨512 * (c.val % 2) + r.val, by omega⟩ s h d) := by
  have hm : Layout.meshLin [2, 2] c.val [1] = c.val % 2 := by revert c; decide
  rw [Layout.blockN_apply]
  refine congrArg X (funext fun a => Fin.ext ((Layout.TilesN.idx_val _ _ _ a).trans ?_))
  match a with
  | ⟨0, _⟩ =>
    show Layout.meshLin [2, 2] c.val [1] * 512 + r.val = 512 * (c.val % 2) + r.val
    rw [hm]; omega
  | ⟨1, _⟩ => exact (show 0 * 16 + s.val = s.val by omega)
  | ⟨2, _⟩ => exact (show 0 * 8 + h.val = h.val by omega)
  | ⟨3, _⟩ => exact (show 0 * 128 + d.val = d.val by omega)

section
variable (bt : S8x512.Idx → BitVec 32) (ln : S8.Idx → BitVec 32)

/-- Whether an entry of a row of the page table is within the row's length. -/
def Live (b : Fin 8) (i : Fin 512 × Fin 16) : Prop := (i.1.val : ℤ) < (ln (ix1 b)).toInt

instance (b : Fin 8) : DecidablePred (Live ln b) := fun _ => inferInstanceAs (Decidable (_ < _))

/-- The key that an entry of the page table names. -/
def named (b : Fin 8) (i : Fin 512 × Fin 16) : Tok := (rowOf (bt (ix2 b i.1)), i.2)

/-- The kernel's count of a page is how often the entries name each of its keys. -/
theorem hits_times (b : Fin 8)
    (hr : ∀ j : Fin 512, (j.val : ℤ) < (ln (ix1 b)).toInt → 0 ≤ (bt (ix2 b j)).toInt ∧ (bt (ix2 b j)).toInt < 1024) (k : Tok) :
    hits (fun x => bt (ix2 b x)) (ln (ix1 b)) (BitVec.ofNat 32 k.1.val) = ((times (Live ln b) (named bt b) k : ℝ) : EReal) := by
  have hw : ∀ j : Fin 512, (j.val : ℤ) < (ln (ix1 b)).toInt → (bt (ix2 b j) = BitVec.ofNat 32 k.1.val ↔ rowOf (bt (ix2 b j)) = k.1) := fun j hj => by
    obtain ⟨h0, h1⟩ := hr j hj
    have hv := rowOf_val _ h0 h1
    have hk : (BitVec.ofNat 32 k.1.val).toNat = k.1.val := by rw [BitVec.toNat_ofNat]; exact Nat.mod_eq_of_lt (by omega)
    constructor
    · intro e; refine Fin.ext (hv.trans ?_); rw [e, hk]
    · intro e; refine BitVec.eq_of_toNat_eq ?_; rw [hk, ← hv, e]
  unfold hits
  rw [← Finset.natCast_card_filter, EReal.coe_natCast, times]
  refine congrArg _ (Finset.card_bij (fun j _ => (j, k.2)) ?_ ?_ ?_)
  · intro j hj
    obtain ⟨hj1, hj2⟩ := (Finset.mem_filter.1 hj).2
    exact Finset.mem_filter.2 ⟨Finset.mem_univ _, Prod.ext ((hw j hj2).1 hj1) rfl, hj2⟩
  · intro j _ j' _ e; exact congrArg Prod.fst e
  · intro i hi
    obtain ⟨hi1, hi2⟩ := (Finset.mem_filter.1 hi).2
    refine ⟨i.1, Finset.mem_filter.2 ⟨Finset.mem_univ _, (hw i.1 hi2).2 (congrArg Prod.fst hi1), hi2⟩, Prod.ext rfl ?_⟩
    exact (congrArg Prod.snd hi1).symm

end

variable (m : (ℓ : Loc nD τ sig) → Buf (Elt Ideal) ℓ)

/-- What every device ends with is the reference's result. -/
theorem out_eq (q : Cert.ReferenceIdeal.S8x1x8x128.Idx → EReal) (K V : Cert.ReferenceIdeal.S1024x16x8x128.Idx → EReal)
    (bt : Cert.ReferenceIdeal.S8x512.Idx → BitVec 32) (ln : Cert.ReferenceIdeal.S8.Idx → BitVec 32)
    (P : Placed m q (fun p s h d => K (ix4 p s h d)) (fun p s h d => V (ix4 p s h d)) bt ln)
    (hq : ∀ i, ∃ r : ℝ, q i = (r : EReal)) (hK : ∀ i, ∃ r : ℝ, K i = (r : EReal))
    (hr : ∀ (b : Fin 8) (j : Fin 512), (j.val : ℤ) < (ln (ix1 b)).toInt → 0 ≤ (bt (ix2 b j)).toInt ∧ (bt (ix2 b j)).toInt < 1024)
    (hl : ∀ b : Fin 8, 1 ≤ (ln (ix1 b)).toInt) (c : Dev nD) :
    (outV m c : S8x1x8x128.Idx → EReal) = rOut q K V bt ln := by
  choose rq hrq using hq
  choose rk hrk using hK
  funext i
  obtain ⟨b, h, d, rfl⟩ : ∃ (b h : Fin 8) (d : Fin 128), i = ix4 b (0 : Fin 1) h d := by
    refine ⟨i 0, i 2, i 3, funext fun a => ?_⟩
    match a with
    | ⟨0, _⟩ => rfl
    | ⟨1, _⟩ => exact Fin.ext (Nat.lt_one_iff.1 (i 1).isLt)
    | ⟨2, _⟩ => rfl
    | ⟨3, _⟩ => rfl
  let σ : Tok → ℝ := fun k => (∑ x, rq (ix4 b 0 h x) * rk (ix4 k.1 k.2 h x)) * rs
  have hσ : ∀ k : Tok, (∑ x, q (ix4 b 0 h x) * K (ix4 k.1 k.2 h x)) * (rs : EReal) = (σ k : EReal) := fun k => by
    simp only [σ, hrq, hrk, ← EReal.coe_mul, ← coe_sum]
  have h₀ : Live ln b (0, 0) := by
    show ((0 : ℕ) : ℤ) < _
    have := hl b
    omega
  have hk : 0 < times (Live ln b) (named bt b) (named bt b (0, 0)) := Finset.card_pos.2 ⟨(0, 0), by simp [h₀]⟩
  rw [out_at m P b h d σ _ hσ (hits_times bt ln b (hr b)) c _ hk]
  have hS : rSco q K bt ln b h = masked σ (Live ln b) (named bt b) := by
    funext i
    unfold rSco masked
    refine if_congr Iff.rfl ?_ rfl
    exact hσ (named bt b i)
  rw [rOut_at, rMx, hS]
  exact (plain_out σ (fun k => V (ix4 k.1 k.2 h d)) (Live ln b) (named bt b) (0, 0) h₀ _ (fun i => rfl) _ rfl).symm

end Cert.KProof
end
-- ==== Proof.Agree.lean ====
module

public import proofs.«01_k».proof.Defs
public import proofs.«01_k».proof.Proof.Frames
public import proofs.«01_k».proof.Proof.Equation

/-!
# Kernel and reference agree

From memories that hold parts of the same arrays, and under the precondition, the kernel ends on every device with the reference's result.
-/

@[expose] public section

set_option maxRecDepth 16384

noncomputable section

namespace Cert.KProof

open Cert.KernelIdeal Cert.KernelIdeal.Gen
open Idealize.ShloMosaic Idealize.ShloMosaic.TcCoe Idealize.SL.Sem

/-- The reference's argument array `r`. -/
abbrev whole (m' : (ℓ : Loc Cert.ReferenceIdeal.nD Cert.ReferenceIdeal.τ Cert.ReferenceIdeal.sig) → Buf (Elt Ideal) ℓ) (r : Ref Cert.ReferenceIdeal.sig .tc) :=
  m' (((0 : Dev Cert.ReferenceIdeal.nD).tc : Thread Cert.ReferenceIdeal.nD Cert.ReferenceIdeal.τ).loc r)

/-- From agreeing memories, what every device ends with is what the reference ends with. -/
theorem same_result (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_inputs_tame_KernelIdeal (hPre_inputs_tame_KernelIdeal := preFactsK) m)
    (h0 : ∀ c : Dev nD, m ((c.tc : Thread nD τ).loc main_arg0) = whole m' Cert.ReferenceIdeal.main_arg0)
    (h1 : ∀ c : Dev nD, m ((c.tc : Thread nD τ).loc main_arg1) = Layout.blockN ⟨4, ![512, 16, 8, 128]⟩ ⟨4, ![1024, 16, 8, 128]⟩ (Layout.meshBlock [2, 2] ![[1], [], [], []] c) (whole m' Cert.ReferenceIdeal.main_arg1))
    (h2 : ∀ c : Dev nD, m ((c.tc : Thread nD τ).loc main_arg2) = Layout.blockN ⟨4, ![512, 16, 8, 128]⟩ ⟨4, ![1024, 16, 8, 128]⟩ (Layout.meshBlock [2, 2] ![[1], [], [], []] c) (whole m' Cert.ReferenceIdeal.main_arg2))
    (h3 : ∀ c : Dev nD, m ((c.tc : Thread nD τ).loc main_arg3) = whole m' Cert.ReferenceIdeal.main_arg3)
    (h4 : ∀ c : Dev nD, m ((c.tc : Thread nD τ).loc main_arg4) = whole m' Cert.ReferenceIdeal.main_arg4)
    (c : Dev nD) : outV m c = Cert.ReferenceIdeal.Value.res_main_v36 (F := Ideal) m' 0 := by
  have hr := fun c => pre_read _ _ _ _ _ (hpre c)
  have P : Placed m (whole m' Cert.ReferenceIdeal.main_arg0)
      (fun p s h d => (whole m' Cert.ReferenceIdeal.main_arg1 : Cert.ReferenceIdeal.S1024x16x8x128.Idx → EReal) (ix4 p s h d))
      (fun p s h d => (whole m' Cert.ReferenceIdeal.main_arg2 : Cert.ReferenceIdeal.S1024x16x8x128.Idx → EReal) (ix4 p s h d))
      (whole m' Cert.ReferenceIdeal.main_arg3) (whole m' Cert.ReferenceIdeal.main_arg4) :=
    { q := fun c => (V1_of m c main_arg0 (by decide)).trans (h0 c)
      k := fun c r s h d => (congrFun ((V1_of m c main_arg1 (by decide)).trans (h1 c)) (ix4 r s h d)).trans (block_at _ c r s h d)
      v := fun c r s h d => (congrFun ((V1_of m c main_arg2 (by decide)).trans (h2 c)) (ix4 r s h d)).trans (block_at _ c r s h d)
      bt := fun c => (V1_of m c main_arg3 (by decide)).trans (h3 c)
      ln := fun c => (V1_of m c main_arg4 (by decide)).trans (h4 c) }
  have hq : ∀ i, ∃ r : ℝ, (whole m' Cert.ReferenceIdeal.main_arg0 : Cert.ReferenceIdeal.S8x1x8x128.Idx → EReal) i = (r : EReal) := fun i =>
    ((hr 0).1 i).imp fun r e => (congrFun (h0 0) i).symm.trans e
  have hK : ∀ i, ∃ r : ℝ, (whole m' Cert.ReferenceIdeal.main_arg1 : Cert.ReferenceIdeal.S1024x16x8x128.Idx → EReal) i = (r : EReal) := fun i => by
    have hp : (i 0).val < 1024 := (i 0).isLt
    let c : Dev nD := ⟨(i 0).val / 512, by show (i 0).val / 512 < 4; omega⟩
    have hc : c.val = (i 0).val / 512 := rfl
    obtain ⟨r, e⟩ := (hr c).2.1 (ix4 (⟨(i 0).val % 512, by omega⟩ : Fin 512) (i 1) (i 2) (i 3))
    refine ⟨r, Eq.trans (congrArg _ ?_) ((block_at _ c _ _ _ _).symm.trans ((congrFun (h1 c) _).symm.trans e))⟩
    funext a
    match a with
    | ⟨0, _⟩ =>
      refine Fin.ext ?_
      show (i 0).val = 512 * (c.val % 2) + (i 0).val % 512
      omega
    | ⟨1, _⟩ => rfl
    | ⟨2, _⟩ => rfl
    | ⟨3, _⟩ => rfl
  have hb : ∀ (b : Fin 8) (j : Fin 512), (j.val : ℤ) < ((whole m' Cert.ReferenceIdeal.main_arg4 : Cert.ReferenceIdeal.S8.Idx → BitVec 32) (ix1 b)).toInt →
      0 ≤ ((whole m' Cert.ReferenceIdeal.main_arg3 : Cert.ReferenceIdeal.S8x512.Idx → BitVec 32) (ix2 b j)).toInt
        ∧ ((whole m' Cert.ReferenceIdeal.main_arg3 : Cert.ReferenceIdeal.S8x512.Idx → BitVec 32) (ix2 b j)).toInt < 1024 := by
    rw [← h3 0, ← h4 0]; exact (hr 0).2.2.1
  have hl : ∀ b : Fin 8, 1 ≤ ((whole m' Cert.ReferenceIdeal.main_arg4 : Cert.ReferenceIdeal.S8.Idx → BitVec 32) (ix1 b)).toInt := by
    rw [← h4 0]; exact (hr 0).2.2.2
  exact (out_eq m _ _ _ _ _ P hq hK hb hl c).trans (res_layers m' 0).symm

/-- The kernel and the reference end with one result. -/
theorem agree : Cert.algebraic_KernelIdeal_ReferenceIdeal_pre_inputs_tame_KernelIdeal (hKernelIdeal := Cert.KernelIdeal.Gen.facts)
    (hReferenceIdeal := Cert.ReferenceIdeal.Gen.facts) (hPre_inputs_tame_KernelIdeal := preFactsK) := by
  intro m ρ m' ρ' hpre hin
  refine ⟨Cert.ReferenceIdeal.Value.res_main_v36 (F := Ideal) m' 0, ?_, ?_⟩
  · refine (θ_run Cert.KernelIdeal.defs _ _).mono (fun r h c => ?_) (run_main (F := Ideal) m ρ)
    obtain ⟨⟨a0, a1, a2, a3, a4, o⟩, -⟩ := h.1 c
    exact ⟨o.trans (same_result m m' hpre (fun c => (hin c).1) (fun c => (hin c).2.1) (fun c => (hin c).2.2.1) (fun c => (hin c).2.2.2.1) (fun c => (hin c).2.2.2.2) c),
      a0, a1, a2, a3, a4⟩
  · exact (θ_run Cert.ReferenceIdeal.defs _ _).mono (fun r h => h 0) (Cert.ReferenceIdeal.Value.run (F := Ideal) m' ρ')

end Cert.KProof
end
-- ==== Proof.lean ====
module

public import proofs.«01_k».proof.Defs
public import proofs.«01_k».proof.Proof.Frames
public import proofs.«01_k».proof.Proof.Agree

/-!
# The certificate
-/

@[expose] public section

noncomputable section

namespace Cert.Proof

open Idealize.ShloMosaic

/-- The frames, the naming of the constant, and the agreement with the reference. -/
theorem claim : Cert.Claim := ⟨Cert.Kernel.Gen.facts, Cert.KernelIdeal.Gen.facts, Cert.ReferenceIdeal.Gen.facts,
  Cert.KProof.preFactsK, Cert.KProof.preFactsR,
  Cert.KProof.frame_kernel, Cert.KProof.frame_ideal, fun m ρ _ => Cert.KProof.frame_ideal m ρ trivial,
  Cert.KProof.frame_reference, fun m ρ _ => Cert.KProof.frame_reference m ρ trivial,
  IdealRules.named_const.statement Cert.KernelIdeal.κ "inv_sqrt_d" .f32 0x3DB504F3#32 (((Real.sqrt 128)⁻¹ : ℝ) : EReal) rfl,
  Cert.KProof.agree⟩

end Cert.Proof

end
